-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shifts_meet [hPre_shifts_meet : Cert.Pre_shifts_meet.Facts] (m : (ℓ : Loc Cert.KernelIdeal.nD Cert.KernelIdeal.τ Cert.KernelIdeal.sig) → Buf (Elt Ideal) ℓ) : Prop :=
  ∀ c : Dev Cert.KernelIdeal.nD,
    (Cert.Pre_shifts_meet.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_shifts_meet.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_shifts_meet.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shifts_meet [hPre_shifts_meet : Cert.Pre_shifts_meet.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shifts_meet.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_shifts_meet.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_shifts_meet.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_shifts_meet [hKernelIdeal : Cert.KernelIdeal.Facts] [hPre_shifts_meet : Cert.Pre_shifts_meet.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shifts_meet m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_shifts_meet [hReferenceIdeal : Cert.ReferenceIdeal.Facts] [hPre_shifts_meet : Cert.Pre_shifts_meet.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shifts_meet m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_shifts_meet [hKernelIdeal : Cert.KernelIdeal.Facts] [hReferenceIdeal : Cert.ReferenceIdeal.Facts] [hPre_shifts_meet : Cert.Pre_shifts_meet.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shifts_meet m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v82_12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_shifts_meet : Cert.Pre_shifts_meet.Facts),
    quiescent_Kernel (hKernel := hKernel)
    ∧ quiescent_KernelIdeal (hKernelIdeal := hKernelIdeal)
    ∧ quiescent_KernelIdeal_pre_shifts_meet (hKernelIdeal := hKernelIdeal) (hPre_shifts_meet := hPre_shifts_meet)
    ∧ quiescent_ReferenceIdeal (hReferenceIdeal := hReferenceIdeal)
    ∧ quiescent_ReferenceIdeal_pre_shifts_meet (hReferenceIdeal := hReferenceIdeal) (hPre_shifts_meet := hPre_shifts_meet)
    ∧ preserves_Kernel_KernelIdeal
    ∧ algebraic_KernelIdeal_ReferenceIdeal_pre_shifts_meet (hKernelIdeal := hKernelIdeal) (hReferenceIdeal := hReferenceIdeal) (hPre_shifts_meet := hPre_shifts_meet)
-- ==== Pre_shifts_meet.lean ====
abbrev S256x1024x320 : Shape := ⟨3, ![256, 1024, 320]⟩
abbrev S256x192 : Shape := ⟨2, ![256, 192]⟩
abbrev S320x4x192 : Shape := ⟨3, ![320, 4, 192]⟩
abbrev S192x4x192 : Shape := ⟨3, ![192, 4, 192]⟩
abbrev S4x192 : Shape := ⟨2, ![4, 192]⟩
abbrev S_ : Shape := ⟨0, ![]⟩
abbrev S513 : Shape := ⟨1, ![513]⟩

class Facts : Prop where
  bcast_S_S4x192 : S_.BroadcastsInDim S4x192 (![] : Fin 0 → Fin S4x192.rank)

variable [Facts]

def fn {F : FTy → Type} [FloatOps F] (main_arg0 : IVec S256x1024x320 8) (main_arg1 : IVec S256x192 8) (main_arg2 : IVec S256x192 16) (main_arg3 : IVec S320x4x192 8) (main_arg4 : IVec S192x4x192 8) (main_arg5 : IVec S4x192 32) (main_arg6 : IVec S4x192 32) (main_arg7 : IVec S4x192 32) (main_arg8 : IVec S4x192 32) (main_arg9 : IVec S4x192 32) (main_arg10 : IVec S_ 32) (main_arg11 : IVec S_ 32) (main_arg12 : IVec S_ 32) (main_arg13 : IVec S_ 32) (main_arg14 : IVec S513 16) (main_arg15 : IVec S513 16) : IVec S4x192 1 × IVec S4x192 1 × IVec S_ 1 :=
  let main_c : IVec S_ 32 := constantI S_ 32 32#32
  let main_v0 : IVec S4x192 32 := broadcastInDim S4x192 ![] bcast_S_S4x192 main_c
  let main_v1 : IVec S4x192 1 := cmpi .ne main_arg7 main_v0
  let main_c_0 : IVec S_ 32 := constantI S_ 32 32#32
  let main_v2 : IVec S4x192 32 := broadcastInDim S4x192 ![] bcast_S_S4x192 main_c_0
  let main_v3 : IVec S4x192 1 := cmpi .ne main_arg9 main_v2
  let main_c_1 : IVec S_ 32 := constantI S_ 32 32#32
  let main_v4 : IVec S_ 1 := cmpi .ne main_arg13 main_c_1
  (main_v1, main_v3, main_v4)
-- ==== Kernel.lean ====
abbrev S256x1024x320 : Shape := ⟨3, ![256, 1024, 320]⟩
abbrev S256x192 : Shape := ⟨2, ![256, 192]⟩
abbrev S320x4x192 : Shape := ⟨3, ![320, 4, 192]⟩
abbrev S192x4x192 : Shape := ⟨3, ![192, 4, 192]⟩
abbrev S4x192 : Shape := ⟨2, ![4, 192]⟩
abbrev S_ : Shape := ⟨0, ![]⟩
abbrev S513 : Shape := ⟨1, ![513]⟩
abbrev S768x1 : Shape := ⟨2, ![768, 1]⟩
abbrev S768x128 : Shape := ⟨2, ![768, 128]⟩
abbrev S1x4x192 : Shape := ⟨3, ![1, 4, 192]⟩
abbrev S4x4x192 : Shape := ⟨3, ![4, 4, 192]⟩
abbrev S4x768x1 : Shape := ⟨3, ![4, 768, 1]⟩
abbrev S4x768x128 : Shape := ⟨3, ![4, 768, 128]⟩
abbrev S1 : Shape := ⟨1, ![1]⟩
abbrev S4 : Shape := ⟨1, ![4]⟩
abbrev S5 : Shape := ⟨1, ![5]⟩
abbrev S320x768 : Shape := ⟨2, ![320, 768]⟩
abbrev S768x320 : Shape := ⟨2, ![768, 320]⟩
abbrev S192x768 : Shape := ⟨2, ![192, 768]⟩
abbrev S768x192 : Shape := ⟨2, ![768, 192]⟩
abbrev S1024x320x256 : Shape := ⟨3, ![1024, 320, 256]⟩
abbrev S512 : Shape := ⟨1, ![512]⟩
abbrev S4x1x128 : Shape := ⟨3, ![4, 1, 128]⟩
abbrev S4x8x128 : Shape := ⟨3, ![4, 8, 128]⟩
abbrev S32x128 : Shape := ⟨2, ![32, 128]⟩
abbrev S192x256 : Shape := ⟨2, ![192, 256]⟩
abbrev S1024x192x256 : Shape := ⟨3, ![1024, 192, 256]⟩
abbrev S16x320x256 : Shape := ⟨3, ![16, 320, 256]⟩
abbrev S16x192x256 : Shape := ⟨3, ![16, 192, 256]⟩
abbrev S768x256 : Shape := ⟨2, ![768, 256]⟩
abbrev S1x320x256 : Shape := ⟨3, ![1, 320, 256]⟩
abbrev S320x256 : Shape := ⟨2, ![320, 256]⟩
abbrev S8x128 : Shape := ⟨2, ![8, 128]⟩
abbrev S1x8x128 : Shape := ⟨3, ![1, 8, 128]⟩
abbrev S8x128x1 : Shape := ⟨3, ![8, 128, 1]⟩
abbrev S1x192x256 : Shape := ⟨3, ![1, 192, 256]⟩
abbrev S256x1024x192 : Shape := ⟨3, ![256, 1024, 192]⟩

abbrev nBuf : Space → Nat
  | .hbm => 159
  | .vmem => 18
  | .smem => 1
  | _ => 0

abbrev hbmTy0_0 (i : Nat) : BufTy := match i % 128 with
  | 0 => ⟨S256x1024x320, .i8⟩
  | 1 => ⟨S256x192, .i8⟩
  | 2 => ⟨S256x192, .i16⟩
  | 3 => ⟨S320x4x192, .i8⟩
  | 4 => ⟨S192x4x192, .i8⟩
  | 5 => ⟨S4x192, .i32⟩
  | 6 => ⟨S4x192, .i32⟩
  | 7 => ⟨S4x192, .i32⟩
  | 8 => ⟨S4x192, .i32⟩
  | 9 => ⟨S4x192, .i32⟩
  | 10 => ⟨S_, .i32⟩
  | 11 => ⟨S_, .i32⟩
  | 12 => ⟨S_, .i32⟩
  | 13 => ⟨S_, .i32⟩
  | 14 => ⟨S513, .i16⟩
  | 15 => ⟨S513, .i16⟩
  | 16 => ⟨S320x4x192, .i32⟩
  | 17 => ⟨S_, .i32⟩
  | 18 => ⟨S4x192, .i32⟩
  | 19 => ⟨S192x4x192, .i32⟩
  | 20 => ⟨S_, .i32⟩
  | 21 => ⟨S4x192, .i32⟩
  | 22 => ⟨S4x192, .i32⟩
  | 23 => ⟨S4x192, .i32⟩
  | 24 => ⟨S4x192, .i32⟩
  | 25 => ⟨S768x1, .i32⟩
  | 26 => ⟨S768x128, .i32⟩
  | 27 => ⟨S4x192, .i32⟩
  | 28 => ⟨S4x192, .i32⟩
  | 29 => ⟨S768x1, .i32⟩
  | 30 => ⟨S768x128, .i32⟩
  | 31 => ⟨S4x192, .i32⟩
  | 32 => ⟨S_, .i32⟩
  | 33 => ⟨S4x192, .i32⟩
  | 34 => ⟨S4x192, .i32⟩
  | 35 => ⟨S_, .i32⟩
  | 36 => ⟨S4x192, .i32⟩
  | 37 => ⟨S4x192, .i32⟩
  | 38 => ⟨S_, .i32⟩
  | 39 => ⟨S4x192, .i32⟩
  | 40 => ⟨S4x192, .i1⟩
  | 41 => ⟨S_, .i32⟩
  | 42 => ⟨S4x192, .i32⟩
  | 43 => ⟨S4x192, .i32⟩
  | 44 => ⟨S_, .i32⟩
  | 45 => ⟨S4x192, .i32⟩
  | 46 => ⟨S4x192, .i32⟩
  | 47 => ⟨S_, .i32⟩
  | 48 => ⟨S4x192, .i32⟩
  | 49 => ⟨S4x192, .i32⟩
  | 50 => ⟨S_, .i32⟩
  | 51 => ⟨S_, .i32⟩
  | 52 => ⟨S4x192, .i32⟩
  | 53 => ⟨S4x192, .i32⟩
  | 54 => ⟨S1x4x192, .i32⟩
  | 55 => ⟨S1x4x192, .i32⟩
  | 56 => ⟨S1x4x192, .i32⟩
  | 57 => ⟨S1x4x192, .i32⟩
  | 58 => ⟨S4x4x192, .i32⟩
  | 59 => ⟨S4x768x1, .i32⟩
  | 60 => ⟨S4x768x128, .i32⟩
  | 61 => ⟨S4x192, .i32⟩
  | 62 => ⟨S_, .i32⟩
  | 63 => ⟨S4x192, .i32⟩
  | 64 => ⟨S4x192, .i32⟩
  | 65 => ⟨S_, .i32⟩
  | 66 => ⟨S4x192, .i32⟩
  | 67 => ⟨S4x192, .i32⟩
  | 68 => ⟨S_, .i32⟩
  | 69 => ⟨S4x192, .i32⟩
  | 70 => ⟨S4x192, .i1⟩
  | 71 => ⟨S_, .i32⟩
  | 72 => ⟨S4x192, .i32⟩
  | 73 => ⟨S4x192, .i32⟩
  | 74 => ⟨S_, .i32⟩
  | 75 => ⟨S4x192, .i32⟩
  | 76 => ⟨S4x192, .i32⟩
  | 77 => ⟨S_, .i32⟩
  | 78 => ⟨S4x192, .i32⟩
  | 79 => ⟨S4x192, .i32⟩
  | 80 => ⟨S_, .i32⟩
  | 81 => ⟨S_, .i32⟩
  | 82 => ⟨S4x192, .i32⟩
  | 83 => ⟨S4x192, .i32⟩
  | 84 => ⟨S1x4x192, .i32⟩
  | 85 => ⟨S1x4x192, .i32⟩
  | 86 => ⟨S1x4x192, .i32⟩
  | 87 => ⟨S1x4x192, .i32⟩
  | 88 => ⟨S4x4x192, .i32⟩
  | 89 => ⟨S4x768x1, .i32⟩
  | 90 => ⟨S4x768x128, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1, .i32⟩
  | 108 => ⟨S1, .i32⟩
  | 109 => ⟨S1, .i32⟩
  | 110 => ⟨S1, .i32⟩
  | 111 => ⟨S4, .i32⟩
  | 112 => ⟨S1, .i32⟩
  | 113 => ⟨S5, .i32⟩
  | 114 => ⟨S320x768, .i8⟩
  | 115 => ⟨S768x320, .i8⟩
  | 116 => ⟨S768x320, .i32⟩
  | 117 => ⟨S768x320, .bf16⟩
  | 118 => ⟨S192x768, .i8⟩
  | 119 => ⟨S768x192, .i8⟩
  | 120 => ⟨S768x192, .i32⟩
  | 121 => ⟨S768x192, .bf16⟩
  | 122 => ⟨S1024x320x256, .i8⟩
  | 123 => ⟨S513, .i32⟩
  | 124 => ⟨S512, .i32⟩
  | 125 => ⟨S_, .i32⟩
  | 126 => ⟨S512, .i32⟩
  | 127 => ⟨S512, .i32⟩
  | _ => ⟨S256x1024x320, .i8⟩

abbrev hbmTy0_1 (i : Nat) : BufTy := match i % 128 with
  | 0 => ⟨S512, .i32⟩
  | 1 => ⟨S_, .i32⟩
  | 2 => ⟨S512, .i32⟩
  | 3 => ⟨S512, .i32⟩
  | 4 => ⟨S512, .i32⟩
  | 5 => ⟨S4x1x128, .i32⟩
  | 6 => ⟨S4x8x128, .i32⟩
  | 7 => ⟨S32x128, .i32⟩
  | 8 => ⟨S513, .i32⟩
  | 9 => ⟨S512, .i32⟩
  | 10 => ⟨S_, .i32⟩
  | 11 => ⟨S512, .i32⟩
  | 12 => ⟨S512, .i32⟩
  | 13 => ⟨S512, .i32⟩
  | 14 => ⟨S_, .i32⟩
  | 15 => ⟨S512, .i32⟩
  | 16 => ⟨S512, .i32⟩
  | 17 => ⟨S512, .i32⟩
  | 18 => ⟨S4x1x128, .i32⟩
  | 19 => ⟨S4x8x128, .i32⟩
  | 20 => ⟨S32x128, .i32⟩
  | 21 => ⟨S192x256, .i8⟩
  | 22 => ⟨S192x256, .i32⟩
  | 23 => ⟨S192x256, .f32⟩
  | 24 => ⟨S192x256, .i16⟩
  | 25 => ⟨S192x256, .i32⟩
  | 26 => ⟨S1024x192x256, .i8⟩
  | 27 => ⟨S192x256, .i32⟩
  | 28 => ⟨S256x1024x192, .i8⟩
  | 29 => ⟨S256x192, .i32⟩
  | 30 => ⟨S256x192, .i16⟩
  | _ => ⟨S256x1024x320, .i8⟩

abbrev hbmTy (i : Nat) : BufTy := match i / 128 with
  | 0 => hbmTy0_0 i
  | 1 => hbmTy0_1 i
  | _ => ⟨S256x1024x320, .i8⟩

abbrev bufTy : (tb : Table) → Fin (tcTables nBuf tb) → BufTy
  | .hbm, ⟨i, _⟩ => hbmTy i
  | .local _ .vmem, ⟨0, _⟩ => ⟨S16x320x256, .i8⟩
  | .local _ .vmem, ⟨1, _⟩ => ⟨S16x320x256, .i8⟩
  | .local _ .vmem, ⟨2, _⟩ => ⟨S768x320, .bf16⟩
  | .local _ .vmem, ⟨3, _⟩ => ⟨S768x192, .bf16⟩
  | .local _ .vmem, ⟨4, _⟩ => ⟨S768x128, .i32⟩
  | .local _ .vmem, ⟨5, _⟩ => ⟨S768x128, .i32⟩
  | .local _ .vmem, ⟨6, _⟩ => ⟨S4x768x128, .i32⟩
  | .local _ .vmem, ⟨7, _⟩ => ⟨S4x768x128, .i32⟩
  | .local _ .vmem, ⟨8, _⟩ => ⟨S32x128, .i32⟩
  | .local _ .vmem, ⟨9, _⟩ => ⟨S32x128, .i32⟩
  | .local _ .vmem, ⟨10, _⟩ => ⟨S192x256, .f32⟩
  | .local _ .vmem, ⟨11, _⟩ => ⟨S192x256, .i32⟩
  | .local _ .vmem, ⟨12, _⟩ => ⟨S16x192x256, .i8⟩
  | .local _ .vmem, ⟨13, _⟩ => ⟨S16x192x256, .i8⟩
  | .local _ .vmem, ⟨14, _⟩ => ⟨S192x256, .i32⟩
  | .local _ .vmem, ⟨15, _⟩ => ⟨S192x256, .f32⟩
  | .local _ .vmem, ⟨16, _⟩ => ⟨S768x256, .f32⟩
  | .local _ .vmem, ⟨17, _⟩ => ⟨S768x256, .f32⟩
  | .local _ .smem, ⟨0, _⟩ => ⟨S5, .i32⟩
  | _, _ => ⟨S256x1024x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_call0_v0 : Ref sig .tc := ⟨.hbm, 51, rfl⟩
abbrev main_call0_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_c_13 : Ref sig .tc := ⟨.hbm, 77, rfl⟩
abbrev main_v45 : Ref sig .tc := ⟨.hbm, 78, rfl⟩
abbrev main_v46 : Ref sig .tc := ⟨.hbm, 79, rfl⟩
abbrev main_c_14 : Ref sig .tc := ⟨.hbm, 80, rfl⟩
abbrev main_call1_v0 : Ref sig .tc := ⟨.hbm, 81, rfl⟩
abbrev main_call1_v1 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_15 : Ref sig .tc := ⟨.hbm, 92, rfl⟩
abbrev main_v56 : Ref sig .tc := ⟨.hbm, 93, rfl⟩
abbrev main_c_16 : Ref sig .tc := ⟨.hbm, 94, rfl⟩
abbrev main_v57 : Ref sig .tc := ⟨.hbm, 95, rfl⟩
abbrev main_c_17 : Ref sig .tc := ⟨.hbm, 96, rfl⟩
abbrev main_v58 : Ref sig .tc := ⟨.hbm, 97, rfl⟩
abbrev main_c_18 : Ref sig .tc := ⟨.hbm, 98, rfl⟩
abbrev main_v59 : Ref sig .tc := ⟨.hbm, 99, rfl⟩
abbrev main_c_19 : Ref sig .tc := ⟨.hbm, 100, rfl⟩
abbrev main_v60 : Ref sig .tc := ⟨.hbm, 101, rfl⟩
abbrev main_c_20 : Ref sig .tc := ⟨.hbm, 102, rfl⟩
abbrev main_v61 : Ref sig .tc := ⟨.hbm, 103, rfl⟩
abbrev main_c_21 : Ref sig .tc := ⟨.hbm, 104, rfl⟩
abbrev main_call2_v0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_22 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_23 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_25 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106_0 : Ref sig .tc := ⟨.hbm, 154, rfl⟩
abbrev main_v106_1 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_off1 (k0_t1 : Fin k0_t1_loop.trips) : Fin 3 → Nat :=
  let c0_i32_1 : BitVec 32 := 0#32
  let c1_i32 : BitVec 32 := 1#32
  let arg18 : BitVec 32 := Scf.iv c0_i32_1 c1_i32 k0_t1
  let v9 : Index := Scalar.indexCast arg18
  let c0_3 : Index := 0#32
  let c0_4 : Index := 0#32
  ![v9.toNat, 0, 0]
@[reducible] def k0_t2_loop : Scf.Loop 32 :=
  let c0_i32_29 : BitVec 32 := 0#32
  let c24_i32 : BitVec 32 := 24#32
  let v44 : BitVec 32 := Scalar.addi c0_i32_29 c24_i32
  let c1_i32_30 : BitVec 32 := 1#32
  ⟨c0_i32_29, v44, c1_i32_30⟩
def k0_mult1 (k0_t2 : Fin k0_t2_loop.trips) : BitVec 32 :=
  let c0_i32_36 : BitVec 32 := 0#32
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  v53
def k0_off2 (k0_t2 : Fin k0_t2_loop.trips) (c0_i32_36 : BitVec 32) : Fin 2 → Nat :=
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v55 : Index := Scalar.indexCast v54
  let c0_37 : Index := 0#32
  ![v55.toNat, 0]
def k0_off3 (k0_t2 : Fin k0_t2_loop.trips) (c0_i32_36 : BitVec 32) : Fin 2 → Nat :=
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v58 : Index := Scalar.indexCast v54
  let c0_38 : Index := 0#32
  ![v58.toNat, 0]
def k0_off4 (k0_t2 : Fin k0_t2_loop.trips) (c0_i32_36 : BitVec 32) : Fin 3 → Nat :=
  let c0_39 : Index := 0#32
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v62 : Index := Scalar.indexCast v54
  let c0_40 : Index := 0#32
  ![0, v62.toNat, 0]
def k0_off5 (k0_t2 : Fin k0_t2_loop.trips) (c0_i32_36 : BitVec 32) : Fin 3 → Nat :=
  let c1_41 : Index := 1#32
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v65 : Index := Scalar.indexCast v54
  let c0_42 : Index := 0#32
  ![1, v65.toNat, 0]
def k0_off6 (k0_t2 : Fin k0_t2_loop.trips) (c0_i32_36 : BitVec 32) : Fin 3 → Nat :=
  let c2_43 : Index := 2#32
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v68 : Index := Scalar.indexCast v54
  let c0_44 : Index := 0#32
  ![2, v68.toNat, 0]
def k0_off7 (k0_t2 : Fin k0_t2_loop.trips) (c0_i32_36 : BitVec 32) : Fin 3 → Nat :=
  let c3_45 : Index := 3#32
  let c0_i32_29 : BitVec 32 := 0#32
  let c1_i32_30 : BitVec 32 := 1#32
  let arg19 : BitVec 32 := Scf.iv c0_i32_29 c1_i32_30 k0_t2
  let c8_i32 : BitVec 32 := 8#32
  let v52 : BitVec 32 := Scalar.muli arg19 c8_i32
  let v53 : BitVec 32 := Scalar.addi c0_i32_36 v52
  let v54 : BitVec 32 := v53
  let v71 : Index := Scalar.indexCast v54
  let c0_46 : Index := 0#32
  ![3, v71.toNat, 0]
def k0_mult2 (k0_t2 : Fin k0_t2_loop.trips) : BitVec 32 :=
  let c192_i32 : BitVec 32 := 192#32
  let c0_i32_29 : BitVec 32 := 0#32
  let c1_i32_30 : BitVec 32 := 1#32
  let arg19 : BitVec 32 := Scf.iv c0_i32_29 c1_i32_30 k0_t2
  let c8_i32_79 : BitVec 32 := 8#32
  let v192 : BitVec 32 := Scalar.muli arg19 c8_i32_79
  let v193 : BitVec 32 := Scalar.addi c192_i32 v192
  v193
def k0_mult3 (k0_t2 : Fin k0_t2_loop.trips) : BitVec 32 :=
  let c384_i32 : BitVec 32 := 384#32
  let c0_i32_29 : BitVec 32 := 0#32
  let c1_i32_30 : BitVec 32 := 1#32
  let arg19 : BitVec 32 := Scf.iv c0_i32_29 c1_i32_30 k0_t2
  let c8_i32_131 : BitVec 32 := 8#32
  let v332 : BitVec 32 := Scalar.muli arg19 c8_i32_131
  let v333 : BitVec 32 := Scalar.addi c384_i32 v332
  v333
def k0_mult4 (k0_t2 : Fin k0_t2_loop.trips) : BitVec 32 :=
  let c576_i32 : BitVec 32 := 576#32
  let c0_i32_29 : BitVec 32 := 0#32
  let c1_i32_30 : BitVec 32 := 1#32
  let arg19 : BitVec 32 := Scf.iv c0_i32_29 c1_i32_30 k0_t2
  let c8_i32_183 : BitVec 32 := 8#32
  let v472 : BitVec 32 := Scalar.muli arg19 c8_i32_183
  let v473 : BitVec 32 := Scalar.addi c576_i32 v472
  v473
def k0_mult5 (k0_t2 : Fin k0_t2_loop.trips) : BitVec 32 :=
  let c0_i32_29 : BitVec 32 := 0#32
  let c1_i32_30 : BitVec 32 := 1#32
  let arg19 : BitVec 32 := Scf.iv c0_i32_29 c1_i32_30 k0_t2
  let c8_i32_235 : BitVec 32 := 8#32
  let v612 : BitVec 32 := Scalar.muli arg19 c8_i32_235
  v612
def k0_off8 (k0_t2 : Fin k0_t2_loop.trips) : Fin 2 → Nat :=
  let c0_i32_29 : BitVec 32 := 0#32
  let c1_i32_30 : BitVec 32 := 1#32
  let arg19 : BitVec 32 := Scf.iv c0_i32_29 c1_i32_30 k0_t2
  let c8_i32_235 : BitVec 32 := 8#32
  let v612 : BitVec 32 := Scalar.muli arg19 c8_i32_235
  let v613 : BitVec 32 := v612
  let v614 : Index := Scalar.indexCast v613
  let c0_236 : Index := 0#32
  ![v614.toNat, 0]
def k0_mult6 (k0_t2 : Fin k0_t2_loop.trips) : BitVec 32 :=
  let c0_i32_267 : BitVec 32 := 0#32
  let c0_i32_29 : BitVec 32 := 0#32
  let c1_i32_30 : BitVec 32 := 1#32
  let arg19 : BitVec 32 := Scf.iv c0_i32_29 c1_i32_30 k0_t2
  let c8_i32_266 : BitVec 32 := 8#32
  let v724 : BitVec 32 := Scalar.muli arg19 c8_i32_266
  let v725 : BitVec 32 := Scalar.addi c0_i32_267 v724
  v725
def k0_off9 (k0_t2 : Fin k0_t2_loop.trips) (c0_i32_267 : BitVec 32) : Fin 2 → Nat :=
  let c0_i32_29 : BitVec 32 := 0#32
  let c1_i32_30 : BitVec 32 := 1#32
  let arg19 : BitVec 32 := Scf.iv c0_i32_29 c1_i32_30 k0_t2
  let c8_i32_266 : BitVec 32 := 8#32
  let v724 : BitVec 32 := Scalar.muli arg19 c8_i32_266
  let v725 : BitVec 32 := Scalar.addi c0_i32_267 v724
  let v726 : BitVec 32 := v725
  let v727 : Index := Scalar.indexCast v726
  let c128 : Index := 128#32
  ![v727.toNat, 128]
def k0_mult7 (k0_t2 : Fin k0_t2_loop.trips) : BitVec 32 :=
  let c192_i32_319 : BitVec 32 := 192#32
  let c0_i32_29 : BitVec 32 := 0#32
  let c1_i32_30 : BitVec 32 := 1#32
  let arg19 : BitVec 32 := Scf.iv c0_i32_29 c1_i32_30 k0_t2
  let c8_i32_318 : BitVec 32 := 8#32
  let v864 : BitVec 32 := Scalar.muli arg19 c8_i32_318
  let v865 : BitVec 32 := Scalar.addi c192_i32_319 v864
  v865
def k0_mult8 (k0_t2 : Fin k0_t2_loop.trips) : BitVec 32 :=
  let c384_i32_372 : BitVec 32 := 384#32
  let c0_i32_29 : BitVec 32 := 0#32
  let c1_i32_30 : BitVec 32 := 1#32
  let arg19 : BitVec 32 := Scf.iv c0_i32_29 c1_i32_30 k0_t2
  let c8_i32_371 : BitVec 32 := 8#32
  let v1004 : BitVec 32 := Scalar.muli arg19 c8_i32_371
  let v1005 : BitVec 32 := Scalar.addi c384_i32_372 v1004
  v1005
def k0_mult9 (k0_t2 : Fin k0_t2_loop.trips) : BitVec 32 :=
  let c576_i32_425 : BitVec 32 := 576#32
  let c0_i32_29 : BitVec 32 := 0#32
  let c1_i32_30 : BitVec 32 := 1#32
  let arg19 : BitVec 32 := Scf.iv c0_i32_29 c1_i32_30 k0_t2
  let c8_i32_424 : BitVec 32 := 8#32
  let v1144 : BitVec 32 := Scalar.muli arg19 c8_i32_424
  let v1145 : BitVec 32 := Scalar.addi c576_i32_425 v1144
  v1145
def k0_mult10 (k0_t2 : Fin k0_t2_loop.trips) : BitVec 32 :=
  let c0_i32_29 : BitVec 32 := 0#32
  let c1_i32_30 : BitVec 32 := 1#32
  let arg19 : BitVec 32 := Scf.iv c0_i32_29 c1_i32_30 k0_t2
  let c8_i32_477 : BitVec 32 := 8#32
  let v1284 : BitVec 32 := Scalar.muli arg19 c8_i32_477
  v1284
def k0_off10 (k0_t2 : Fin k0_t2_loop.trips) : Fin 2 → Nat :=
  let c0_i32_29 : BitVec 32 := 0#32
  let c1_i32_30 : BitVec 32 := 1#32
  let arg19 : BitVec 32 := Scf.iv c0_i32_29 c1_i32_30 k0_t2
  let c8_i32_477 : BitVec 32 := 8#32
  let v1284 : BitVec 32 := Scalar.muli arg19 c8_i32_477
  let v1285 : BitVec 32 := v1284
  let v1286 : Index := Scalar.indexCast v1285
  let c128_478 : Index := 128#32
  ![v1286.toNat, 128]
def k0_off11 (k0_t1 : Fin k0_t1_loop.trips) : Fin 3 → Nat :=
  let c0_i32_1 : BitVec 32 := 0#32
  let c1_i32 : BitVec 32 := 1#32
  let arg18 : BitVec 32 := Scf.iv c0_i32_1 c1_i32 k0_t1
  let v48 : Index := Scalar.indexCast arg18
  let c0_34 : Index := 0#32
  let c0_35 : Index := 0#32
  ![v48.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x320x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x192x256 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S192x256 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S256x1024x320 : Shape := ⟨3, ![256, 1024, 320]⟩
abbrev S256x192 : Shape := ⟨2, ![256, 192]⟩
abbrev S320x4x192 : Shape := ⟨3, ![320, 4, 192]⟩
abbrev S192x4x192 : Shape := ⟨3, ![192, 4, 192]⟩
abbrev S4x192 : Shape := ⟨2, ![4, 192]⟩
abbrev S_ : Shape := ⟨0, ![]⟩
abbrev S513 : Shape := ⟨1, ![513]⟩
abbrev S1024x256x320 : Shape := ⟨3, ![1024, 256, 320]⟩
abbrev S1024x256x320x1x1 : Shape := ⟨5, ![1024, 256, 320, 1, 1]⟩
abbrev S1x1x320x4x192 : Shape := ⟨5, ![1, 1, 320, 4, 192]⟩
abbrev S1024x256x320x4x192 : Shape := ⟨5, ![1024, 256, 320, 4, 192]⟩
abbrev S1024x256x4x192 : Shape := ⟨4, ![1024, 256, 4, 192]⟩
abbrev S1x1x4x192 : Shape := ⟨4, ![1, 1, 4, 192]⟩
abbrev S512 : Shape := ⟨1, ![512]⟩
abbrev S512x1 : Shape := ⟨2, ![512, 1]⟩
abbrev S512x2 : Shape := ⟨2, ![512, 2]⟩
abbrev S1024x256x192 : Shape := ⟨3, ![1024, 256, 192]⟩
abbrev S1x256x4x192 : Shape := ⟨4, ![1, 256, 4, 192]⟩
abbrev S256x4x192 : Shape := ⟨3, ![256, 4, 192]⟩
abbrev S256x192x1x1 : Shape := ⟨4, ![256, 192, 1, 1]⟩
abbrev S1x192x4x192 : Shape := ⟨4, ![1, 192, 4, 192]⟩
abbrev S256x192x4x192 : Shape := ⟨4, ![256, 192, 4, 192]⟩
abbrev S1x4x192 : Shape := ⟨3, ![1, 4, 192]⟩
abbrev S256x1x192 : Shape := ⟨3, ![256, 1, 192]⟩
abbrev S256x192x1 : Shape := ⟨3, ![256, 192, 1]⟩
abbrev S256x192x2 : Shape := ⟨3, ![256, 192, 2]⟩
abbrev S1x256x192 : Shape := ⟨3, ![1, 256, 192]⟩
abbrev S256x1024x192 : Shape := ⟨3, ![256, 1024, 192]⟩

abbrev nBuf : Space → Nat
  | .hbm => 527
  | .vmem => 0
  | .smem => 0
  | _ => 0

abbrev hbmTy0_0 (i : Nat) : BufTy := match i % 128 with
  | 0 => ⟨S256x1024x320, .i8⟩
  | 1 => ⟨S256x192, .i8⟩
  | 2 => ⟨S256x192, .i16⟩
  | 3 => ⟨S320x4x192, .i8⟩
  | 4 => ⟨S192x4x192, .i8⟩
  | 5 => ⟨S4x192, .i32⟩
  | 6 => ⟨S4x192, .i32⟩
  | 7 => ⟨S4x192, .i32⟩
  | 8 => ⟨S4x192, .i32⟩
  | 9 => ⟨S4x192, .i32⟩
  | 10 => ⟨S_, .i32⟩
  | 11 => ⟨S_, .i32⟩
  | 12 => ⟨S_, .i32⟩
  | 13 => ⟨S_, .i32⟩
  | 14 => ⟨S513, .i16⟩
  | 15 => ⟨S513, .i16⟩
  | 16 => ⟨S320x4x192, .i32⟩
  | 17 => ⟨S_, .i32⟩
  | 18 => ⟨S4x192, .i32⟩
  | 19 => ⟨S192x4x192, .i32⟩
  | 20 => ⟨S_, .i32⟩
  | 21 => ⟨S4x192, .i32⟩
  | 22 => ⟨S1024x256x320, .i8⟩
  | 23 => ⟨S1024x256x320, .i32⟩
  | 24 => ⟨S1024x256x320x1x1, .i32⟩
  | 25 => ⟨S320x4x192, .i32⟩
  | 26 => ⟨S1x1x320x4x192, .i32⟩
  | 27 => ⟨S1024x256x320x4x192, .i32⟩
  | 28 => ⟨S1024x256x320x4x192, .i32⟩
  | 29 => ⟨S1024x256x320x4x192, .i32⟩
  | 30 => ⟨S_, .i32⟩
  | 31 => ⟨S1024x256x4x192, .i32⟩
  | 32 => ⟨S4x192, .i32⟩
  | 33 => ⟨S4x192, .i32⟩
  | 34 => ⟨S4x192, .i32⟩
  | 35 => ⟨S1x1x4x192, .i32⟩
  | 36 => ⟨S1024x256x4x192, .i32⟩
  | 37 => ⟨S1024x256x4x192, .i32⟩
  | 38 => ⟨S4x192, .i32⟩
  | 39 => ⟨S_, .i32⟩
  | 40 => ⟨S4x192, .i32⟩
  | 41 => ⟨S4x192, .i32⟩
  | 42 => ⟨S_, .i32⟩
  | 43 => ⟨S4x192, .i32⟩
  | 44 => ⟨S4x192, .i32⟩
  | 45 => ⟨S1024x256x4x192, .i32⟩
  | 46 => ⟨S1x1x4x192, .i32⟩
  | 47 => ⟨S1024x256x4x192, .i32⟩
  | 48 => ⟨S1024x256x4x192, .i32⟩
  | 49 => ⟨S_, .i32⟩
  | 50 => ⟨S1024x256x4x192, .i32⟩
  | 51 => ⟨S1024x256x4x192, .i32⟩
  | 52 => ⟨S_, .i32⟩
  | 53 => ⟨S1024x256x4x192, .i32⟩
  | 54 => ⟨S1024x256x4x192, .i32⟩
  | 55 => ⟨S1x1x4x192, .i32⟩
  | 56 => ⟨S1024x256x4x192, .i32⟩
  | 57 => ⟨S1024x256x4x192, .i32⟩
  | 58 => ⟨S1x1x4x192, .i32⟩
  | 59 => ⟨S1024x256x4x192, .i32⟩
  | 60 => ⟨S1024x256x4x192, .i32⟩
  | 61 => ⟨S_, .i32⟩
  | 62 => ⟨S4x192, .i32⟩
  | 63 => ⟨S4x192, .i1⟩
  | 64 => ⟨S_, .i32⟩
  | 65 => ⟨S_, .i32⟩
  | 66 => ⟨S4x192, .i32⟩
  | 67 => ⟨S4x192, .i32⟩
  | 68 => ⟨S4x192, .i32⟩
  | 69 => ⟨S4x192, .i32⟩
  | 70 => ⟨S1x1x4x192, .i32⟩
  | 71 => ⟨S1024x256x4x192, .i32⟩
  | 72 => ⟨S1024x256x4x192, .i32⟩
  | 73 => ⟨S_, .i32⟩
  | 74 => ⟨S1024x256x4x192, .i32⟩
  | 75 => ⟨S1024x256x4x192, .i32⟩
  | 76 => ⟨S1024x256x4x192, .i32⟩
  | 77 => ⟨S_, .i32⟩
  | 78 => ⟨S4x192, .i32⟩
  | 79 => ⟨S4x192, .i1⟩
  | 80 => ⟨S_, .i32⟩
  | 81 => ⟨S4x192, .i32⟩
  | 82 => ⟨S4x192, .i32⟩
  | 83 => ⟨S_, .i32⟩
  | 84 => ⟨S4x192, .i32⟩
  | 85 => ⟨S4x192, .i32⟩
  | 86 => ⟨S_, .i32⟩
  | 87 => ⟨S4x192, .i32⟩
  | 88 => ⟨S4x192, .i32⟩
  | 89 => ⟨S_, .i32⟩
  | 90 => ⟨S_, .i32⟩
  | 91 => ⟨S4x192, .i32⟩
  | 92 => ⟨S4x192, .i32⟩
  | 93 => ⟨S1x1x4x192, .i32⟩
  | 94 => ⟨S1024x256x4x192, .i32⟩
  | 95 => ⟨S1024x256x4x192, .i32⟩
  | 96 => ⟨S1x1x4x192, .i32⟩
  | 97 => ⟨S1024x256x4x192, .i32⟩
  | 98 => ⟨S1024x256x4x192, .i32⟩
  | 99 => ⟨S1024x256x4x192, .i32⟩
  | 100 => ⟨S1024x256x4x192, .i32⟩
  | 101 => ⟨S_, .i32⟩
  | 102 => ⟨S_, .i32⟩
  | 103 => ⟨S_, .i32⟩
  | 104 => ⟨S1024x256x4x192, .i32⟩
  | 105 => ⟨S1024x256x4x192, .i32⟩
  | 106 => ⟨S_, .i32⟩
  | 107 => ⟨S1024x256x4x192, .i32⟩
  | 108 => ⟨S1024x256x4x192, .i32⟩
  | 109 => ⟨S1024x256x4x192, .i16⟩
  | 110 => ⟨S513, .i32⟩
  | 111 => ⟨S512, .i32⟩
  | 112 => ⟨S512, .i32⟩
  | 113 => ⟨S512x1, .i32⟩
  | 114 => ⟨S512x1, .i32⟩
  | 115 => ⟨S512x2, .i32⟩
  | 116 => ⟨S513, .i32⟩
  | 117 => ⟨S512, .i32⟩
  | 118 => ⟨S512, .i32⟩
  | 119 => ⟨S512x1, .i32⟩
  | 120 => ⟨S512x1, .i32⟩
  | 121 => ⟨S512x2, .i32⟩
  | 122 => ⟨S4x192, .i32⟩
  | 123 => ⟨S4x192, .i32⟩
  | 124 => ⟨S_, .i8⟩
  | 125 => ⟨S1024x256x192, .i8⟩
  | 126 => ⟨S_, .i32⟩
  | 127 => ⟨S1024x256x4x192, .i16⟩
  | _ => ⟨S256x1024x320, .i8⟩

abbrev hbmTy0_1 (i : Nat) : BufTy := match i % 128 with
  | 0 => ⟨S192x4x192, .i8⟩
  | 1 => ⟨S4x192, .i32⟩
  | 2 => ⟨S4x192, .i32⟩
  | 3 => ⟨S4x192, .i32⟩
  | 4 => ⟨S512x2, .i32⟩
  | 5 => ⟨S512x2, .i32⟩
  | 6 => ⟨S_, .i32⟩
  | 7 => ⟨S_, .i32⟩
  | 8 => ⟨S_, .i32⟩
  | 9 => ⟨S_, .i32⟩
  | 10 => ⟨S256x192, .i8⟩
  | 11 => ⟨S256x192, .i16⟩
  | 12 => ⟨S1024x256x192, .i8⟩
  | 13 => ⟨S_, .i32⟩
  | 14 => ⟨S_, .i1⟩
  | 15 => ⟨S_, .i32⟩
  | 16 => ⟨S_, .i32⟩
  | 17 => ⟨S_, .i32⟩
  | 18 => ⟨S1x256x4x192, .i16⟩
  | 19 => ⟨S256x4x192, .i16⟩
  | 20 => ⟨S256x192, .i32⟩
  | 21 => ⟨S256x192x1x1, .i32⟩
  | 22 => ⟨S192x4x192, .i32⟩
  | 23 => ⟨S1x192x4x192, .i32⟩
  | 24 => ⟨S256x192x4x192, .i32⟩
  | 25 => ⟨S256x192x4x192, .i32⟩
  | 26 => ⟨S256x192x4x192, .i32⟩
  | 27 => ⟨S_, .i32⟩
  | 28 => ⟨S256x4x192, .i32⟩
  | 29 => ⟨S1x4x192, .i32⟩
  | 30 => ⟨S256x4x192, .i32⟩
  | 31 => ⟨S256x4x192, .i32⟩
  | 32 => ⟨S4x192, .i32⟩
  | 33 => ⟨S_, .i32⟩
  | 34 => ⟨S4x192, .i32⟩
  | 35 => ⟨S4x192, .i32⟩
  | 36 => ⟨S_, .i32⟩
  | 37 => ⟨S4x192, .i32⟩
  | 38 => ⟨S4x192, .i32⟩
  | 39 => ⟨S256x4x192, .i32⟩
  | 40 => ⟨S1x4x192, .i32⟩
  | 41 => ⟨S256x4x192, .i32⟩
  | 42 => ⟨S256x4x192, .i32⟩
  | 43 => ⟨S_, .i32⟩
  | 44 => ⟨S256x4x192, .i32⟩
  | 45 => ⟨S256x4x192, .i32⟩
  | 46 => ⟨S_, .i32⟩
  | 47 => ⟨S256x4x192, .i32⟩
  | 48 => ⟨S256x4x192, .i32⟩
  | 49 => ⟨S1x4x192, .i32⟩
  | 50 => ⟨S256x4x192, .i32⟩
  | 51 => ⟨S256x4x192, .i32⟩
  | 52 => ⟨S1x4x192, .i32⟩
  | 53 => ⟨S256x4x192, .i32⟩
  | 54 => ⟨S256x4x192, .i32⟩
  | 55 => ⟨S_, .i32⟩
  | 56 => ⟨S4x192, .i32⟩
  | 57 => ⟨S4x192, .i1⟩
  | 58 => ⟨S_, .i32⟩
  | 59 => ⟨S_, .i32⟩
  | 60 => ⟨S4x192, .i32⟩
  | 61 => ⟨S4x192, .i32⟩
  | 62 => ⟨S4x192, .i32⟩
  | 63 => ⟨S4x192, .i32⟩
  | 64 => ⟨S1x4x192, .i32⟩
  | 65 => ⟨S256x4x192, .i32⟩
  | 66 => ⟨S256x4x192, .i32⟩
  | 67 => ⟨S_, .i32⟩
  | 68 => ⟨S256x4x192, .i32⟩
  | 69 => ⟨S256x4x192, .i32⟩
  | 70 => ⟨S256x4x192, .i32⟩
  | 71 => ⟨S_, .i32⟩
  | 72 => ⟨S4x192, .i32⟩
  | 73 => ⟨S4x192, .i1⟩
  | 74 => ⟨S_, .i32⟩
  | 75 => ⟨S4x192, .i32⟩
  | 76 => ⟨S4x192, .i32⟩
  | 77 => ⟨S_, .i32⟩
  | 78 => ⟨S4x192, .i32⟩
  | 79 => ⟨S4x192, .i32⟩
  | 80 => ⟨S_, .i32⟩
  | 81 => ⟨S4x192, .i32⟩
  | 82 => ⟨S4x192, .i32⟩
  | 83 => ⟨S_, .i32⟩
  | 84 => ⟨S_, .i32⟩
  | 85 => ⟨S4x192, .i32⟩
  | 86 => ⟨S4x192, .i32⟩
  | 87 => ⟨S1x4x192, .i32⟩
  | 88 => ⟨S256x4x192, .i32⟩
  | 89 => ⟨S256x4x192, .i32⟩
  | 90 => ⟨S1x4x192, .i32⟩
  | 91 => ⟨S256x4x192, .i32⟩
  | 92 => ⟨S256x4x192, .i32⟩
  | 93 => ⟨S256x4x192, .i32⟩
  | 94 => ⟨S256x4x192, .i32⟩
  | 95 => ⟨S_, .i32⟩
  | 96 => ⟨S_, .i32⟩
  | 97 => ⟨S_, .i32⟩
  | 98 => ⟨S256x4x192, .i32⟩
  | 99 => ⟨S256x4x192, .i32⟩
  | 100 => ⟨S_, .i32⟩
  | 101 => ⟨S256x4x192, .i32⟩
  | 102 => ⟨S256x4x192, .i32⟩
  | 103 => ⟨S256x4x192, .i32⟩
  | 104 => ⟨S256x4x192, .i32⟩
  | 105 => ⟨S_, .i32⟩
  | 106 => ⟨S_, .i32⟩
  | 107 => ⟨S_, .i32⟩
  | 108 => ⟨S256x4x192, .i32⟩
  | 109 => ⟨S256x4x192, .i32⟩
  | 110 => ⟨S_, .i32⟩
  | 111 => ⟨S256x4x192, .i32⟩
  | 112 => ⟨S256x4x192, .i32⟩
  | 113 => ⟨S256x1x192, .i32⟩
  | 114 => ⟨S256x192, .i32⟩
  | 115 => ⟨S_, .i32⟩
  | 116 => ⟨S256x192, .i32⟩
  | 117 => ⟨S256x192, .i32⟩
  | 118 => ⟨S_, .i32⟩
  | 119 => ⟨S256x192, .i32⟩
  | 120 => ⟨S256x192, .i32⟩
  | 121 => ⟨S_, .i32⟩
  | 122 => ⟨S256x192, .i32⟩
  | 123 => ⟨S256x192, .i32⟩
  | 124 => ⟨S_, .i32⟩
  | 125 => ⟨S256x192, .i32⟩
  | 126 => ⟨S256x192, .i1⟩
  | 127 => ⟨S_, .i32⟩
  | _ => ⟨S256x1024x320, .i8⟩

abbrev hbmTy0_2 (i : Nat) : BufTy := match i % 128 with
  | 0 => ⟨S256x192, .i32⟩
  | 1 => ⟨S256x192, .i32⟩
  | 2 => ⟨S256x192, .i32⟩
  | 3 => ⟨S256x192x1, .i32⟩
  | 4 => ⟨S256x192x2, .i32⟩
  | 5 => ⟨S256x192x1, .i32⟩
  | 6 => ⟨S256x192, .i32⟩
  | 7 => ⟨S256x192x1, .i32⟩
  | 8 => ⟨S256x192, .i32⟩
  | 9 => ⟨S256x192, .i32⟩
  | 10 => ⟨S256x192, .i32⟩
  | 11 => ⟨S_, .i32⟩
  | 12 => ⟨S256x192, .i32⟩
  | 13 => ⟨S256x192, .i32⟩
  | 14 => ⟨S_, .i32⟩
  | 15 => ⟨S256x192, .i32⟩
  | 16 => ⟨S256x192, .i32⟩
  | 17 => ⟨S256x192, .i32⟩
  | 18 => ⟨S256x192, .i16⟩
  | 19 => ⟨S256x192, .i32⟩
  | 20 => ⟨S256x1x192, .i32⟩
  | 21 => ⟨S256x192, .i32⟩
  | 22 => ⟨S_, .i32⟩
  | 23 => ⟨S256x192, .i32⟩
  | 24 => ⟨S256x192, .i32⟩
  | 25 => ⟨S_, .i32⟩
  | 26 => ⟨S256x192, .i32⟩
  | 27 => ⟨S256x192, .i32⟩
  | 28 => ⟨S_, .i32⟩
  | 29 => ⟨S256x192, .i32⟩
  | 30 => ⟨S256x192, .i32⟩
  | 31 => ⟨S_, .i32⟩
  | 32 => ⟨S256x192, .i32⟩
  | 33 => ⟨S256x192, .i1⟩
  | 34 => ⟨S_, .i32⟩
  | 35 => ⟨S256x192, .i32⟩
  | 36 => ⟨S256x192, .i32⟩
  | 37 => ⟨S256x192, .i32⟩
  | 38 => ⟨S256x192x1, .i32⟩
  | 39 => ⟨S256x192x2, .i32⟩
  | 40 => ⟨S256x192x1, .i32⟩
  | 41 => ⟨S256x192, .i32⟩
  | 42 => ⟨S256x192x1, .i32⟩
  | 43 => ⟨S256x192, .i32⟩
  | 44 => ⟨S256x192, .i32⟩
  | 45 => ⟨S256x192, .i32⟩
  | 46 => ⟨S_, .i32⟩
  | 47 => ⟨S256x192, .i32⟩
  | 48 => ⟨S256x192, .i32⟩
  | 49 => ⟨S_, .i32⟩
  | 50 => ⟨S256x192, .i32⟩
  | 51 => ⟨S256x192, .i32⟩
  | 52 => ⟨S256x192, .i32⟩
  | 53 => ⟨S256x192, .i16⟩
  | 54 => ⟨S256x192, .i32⟩
  | 55 => ⟨S256x1x192, .i32⟩
  | 56 => ⟨S256x192, .i32⟩
  | 57 => ⟨S_, .i32⟩
  | 58 => ⟨S256x192, .i32⟩
  | 59 => ⟨S256x192, .i32⟩
  | 60 => ⟨S_, .i32⟩
  | 61 => ⟨S256x192, .i32⟩
  | 62 => ⟨S256x192, .i32⟩
  | 63 => ⟨S_, .i32⟩
  | 64 => ⟨S256x192, .i32⟩
  | 65 => ⟨S256x192, .i32⟩
  | 66 => ⟨S_, .i32⟩
  | 67 => ⟨S256x192, .i32⟩
  | 68 => ⟨S256x192, .i1⟩
  | 69 => ⟨S_, .i32⟩
  | 70 => ⟨S256x192, .i32⟩
  | 71 => ⟨S256x192, .i32⟩
  | 72 => ⟨S256x192, .i32⟩
  | 73 => ⟨S256x192x1, .i32⟩
  | 74 => ⟨S256x192x2, .i32⟩
  | 75 => ⟨S256x192x1, .i32⟩
  | 76 => ⟨S256x192, .i32⟩
  | 77 => ⟨S256x192x1, .i32⟩
  | 78 => ⟨S256x192, .i32⟩
  | 79 => ⟨S256x192, .i32⟩
  | 80 => ⟨S256x192, .i32⟩
  | 81 => ⟨S_, .i32⟩
  | 82 => ⟨S256x192, .i32⟩
  | 83 => ⟨S256x192, .i32⟩
  | 84 => ⟨S_, .i32⟩
  | 85 => ⟨S256x192, .i32⟩
  | 86 => ⟨S256x192, .i32⟩
  | 87 => ⟨S256x192, .i32⟩
  | 88 => ⟨S256x192, .i16⟩
  | 89 => ⟨S256x192, .i32⟩
  | 90 => ⟨S256x1x192, .i32⟩
  | 91 => ⟨S256x192, .i32⟩
  | 92 => ⟨S_, .i32⟩
  | 93 => ⟨S256x192, .i32⟩
  | 94 => ⟨S256x192, .i32⟩
  | 95 => ⟨S_, .i32⟩
  | 96 => ⟨S256x192, .i32⟩
  | 97 => ⟨S256x192, .i32⟩
  | 98 => ⟨S_, .i32⟩
  | 99 => ⟨S256x192, .i32⟩
  | 100 => ⟨S256x192, .i32⟩
  | 101 => ⟨S_, .i32⟩
  | 102 => ⟨S256x192, .i32⟩
  | 103 => ⟨S256x192, .i1⟩
  | 104 => ⟨S_, .i32⟩
  | 105 => ⟨S256x192, .i32⟩
  | 106 => ⟨S256x192, .i32⟩
  | 107 => ⟨S256x192, .i32⟩
  | 108 => ⟨S256x192x1, .i32⟩
  | 109 => ⟨S256x192x2, .i32⟩
  | 110 => ⟨S256x192x1, .i32⟩
  | 111 => ⟨S256x192, .i32⟩
  | 112 => ⟨S256x192x1, .i32⟩
  | 113 => ⟨S256x192, .i32⟩
  | 114 => ⟨S256x192, .i32⟩
  | 115 => ⟨S256x192, .i32⟩
  | 116 => ⟨S_, .i32⟩
  | 117 => ⟨S256x192, .i32⟩
  | 118 => ⟨S256x192, .i32⟩
  | 119 => ⟨S_, .i32⟩
  | 120 => ⟨S256x192, .i32⟩
  | 121 => ⟨S256x192, .i32⟩
  | 122 => ⟨S256x192, .i32⟩
  | 123 => ⟨S256x192, .i16⟩
  | 124 => ⟨S256x192, .i32⟩
  | 125 => ⟨S256x192, .i32⟩
  | 126 => ⟨S256x192, .i32⟩
  | 127 => ⟨S_, .i32⟩
  | _ => ⟨S256x1024x320, .i8⟩

abbrev hbmTy0_3 (i : Nat) : BufTy := match i % 128 with
  | 0 => ⟨S256x192, .i32⟩
  | 1 => ⟨S256x192, .i32⟩
  | 2 => ⟨S_, .i32⟩
  | 3 => ⟨S256x192, .i32⟩
  | 4 => ⟨S256x192, .i1⟩
  | 5 => ⟨S256x192, .i32⟩
  | 6 => ⟨S256x192, .i32⟩
  | 7 => ⟨S_, .i32⟩
  | 8 => ⟨S256x192, .i32⟩
  | 9 => ⟨S256x192, .i32⟩
  | 10 => ⟨S256x192, .i32⟩
  | 11 => ⟨S_, .i32⟩
  | 12 => ⟨S256x192, .i32⟩
  | 13 => ⟨S256x192, .i32⟩
  | 14 => ⟨S_, .i32⟩
  | 15 => ⟨S256x192, .i32⟩
  | 16 => ⟨S256x192, .i1⟩
  | 17 => ⟨S256x192, .i32⟩
  | 18 => ⟨S256x192, .i32⟩
  | 19 => ⟨S_, .i32⟩
  | 20 => ⟨S256x192, .i32⟩
  | 21 => ⟨S256x192, .i32⟩
  | 22 => ⟨S256x192, .i32⟩
  | 23 => ⟨S_, .i32⟩
  | 24 => ⟨S_, .i32⟩
  | 25 => ⟨S_, .i32⟩
  | 26 => ⟨S256x192, .i32⟩
  | 27 => ⟨S256x192, .i32⟩
  | 28 => ⟨S_, .i32⟩
  | 29 => ⟨S256x192, .i32⟩
  | 30 => ⟨S256x192, .i32⟩
  | 31 => ⟨S256x192, .i16⟩
  | 32 => ⟨S256x192, .i32⟩
  | 33 => ⟨S_, .i32⟩
  | 34 => ⟨S256x192, .i32⟩
  | 35 => ⟨S256x192, .i32⟩
  | 36 => ⟨S_, .i32⟩
  | 37 => ⟨S_, .i32⟩
  | 38 => ⟨S_, .i32⟩
  | 39 => ⟨S256x192, .i32⟩
  | 40 => ⟨S256x192, .i32⟩
  | 41 => ⟨S_, .i32⟩
  | 42 => ⟨S256x192, .i32⟩
  | 43 => ⟨S256x192, .i32⟩
  | 44 => ⟨S_, .i32⟩
  | 45 => ⟨S256x192, .i32⟩
  | 46 => ⟨S256x192, .i32⟩
  | 47 => ⟨S_, .i32⟩
  | 48 => ⟨S256x192, .i32⟩
  | 49 => ⟨S256x192, .i32⟩
  | 50 => ⟨S_, .i32⟩
  | 51 => ⟨S256x192, .i32⟩
  | 52 => ⟨S256x192, .i32⟩
  | 53 => ⟨S_, .i32⟩
  | 54 => ⟨S256x192, .i32⟩
  | 55 => ⟨S256x192, .i1⟩
  | 56 => ⟨S_, .i32⟩
  | 57 => ⟨S256x192, .i32⟩
  | 58 => ⟨S256x192, .i32⟩
  | 59 => ⟨S256x192, .i32⟩
  | 60 => ⟨S256x192x1, .i32⟩
  | 61 => ⟨S256x192x2, .i32⟩
  | 62 => ⟨S256x192x1, .i32⟩
  | 63 => ⟨S256x192, .i32⟩
  | 64 => ⟨S256x192x1, .i32⟩
  | 65 => ⟨S256x192, .i32⟩
  | 66 => ⟨S256x192, .i32⟩
  | 67 => ⟨S256x192, .i32⟩
  | 68 => ⟨S_, .i32⟩
  | 69 => ⟨S256x192, .i32⟩
  | 70 => ⟨S256x192, .i32⟩
  | 71 => ⟨S_, .i32⟩
  | 72 => ⟨S256x192, .i32⟩
  | 73 => ⟨S256x192, .i32⟩
  | 74 => ⟨S256x192, .i32⟩
  | 75 => ⟨S256x192, .i16⟩
  | 76 => ⟨S256x192, .i32⟩
  | 77 => ⟨S256x192, .i32⟩
  | 78 => ⟨S_, .i32⟩
  | 79 => ⟨S_, .i32⟩
  | 80 => ⟨S_, .i32⟩
  | 81 => ⟨S_, .i32⟩
  | 82 => ⟨S_, .i32⟩
  | 83 => ⟨S256x192, .i32⟩
  | 84 => ⟨S256x192, .i32⟩
  | 85 => ⟨S256x192, .i32⟩
  | 86 => ⟨S_, .i32⟩
  | 87 => ⟨S256x192, .i32⟩
  | 88 => ⟨S256x192, .i32⟩
  | 89 => ⟨S_, .i32⟩
  | 90 => ⟨S256x192, .i32⟩
  | 91 => ⟨S256x192, .i32⟩
  | 92 => ⟨S256x192, .i32⟩
  | 93 => ⟨S256x192, .i32⟩
  | 94 => ⟨S256x192, .i32⟩
  | 95 => ⟨S256x192, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S256x192, .i32⟩
  | 103 => ⟨S256x192, .i32⟩
  | 104 => ⟨S_, .i32⟩
  | 105 => ⟨S256x192, .i32⟩
  | 106 => ⟨S256x192, .i32⟩
  | 107 => ⟨S256x192, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S256x192, .i32⟩
  | 120 => ⟨S256x192, .i32⟩
  | 121 => ⟨S256x192, .i32⟩
  | 122 => ⟨S256x192, .i32⟩
  | 123 => ⟨S256x192, .i32⟩
  | 124 => ⟨S256x192, .i32⟩
  | 125 => ⟨S256x192, .i32⟩
  | 126 => ⟨S256x192, .i32⟩
  | 127 => ⟨S_, .i32⟩
  | _ => ⟨S256x1024x320, .i8⟩

abbrev hbmTy0_4 (i : Nat) : BufTy := match i % 128 with
  | 0 => ⟨S_, .i32⟩
  | 1 => ⟨S_, .i32⟩
  | 2 => ⟨S256x192, .i32⟩
  | 3 => ⟨S256x192, .i32⟩
  | 4 => ⟨S_, .i32⟩
  | 5 => ⟨S256x192, .i32⟩
  | 6 => ⟨S256x192, .i32⟩
  | 7 => ⟨S256x192, .i8⟩
  | 8 => ⟨S1x256x192, .i8⟩
  | 9 => ⟨S_, .i32⟩
  | 10 => ⟨S_, .i32⟩
  | 11 => ⟨S1024x256x192, .i8⟩
  | 12 => ⟨S_, .i32⟩
  | 13 => ⟨S_, .i32⟩
  | 14 => ⟨S256x1024x192, .i8⟩
  | _ => ⟨S256x1024x320, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x1024x320, .i8⟩

abbrev bufTy : (tb : Table) → Fin (tcTables nBuf tb) → BufTy
  | .hbm, ⟨i, _⟩ => hbmTy i
  | _, _ => ⟨S256x1024x320, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_c_8 : Ref sig .tc := ⟨.hbm, 65, rfl⟩
abbrev main_call0_v0 : Ref sig .tc := ⟨.hbm, 66, rfl⟩
abbrev main_call0_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_c_13 : Ref sig .tc := ⟨.hbm, 86, rfl⟩
abbrev main_v54 : Ref sig .tc := ⟨.hbm, 87, rfl⟩
abbrev main_v55 : Ref sig .tc := ⟨.hbm, 88, rfl⟩
abbrev main_c_14 : Ref sig .tc := ⟨.hbm, 89, rfl⟩
abbrev main_call1_v0 : Ref sig .tc := ⟨.hbm, 90, rfl⟩
abbrev main_call1_v1 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_15 : Ref sig .tc := ⟨.hbm, 101, rfl⟩
abbrev main_c_16 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_17 : Ref sig .tc := ⟨.hbm, 124, rfl⟩
abbrev main_v81 : Ref sig .tc := ⟨.hbm, 125, rfl⟩
abbrev main_c_18 : Ref sig .tc := ⟨.hbm, 126, rfl⟩
abbrev main_v82_0 : Ref sig .tc := ⟨.hbm, 127, rfl⟩
abbrev main_v82_1 : Ref sig .tc := ⟨.hbm, 128, rfl⟩
abbrev main_v82_2 : Ref sig .tc := ⟨.hbm, 129, rfl⟩
abbrev main_v82_3 : Ref sig .tc := ⟨.hbm, 130, rfl⟩
abbrev main_v82_4 : Ref sig .tc := ⟨.hbm, 131, rfl⟩
abbrev main_v82_5 : Ref sig .tc := ⟨.hbm, 132, rfl⟩
abbrev main_v82_6 : Ref sig .tc := ⟨.hbm, 133, rfl⟩
abbrev main_v82_7 : Ref sig .tc := ⟨.hbm, 134, rfl⟩
abbrev main_v82_8 : Ref sig .tc := ⟨.hbm, 135, rfl⟩
abbrev main_v82_9 : Ref sig .tc := ⟨.hbm, 136, rfl⟩
abbrev main_v82_10 : Ref sig .tc := ⟨.hbm, 137, rfl⟩
abbrev main_v82_11 : Ref sig .tc := ⟨.hbm, 138, rfl⟩
abbrev main_v82_12 : Ref sig .tc := ⟨.hbm, 139, rfl⟩
abbrev main_v82_13 : Ref sig .tc := ⟨.hbm, 140, rfl⟩
abbrev main_while0c_c_32 : Ref sig .tc := ⟨.hbm, 141, rfl⟩
abbrev main_while0c_v84 : Ref sig .tc := ⟨.hbm, 142, rfl⟩
abbrev main_while0b_call3_c : Ref sig .tc := ⟨.hbm, 143, rfl⟩
abbrev main_while0b_call3_c_0 : Ref sig .tc := ⟨.hbm, 144, rfl⟩
abbrev main_while0b_call3_c_1 : Ref sig .tc := ⟨.hbm, 145, rfl⟩
abbrev main_while0b_call3_v0 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_v91 : Ref sig .tc := ⟨.hbm, 154, rfl⟩
abbrev main_while0b_c_32 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_c_33 : Ref sig .tc := ⟨.hbm, 161, rfl⟩
abbrev main_while0b_v97 : Ref sig .tc := ⟨.hbm, 162, rfl⟩
abbrev main_while0b_v98 : Ref sig .tc := ⟨.hbm, 163, rfl⟩
abbrev main_while0b_c_34 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_c_35 : Ref sig .tc := ⟨.hbm, 171, rfl⟩
abbrev main_while0b_v105 : Ref sig .tc := ⟨.hbm, 172, rfl⟩
abbrev main_while0b_v106 : Ref sig .tc := ⟨.hbm, 173, rfl⟩
abbrev main_while0b_c_36 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_c_37 : Ref sig .tc := ⟨.hbm, 183, rfl⟩
abbrev main_while0b_v115 : Ref sig .tc := ⟨.hbm, 184, rfl⟩
abbrev main_while0b_v116 : Ref sig .tc := ⟨.hbm, 185, rfl⟩
abbrev main_while0b_c_38 : Ref sig .tc := ⟨.hbm, 186, rfl⟩
abbrev main_while0b_c_39 : Ref sig .tc := ⟨.hbm, 187, rfl⟩
abbrev main_while0b_call4_v0 : Ref sig .tc := ⟨.hbm, 188, rfl⟩
abbrev main_while0b_call4_v1 : Ref sig .tc := ⟨.hbm, 189, rfl⟩
abbrev main_while0b_v117 : Ref sig .tc := ⟨.hbm, 190, rfl⟩
abbrev main_while0b_v118 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_c_40 : Ref sig .tc := ⟨.hbm, 195, rfl⟩
abbrev main_while0b_v122 : Ref sig .tc := ⟨.hbm, 196, rfl⟩
abbrev main_while0b_v123 : Ref sig .tc := ⟨.hbm, 197, rfl⟩
abbrev main_while0b_v124 : Ref sig .tc := ⟨.hbm, 198, rfl⟩
abbrev main_while0b_c_41 : Ref sig .tc := ⟨.hbm, 199, rfl⟩
abbrev main_while0b_v125 : Ref sig .tc := ⟨.hbm, 200, rfl⟩
abbrev main_while0b_v126 : Ref sig .tc := ⟨.hbm, 201, rfl⟩
abbrev main_while0b_c_42 : Ref sig .tc := ⟨.hbm, 202, rfl⟩
abbrev main_while0b_v127 : Ref sig .tc := ⟨.hbm, 203, rfl⟩
abbrev main_while0b_v128 : Ref sig .tc := ⟨.hbm, 204, rfl⟩
abbrev main_while0b_c_43 : Ref sig .tc := ⟨.hbm, 205, rfl⟩
abbrev main_while0b_v129 : Ref sig .tc := ⟨.hbm, 206, rfl⟩
abbrev main_while0b_v130 : Ref sig .tc := ⟨.hbm, 207, rfl⟩
abbrev main_while0b_c_44 : Ref sig .tc := ⟨.hbm, 208, rfl⟩
abbrev main_while0b_v131 : Ref sig .tc := ⟨.hbm, 209, rfl⟩
abbrev main_while0b_v132 : Ref sig .tc := ⟨.hbm, 210, rfl⟩
abbrev main_while0b_c_45 : Ref sig .tc := ⟨.hbm, 211, rfl⟩
abbrev main_while0b_call5_v0 : Ref sig .tc := ⟨.hbm, 212, rfl⟩
abbrev main_while0b_call5_v1 : Ref sig .tc := ⟨.hbm, 213, rfl⟩
abbrev main_while0b_v133 : Ref sig .tc := ⟨.hbm, 214, rfl⟩
abbrev main_while0b_v134 : Ref sig .tc := ⟨.hbm, 215, rfl⟩
abbrev main_while0b_v135 : Ref sig .tc := ⟨.hbm, 216, rfl⟩
abbrev main_while0b_v136 : Ref sig .tc := ⟨.hbm, 217, rfl⟩
abbrev main_while0b_v137 : Ref sig .tc := ⟨.hbm, 218, rfl⟩
abbrev main_while0b_v138 : Ref sig .tc := ⟨.hbm, 219, rfl⟩
abbrev main_while0b_v139 : Ref sig .tc := ⟨.hbm, 220, rfl⟩
abbrev main_while0b_v140 : Ref sig .tc := ⟨.hbm, 221, rfl⟩
abbrev main_while0b_v141 : Ref sig .tc := ⟨.hbm, 222, rfl⟩
abbrev main_while0b_c_46 : Ref sig .tc := ⟨.hbm, 223, rfl⟩
abbrev main_while0b_c_47 : Ref sig .tc := ⟨.hbm, 224, rfl⟩
abbrev main_while0b_call6_v0 : Ref sig .tc := ⟨.hbm, 225, rfl⟩
abbrev main_while0b_call6_v1 : Ref sig .tc := ⟨.hbm, 226, rfl⟩
abbrev main_while0b_call6_v2 : Ref sig .tc := ⟨.hbm, 227, rfl⟩
abbrev main_while0b_call6_v3 : Ref sig .tc := ⟨.hbm, 228, rfl⟩
abbrev main_while0b_call6_v4 : Ref sig .tc := ⟨.hbm, 229, rfl⟩
abbrev main_while0b_v142 : Ref sig .tc := ⟨.hbm, 230, rfl⟩
abbrev main_while0b_v143 : Ref sig .tc := ⟨.hbm, 231, rfl⟩
abbrev main_while0b_v144 : Ref sig .tc := ⟨.hbm, 232, rfl⟩
abbrev main_while0b_c_48 : Ref sig .tc := ⟨.hbm, 233, rfl⟩
abbrev main_while0b_c_49 : Ref sig .tc := ⟨.hbm, 234, rfl⟩
abbrev main_while0b_call7_v0 : Ref sig .tc := ⟨.hbm, 235, rfl⟩
abbrev main_while0b_call7_v1 : Ref sig .tc := ⟨.hbm, 236, rfl⟩
abbrev main_while0b_call7_v2 : Ref sig .tc := ⟨.hbm, 237, rfl⟩
abbrev main_while0b_call7_v3 : Ref sig .tc := ⟨.hbm, 238, rfl⟩
abbrev main_while0b_call7_v4 : Ref sig .tc := ⟨.hbm, 239, rfl⟩
abbrev main_while0b_v145 : Ref sig .tc := ⟨.hbm, 240, rfl⟩
abbrev main_while0b_v146 : Ref sig .tc := ⟨.hbm, 241, rfl⟩
abbrev main_while0b_v147 : Ref sig .tc := ⟨.hbm, 242, rfl⟩
abbrev main_while0b_c_50 : Ref sig .tc := ⟨.hbm, 243, rfl⟩
abbrev main_while0b_v148 : Ref sig .tc := ⟨.hbm, 244, rfl⟩
abbrev main_while0b_v149 : Ref sig .tc := ⟨.hbm, 245, rfl⟩
abbrev main_while0b_c_51 : Ref sig .tc := ⟨.hbm, 246, rfl⟩
abbrev main_while0b_v150 : Ref sig .tc := ⟨.hbm, 247, rfl⟩
abbrev main_while0b_v151 : Ref sig .tc := ⟨.hbm, 248, rfl⟩
abbrev main_while0b_c_52 : Ref sig .tc := ⟨.hbm, 249, rfl⟩
abbrev main_while0b_v152 : Ref sig .tc := ⟨.hbm, 250, rfl⟩
abbrev main_while0b_v153 : Ref sig .tc := ⟨.hbm, 251, rfl⟩
abbrev main_while0b_c_53 : Ref sig .tc := ⟨.hbm, 252, rfl⟩
abbrev main_while0b_v154 : Ref sig .tc := ⟨.hbm, 253, rfl⟩
abbrev main_while0b_v155 : Ref sig .tc := ⟨.hbm, 254, rfl⟩
abbrev main_while0b_c_54 : Ref sig .tc := ⟨.hbm, 255, rfl⟩
abbrev main_while0b_v156 : Ref sig .tc := ⟨.hbm, 256, rfl⟩
abbrev main_while0b_v157 : Ref sig .tc := ⟨.hbm, 257, rfl⟩
abbrev main_while0b_v158 : Ref sig .tc := ⟨.hbm, 258, rfl⟩
abbrev main_while0b_v159 : Ref sig .tc := ⟨.hbm, 259, rfl⟩
abbrev main_while0b_v160 : Ref sig .tc := ⟨.hbm, 260, rfl⟩
abbrev main_while0b_v161 : Ref sig .tc := ⟨.hbm, 261, rfl⟩
abbrev main_while0b_v162 : Ref sig .tc := ⟨.hbm, 262, rfl⟩
abbrev main_while0b_v163 : Ref sig .tc := ⟨.hbm, 263, rfl⟩
abbrev main_while0b_v164 : Ref sig .tc := ⟨.hbm, 264, rfl⟩
abbrev main_while0b_v165 : Ref sig .tc := ⟨.hbm, 265, rfl⟩
abbrev main_while0b_v166 : Ref sig .tc := ⟨.hbm, 266, rfl⟩
abbrev main_while0b_c_55 : Ref sig .tc := ⟨.hbm, 267, rfl⟩
abbrev main_while0b_v167 : Ref sig .tc := ⟨.hbm, 268, rfl⟩
abbrev main_while0b_v168 : Ref sig .tc := ⟨.hbm, 269, rfl⟩
abbrev main_while0b_c_56 : Ref sig .tc := ⟨.hbm, 270, rfl⟩
abbrev main_while0b_v169 : Ref sig .tc := ⟨.hbm, 271, rfl⟩
abbrev main_while0b_v170 : Ref sig .tc := ⟨.hbm, 272, rfl⟩
abbrev main_while0b_v171 : Ref sig .tc := ⟨.hbm, 273, rfl⟩
abbrev main_while0b_v172 : Ref sig .tc := ⟨.hbm, 274, rfl⟩
abbrev main_while0b_v173 : Ref sig .tc := ⟨.hbm, 275, rfl⟩
abbrev main_while0b_v174 : Ref sig .tc := ⟨.hbm, 276, rfl⟩
abbrev main_while0b_v175 : Ref sig .tc := ⟨.hbm, 277, rfl⟩
abbrev main_while0b_c_57 : Ref sig .tc := ⟨.hbm, 278, rfl⟩
abbrev main_while0b_v176 : Ref sig .tc := ⟨.hbm, 279, rfl⟩
abbrev main_while0b_v177 : Ref sig .tc := ⟨.hbm, 280, rfl⟩
abbrev main_while0b_c_58 : Ref sig .tc := ⟨.hbm, 281, rfl⟩
abbrev main_while0b_v178 : Ref sig .tc := ⟨.hbm, 282, rfl⟩
abbrev main_while0b_v179 : Ref sig .tc := ⟨.hbm, 283, rfl⟩
abbrev main_while0b_c_59 : Ref sig .tc := ⟨.hbm, 284, rfl⟩
abbrev main_while0b_v180 : Ref sig .tc := ⟨.hbm, 285, rfl⟩
abbrev main_while0b_v181 : Ref sig .tc := ⟨.hbm, 286, rfl⟩
abbrev main_while0b_c_60 : Ref sig .tc := ⟨.hbm, 287, rfl⟩
abbrev main_while0b_v182 : Ref sig .tc := ⟨.hbm, 288, rfl⟩
abbrev main_while0b_v183 : Ref sig .tc := ⟨.hbm, 289, rfl⟩
abbrev main_while0b_c_61 : Ref sig .tc := ⟨.hbm, 290, rfl⟩
abbrev main_while0b_v184 : Ref sig .tc := ⟨.hbm, 291, rfl⟩
abbrev main_while0b_v185 : Ref sig .tc := ⟨.hbm, 292, rfl⟩
abbrev main_while0b_v186 : Ref sig .tc := ⟨.hbm, 293, rfl⟩
abbrev main_while0b_v187 : Ref sig .tc := ⟨.hbm, 294, rfl⟩
abbrev main_while0b_v188 : Ref sig .tc := ⟨.hbm, 295, rfl⟩
abbrev main_while0b_v189 : Ref sig .tc := ⟨.hbm, 296, rfl⟩
abbrev main_while0b_v190 : Ref sig .tc := ⟨.hbm, 297, rfl⟩
abbrev main_while0b_v191 : Ref sig .tc := ⟨.hbm, 298, rfl⟩
abbrev main_while0b_v192 : Ref sig .tc := ⟨.hbm, 299, rfl⟩
abbrev main_while0b_v193 : Ref sig .tc := ⟨.hbm, 300, rfl⟩
abbrev main_while0b_v194 : Ref sig .tc := ⟨.hbm, 301, rfl⟩
abbrev main_while0b_c_62 : Ref sig .tc := ⟨.hbm, 302, rfl⟩
abbrev main_while0b_v195 : Ref sig .tc := ⟨.hbm, 303, rfl⟩
abbrev main_while0b_v196 : Ref sig .tc := ⟨.hbm, 304, rfl⟩
abbrev main_while0b_c_63 : Ref sig .tc := ⟨.hbm, 305, rfl⟩
abbrev main_while0b_v197 : Ref sig .tc := ⟨.hbm, 306, rfl⟩
abbrev main_while0b_v198 : Ref sig .tc := ⟨.hbm, 307, rfl⟩
abbrev main_while0b_v199 : Ref sig .tc := ⟨.hbm, 308, rfl⟩
abbrev main_while0b_v200 : Ref sig .tc := ⟨.hbm, 309, rfl⟩
abbrev main_while0b_v201 : Ref sig .tc := ⟨.hbm, 310, rfl⟩
abbrev main_while0b_v202 : Ref sig .tc := ⟨.hbm, 311, rfl⟩
abbrev main_while0b_v203 : Ref sig .tc := ⟨.hbm, 312, rfl⟩
abbrev main_while0b_c_64 : Ref sig .tc := ⟨.hbm, 313, rfl⟩
abbrev main_while0b_v204 : Ref sig .tc := ⟨.hbm, 314, rfl⟩
abbrev main_while0b_v205 : Ref sig .tc := ⟨.hbm, 315, rfl⟩
abbrev main_while0b_c_65 : Ref sig .tc := ⟨.hbm, 316, rfl⟩
abbrev main_while0b_v206 : Ref sig .tc := ⟨.hbm, 317, rfl⟩
abbrev main_while0b_v207 : Ref sig .tc := ⟨.hbm, 318, rfl⟩
abbrev main_while0b_c_66 : Ref sig .tc := ⟨.hbm, 319, rfl⟩
abbrev main_while0b_v208 : Ref sig .tc := ⟨.hbm, 320, rfl⟩
abbrev main_while0b_v209 : Ref sig .tc := ⟨.hbm, 321, rfl⟩
abbrev main_while0b_c_67 : Ref sig .tc := ⟨.hbm, 322, rfl⟩
abbrev main_while0b_v210 : Ref sig .tc := ⟨.hbm, 323, rfl⟩
abbrev main_while0b_v211 : Ref sig .tc := ⟨.hbm, 324, rfl⟩
abbrev main_while0b_c_68 : Ref sig .tc := ⟨.hbm, 325, rfl⟩
abbrev main_while0b_v212 : Ref sig .tc := ⟨.hbm, 326, rfl⟩
abbrev main_while0b_v213 : Ref sig .tc := ⟨.hbm, 327, rfl⟩
abbrev main_while0b_v214 : Ref sig .tc := ⟨.hbm, 328, rfl⟩
abbrev main_while0b_v215 : Ref sig .tc := ⟨.hbm, 329, rfl⟩
abbrev main_while0b_v216 : Ref sig .tc := ⟨.hbm, 330, rfl⟩
abbrev main_while0b_v217 : Ref sig .tc := ⟨.hbm, 331, rfl⟩
abbrev main_while0b_v218 : Ref sig .tc := ⟨.hbm, 332, rfl⟩
abbrev main_while0b_v219 : Ref sig .tc := ⟨.hbm, 333, rfl⟩
abbrev main_while0b_v220 : Ref sig .tc := ⟨.hbm, 334, rfl⟩
abbrev main_while0b_v221 : Ref sig .tc := ⟨.hbm, 335, rfl⟩
abbrev main_while0b_v222 : Ref sig .tc := ⟨.hbm, 336, rfl⟩
abbrev main_while0b_c_69 : Ref sig .tc := ⟨.hbm, 337, rfl⟩
abbrev main_while0b_v223 : Ref sig .tc := ⟨.hbm, 338, rfl⟩
abbrev main_while0b_v224 : Ref sig .tc := ⟨.hbm, 339, rfl⟩
abbrev main_while0b_c_70 : Ref sig .tc := ⟨.hbm, 340, rfl⟩
abbrev main_while0b_v225 : Ref sig .tc := ⟨.hbm, 341, rfl⟩
abbrev main_while0b_v226 : Ref sig .tc := ⟨.hbm, 342, rfl⟩
abbrev main_while0b_v227 : Ref sig .tc := ⟨.hbm, 343, rfl⟩
abbrev main_while0b_v228 : Ref sig .tc := ⟨.hbm, 344, rfl⟩
abbrev main_while0b_v229 : Ref sig .tc := ⟨.hbm, 345, rfl⟩
abbrev main_while0b_v230 : Ref sig .tc := ⟨.hbm, 346, rfl⟩
abbrev main_while0b_v231 : Ref sig .tc := ⟨.hbm, 347, rfl⟩
abbrev main_while0b_c_71 : Ref sig .tc := ⟨.hbm, 348, rfl⟩
abbrev main_while0b_v232 : Ref sig .tc := ⟨.hbm, 349, rfl⟩
abbrev main_while0b_v233 : Ref sig .tc := ⟨.hbm, 350, rfl⟩
abbrev main_while0b_c_72 : Ref sig .tc := ⟨.hbm, 351, rfl⟩
abbrev main_while0b_v234 : Ref sig .tc := ⟨.hbm, 352, rfl⟩
abbrev main_while0b_v235 : Ref sig .tc := ⟨.hbm, 353, rfl⟩
abbrev main_while0b_c_73 : Ref sig .tc := ⟨.hbm, 354, rfl⟩
abbrev main_while0b_v236 : Ref sig .tc := ⟨.hbm, 355, rfl⟩
abbrev main_while0b_v237 : Ref sig .tc := ⟨.hbm, 356, rfl⟩
abbrev main_while0b_c_74 : Ref sig .tc := ⟨.hbm, 357, rfl⟩
abbrev main_while0b_v238 : Ref sig .tc := ⟨.hbm, 358, rfl⟩
abbrev main_while0b_v239 : Ref sig .tc := ⟨.hbm, 359, rfl⟩
abbrev main_while0b_c_75 : Ref sig .tc := ⟨.hbm, 360, rfl⟩
abbrev main_while0b_v240 : Ref sig .tc := ⟨.hbm, 361, rfl⟩
abbrev main_while0b_v241 : Ref sig .tc := ⟨.hbm, 362, rfl⟩
abbrev main_while0b_v242 : Ref sig .tc := ⟨.hbm, 363, rfl⟩
abbrev main_while0b_v243 : Ref sig .tc := ⟨.hbm, 364, rfl⟩
abbrev main_while0b_v244 : Ref sig .tc := ⟨.hbm, 365, rfl⟩
abbrev main_while0b_v245 : Ref sig .tc := ⟨.hbm, 366, rfl⟩
abbrev main_while0b_v246 : Ref sig .tc := ⟨.hbm, 367, rfl⟩
abbrev main_while0b_v247 : Ref sig .tc := ⟨.hbm, 368, rfl⟩
abbrev main_while0b_v248 : Ref sig .tc := ⟨.hbm, 369, rfl⟩
abbrev main_while0b_v249 : Ref sig .tc := ⟨.hbm, 370, rfl⟩
abbrev main_while0b_v250 : Ref sig .tc := ⟨.hbm, 371, rfl⟩
abbrev main_while0b_c_76 : Ref sig .tc := ⟨.hbm, 372, rfl⟩
abbrev main_while0b_v251 : Ref sig .tc := ⟨.hbm, 373, rfl⟩
abbrev main_while0b_v252 : Ref sig .tc := ⟨.hbm, 374, rfl⟩
abbrev main_while0b_c_77 : Ref sig .tc := ⟨.hbm, 375, rfl⟩
abbrev main_while0b_v253 : Ref sig .tc := ⟨.hbm, 376, rfl⟩
abbrev main_while0b_v254 : Ref sig .tc := ⟨.hbm, 377, rfl⟩
abbrev main_while0b_v255 : Ref sig .tc := ⟨.hbm, 378, rfl⟩
abbrev main_while0b_v256 : Ref sig .tc := ⟨.hbm, 379, rfl⟩
abbrev main_while0b_v257 : Ref sig .tc := ⟨.hbm, 380, rfl⟩
abbrev main_while0b_v258 : Ref sig .tc := ⟨.hbm, 381, rfl⟩
abbrev main_while0b_v259 : Ref sig .tc := ⟨.hbm, 382, rfl⟩
abbrev main_while0b_c_78 : Ref sig .tc := ⟨.hbm, 383, rfl⟩
abbrev main_while0b_v260 : Ref sig .tc := ⟨.hbm, 384, rfl⟩
abbrev main_while0b_v261 : Ref sig .tc := ⟨.hbm, 385, rfl⟩
abbrev main_while0b_c_79 : Ref sig .tc := ⟨.hbm, 386, rfl⟩
abbrev main_while0b_v262 : Ref sig .tc := ⟨.hbm, 387, rfl⟩
abbrev main_while0b_v263 : Ref sig .tc := ⟨.hbm, 388, rfl⟩
abbrev main_while0b_v264 : Ref sig .tc := ⟨.hbm, 389, rfl⟩
abbrev main_while0b_v265 : Ref sig .tc := ⟨.hbm, 390, rfl⟩
abbrev main_while0b_c_80 : Ref sig .tc := ⟨.hbm, 391, rfl⟩
abbrev main_while0b_v266 : Ref sig .tc := ⟨.hbm, 392, rfl⟩
abbrev main_while0b_v267 : Ref sig .tc := ⟨.hbm, 393, rfl⟩
abbrev main_while0b_v268 : Ref sig .tc := ⟨.hbm, 394, rfl⟩
abbrev main_while0b_c_81 : Ref sig .tc := ⟨.hbm, 395, rfl⟩
abbrev main_while0b_v269 : Ref sig .tc := ⟨.hbm, 396, rfl⟩
abbrev main_while0b_v270 : Ref sig .tc := ⟨.hbm, 397, rfl⟩
abbrev main_while0b_c_82 : Ref sig .tc := ⟨.hbm, 398, rfl⟩
abbrev main_while0b_v271 : Ref sig .tc := ⟨.hbm, 399, rfl⟩
abbrev main_while0b_v272 : Ref sig .tc := ⟨.hbm, 400, rfl⟩
abbrev main_while0b_v273 : Ref sig .tc := ⟨.hbm, 401, rfl⟩
abbrev main_while0b_v274 : Ref sig .tc := ⟨.hbm, 402, rfl⟩
abbrev main_while0b_c_83 : Ref sig .tc := ⟨.hbm, 403, rfl⟩
abbrev main_while0b_v275 : Ref sig .tc := ⟨.hbm, 404, rfl⟩
abbrev main_while0b_v276 : Ref sig .tc := ⟨.hbm, 405, rfl⟩
abbrev main_while0b_v277 : Ref sig .tc := ⟨.hbm, 406, rfl⟩
abbrev main_while0b_c_84 : Ref sig .tc := ⟨.hbm, 407, rfl⟩
abbrev main_while0b_c_85 : Ref sig .tc := ⟨.hbm, 408, rfl⟩
abbrev main_while0b_call8_v0 : Ref sig .tc := ⟨.hbm, 409, rfl⟩
abbrev main_while0b_call8_v1 : Ref sig .tc := ⟨.hbm, 410, rfl⟩
abbrev main_while0b_call8_v2 : Ref sig .tc := ⟨.hbm, 411, rfl⟩
abbrev main_while0b_call8_v3 : Ref sig .tc := ⟨.hbm, 412, rfl⟩
abbrev main_while0b_call8_v4 : Ref sig .tc := ⟨.hbm, 413, rfl⟩
abbrev main_while0b_v278 : Ref sig .tc := ⟨.hbm, 414, rfl⟩
abbrev main_while0b_v279 : Ref sig .tc := ⟨.hbm, 415, rfl⟩
abbrev main_while0b_v280 : Ref sig .tc := ⟨.hbm, 416, rfl⟩
abbrev main_while0b_c_86 : Ref sig .tc := ⟨.hbm, 417, rfl⟩
abbrev main_while0b_v281 : Ref sig .tc := ⟨.hbm, 418, rfl⟩
abbrev main_while0b_v282 : Ref sig .tc := ⟨.hbm, 419, rfl⟩
abbrev main_while0b_c_87 : Ref sig .tc := ⟨.hbm, 420, rfl⟩
abbrev main_while0b_c_88 : Ref sig .tc := ⟨.hbm, 421, rfl⟩
abbrev main_while0b_call9_v0 : Ref sig .tc := ⟨.hbm, 422, rfl⟩
abbrev main_while0b_call9_v1 : Ref sig .tc := ⟨.hbm, 423, rfl⟩
abbrev main_while0b_call9_v2 : Ref sig .tc := ⟨.hbm, 424, rfl⟩
abbrev main_while0b_call9_v3 : Ref sig .tc := ⟨.hbm, 425, rfl⟩
abbrev main_while0b_call9_v4 : Ref sig .tc := ⟨.hbm, 426, rfl⟩
abbrev main_while0b_v283 : Ref sig .tc := ⟨.hbm, 427, rfl⟩
abbrev main_while0b_c_89 : Ref sig .tc := ⟨.hbm, 428, rfl⟩
abbrev main_while0b_v284 : Ref sig .tc := ⟨.hbm, 429, rfl⟩
abbrev main_while0b_v285 : Ref sig .tc := ⟨.hbm, 430, rfl⟩
abbrev main_while0b_c_90 : Ref sig .tc := ⟨.hbm, 431, rfl⟩
abbrev main_while0b_v286 : Ref sig .tc := ⟨.hbm, 432, rfl⟩
abbrev main_while0b_v287 : Ref sig .tc := ⟨.hbm, 433, rfl⟩
abbrev main_while0b_c_91 : Ref sig .tc := ⟨.hbm, 434, rfl⟩
abbrev main_while0b_v288 : Ref sig .tc := ⟨.hbm, 435, rfl⟩
abbrev main_while0b_v289 : Ref sig .tc := ⟨.hbm, 436, rfl⟩
abbrev main_while0b_c_92 : Ref sig .tc := ⟨.hbm, 437, rfl⟩
abbrev main_while0b_v290 : Ref sig .tc := ⟨.hbm, 438, rfl⟩
abbrev main_while0b_v291 : Ref sig .tc := ⟨.hbm, 439, rfl⟩
abbrev main_while0b_c_93 : Ref sig .tc := ⟨.hbm, 440, rfl⟩
abbrev main_while0b_v292 : Ref sig .tc := ⟨.hbm, 441, rfl⟩
abbrev main_while0b_v293 : Ref sig .tc := ⟨.hbm, 442, rfl⟩
abbrev main_while0b_v294 : Ref sig .tc := ⟨.hbm, 443, rfl⟩
abbrev main_while0b_v295 : Ref sig .tc := ⟨.hbm, 444, rfl⟩
abbrev main_while0b_v296 : Ref sig .tc := ⟨.hbm, 445, rfl⟩
abbrev main_while0b_v297 : Ref sig .tc := ⟨.hbm, 446, rfl⟩
abbrev main_while0b_v298 : Ref sig .tc := ⟨.hbm, 447, rfl⟩
abbrev main_while0b_v299 : Ref sig .tc := ⟨.hbm, 448, rfl⟩
abbrev main_while0b_v300 : Ref sig .tc := ⟨.hbm, 449, rfl⟩
abbrev main_while0b_v301 : Ref sig .tc := ⟨.hbm, 450, rfl⟩
abbrev main_while0b_v302 : Ref sig .tc := ⟨.hbm, 451, rfl⟩
abbrev main_while0b_c_94 : Ref sig .tc := ⟨.hbm, 452, rfl⟩
abbrev main_while0b_v303 : Ref sig .tc := ⟨.hbm, 453, rfl⟩
abbrev main_while0b_v304 : Ref sig .tc := ⟨.hbm, 454, rfl⟩
abbrev main_while0b_c_95 : Ref sig .tc := ⟨.hbm, 455, rfl⟩
abbrev main_while0b_v305 : Ref sig .tc := ⟨.hbm, 456, rfl⟩
abbrev main_while0b_v306 : Ref sig .tc := ⟨.hbm, 457, rfl⟩
abbrev main_while0b_v307 : Ref sig .tc := ⟨.hbm, 458, rfl⟩
abbrev main_while0b_v308 : Ref sig .tc := ⟨.hbm, 459, rfl⟩
abbrev main_while0b_v309 : Ref sig .tc := ⟨.hbm, 460, rfl⟩
abbrev main_while0b_v310 : Ref sig .tc := ⟨.hbm, 461, rfl⟩
abbrev main_while0b_v311 : Ref sig .tc := ⟨.hbm, 462, rfl⟩
abbrev main_while0b_c_96 : Ref sig .tc := ⟨.hbm, 463, rfl⟩
abbrev main_while0b_v312 : Ref sig .tc := ⟨.hbm, 464, rfl⟩
abbrev main_while0b_c_97 : Ref sig .tc := ⟨.hbm, 465, rfl⟩
abbrev main_while0b_v313 : Ref sig .tc := ⟨.hbm, 466, rfl⟩
abbrev main_while0b_v314 : Ref sig .tc := ⟨.hbm, 467, rfl⟩
abbrev main_while0b_v315 : Ref sig .tc := ⟨.hbm, 468, rfl⟩
abbrev main_while0b_v316 : Ref sig .tc := ⟨.hbm, 469, rfl⟩
abbrev main_while0b_c_98 : Ref sig .tc := ⟨.hbm, 470, rfl⟩
abbrev main_while0b_v317 : Ref sig .tc := ⟨.hbm, 471, rfl⟩
abbrev main_while0b_v318 : Ref sig .tc := ⟨.hbm, 472, rfl⟩
abbrev main_while0b_c_99 : Ref sig .tc := ⟨.hbm, 473, rfl⟩
abbrev main_while0b_v319 : Ref sig .tc := ⟨.hbm, 474, rfl⟩
abbrev main_while0b_v320 : Ref sig .tc := ⟨.hbm, 475, rfl⟩
abbrev main_while0b_v321 : Ref sig .tc := ⟨.hbm, 476, rfl⟩
abbrev main_while0b_v322 : Ref sig .tc := ⟨.hbm, 477, rfl⟩
abbrev main_while0b_v323 : Ref sig .tc := ⟨.hbm, 478, rfl⟩
abbrev main_while0b_v324 : Ref sig .tc := ⟨.hbm, 479, rfl⟩
abbrev main_while0b_c_100 : Ref sig .tc := ⟨.hbm, 480, rfl⟩
abbrev main_while0b_v325 : Ref sig .tc := ⟨.hbm, 481, rfl⟩
abbrev main_while0b_c_101 : Ref sig .tc := ⟨.hbm, 482, rfl⟩
abbrev main_while0b_c_102 : Ref sig .tc := ⟨.hbm, 483, rfl⟩
abbrev main_while0b_v326 : Ref sig .tc := ⟨.hbm, 484, rfl⟩
abbrev main_while0b_v327 : Ref sig .tc := ⟨.hbm, 485, rfl⟩
abbrev main_while0b_v328 : Ref sig .tc := ⟨.hbm, 486, rfl⟩
abbrev main_while0b_v329 : Ref sig .tc := ⟨.hbm, 487, rfl⟩
abbrev main_while0b_c_103 : Ref sig .tc := ⟨.hbm, 488, rfl⟩
abbrev main_while0b_v330 : Ref sig .tc := ⟨.hbm, 489, rfl⟩
abbrev main_while0b_v331 : Ref sig .tc := ⟨.hbm, 490, rfl⟩
abbrev main_while0b_v332 : Ref sig .tc := ⟨.hbm, 491, rfl⟩
abbrev main_while0b_c_104 : Ref sig .tc := ⟨.hbm, 492, rfl⟩
abbrev main_while0b_v333 : Ref sig .tc := ⟨.hbm, 493, rfl⟩
abbrev main_while0b_c_105 : Ref sig .tc := ⟨.hbm, 494, rfl⟩
abbrev main_while0b_v334 : Ref sig .tc := ⟨.hbm, 495, rfl⟩
abbrev main_while0b_c_106 : Ref sig .tc := ⟨.hbm, 496, rfl⟩
abbrev main_while0b_v335 : Ref sig .tc := ⟨.hbm, 497, rfl⟩
abbrev main_while0b_c_107 : Ref sig .tc := ⟨.hbm, 498, rfl⟩
abbrev main_while0b_v336 : Ref sig .tc := ⟨.hbm, 499, rfl⟩
abbrev main_while0b_c_108 : Ref sig .tc := ⟨.hbm, 500, rfl⟩
abbrev main_while0b_call11_v0 : Ref sig .tc := ⟨.hbm, 501, rfl⟩
abbrev main_while0b_v337 : Ref sig .tc := ⟨.hbm, 502, rfl⟩
abbrev main_while0b_v338 : Ref sig .tc := ⟨.hbm, 503, rfl⟩
abbrev main_while0b_v339 : Ref sig .tc := ⟨.hbm, 504, rfl⟩
abbrev main_while0b_v340 : Ref sig .tc := ⟨.hbm, 505, rfl⟩
abbrev main_while0b_v341 : Ref sig .tc := ⟨.hbm, 506, rfl⟩
abbrev main_while0b_v342 : Ref sig .tc := ⟨.hbm, 507, rfl⟩
abbrev main_while0b_v343 : Ref sig .tc := ⟨.hbm, 508, rfl⟩
abbrev main_while0b_v344 : Ref sig .tc := ⟨.hbm, 509, rfl⟩
abbrev main_while0b_v345 : Ref sig .tc := ⟨.hbm, 510, rfl⟩
abbrev main_while0b_c_109 : Ref sig .tc := ⟨.hbm, 511, rfl⟩
abbrev main_while0b_c_110 : Ref sig .tc := ⟨.hbm, 512, rfl⟩
abbrev main_while0b_call12_v0 : Ref sig .tc := ⟨.hbm, 513, rfl⟩
abbrev main_while0b_call12_v1 : Ref sig .tc := ⟨.hbm, 514, rfl⟩
abbrev main_while0b_call12_v2 : Ref sig .tc := ⟨.hbm, 515, rfl⟩
abbrev main_while0b_call12_v3 : Ref sig .tc := ⟨.hbm, 516, rfl⟩
abbrev main_while0b_call12_v4 : Ref sig .tc := ⟨.hbm, 517, rfl⟩
abbrev main_while0b_v346 : Ref sig .tc := ⟨.hbm, 518, rfl⟩
abbrev main_while0b_v347 : Ref sig .tc := ⟨.hbm, 519, rfl⟩
abbrev main_while0b_call13_v0 : Ref sig .tc := ⟨.hbm, 520, rfl⟩
abbrev main_while0b_call13_c : Ref sig .tc := ⟨.hbm, 521, rfl⟩
abbrev main_while0b_call13_c_0 : Ref sig .tc := ⟨.hbm, 522, rfl⟩
abbrev main_while0b_v348 : Ref sig .tc := ⟨.hbm, 523, rfl⟩
abbrev main_while0b_c_111 : Ref sig .tc := ⟨.hbm, 524, rfl⟩
abbrev main_while0b_v349 : Ref sig .tc := ⟨.hbm, 525, rfl⟩
abbrev main_v83 : Ref sig .tc := ⟨.hbm, 526, rfl⟩

abbrev nD : Nat := 1
abbrev τ : Topo := Topo.v7x

variable {F : FTy → Type} [FloatOps F]

abbrev main_while0_count : Scf.Loop 32 := ⟨0#32, 1024#32, 1#32⟩
-- ==== Proof.Cell.lean ====
/- The integer LSTM cell as functions of 32-bit words, and the same functions on [8, 128] vectors of words. -/
module

public import Idealize.ShloMosaic.Shape
public import Idealize.ShloMosaic.PureOps

@[expose] public section

namespace Lstm

open Idealize.ShloMosaic

/-- A 32-bit word. -/
abbrev W := BitVec 32

/-- Fixed-point rescaling: `±((|a| · 2^left · m) / 2^15 + half) / 2^right`, the product taken in two halves. -/
def rescaleW (a m half right left : W) : W :=
  IntOp.subi (IntOp.xori (IntOp.shrsi .vector (IntOp.addi (IntOp.addi
    (IntOp.muli (IntOp.shrsi .vector (IntOp.shli .vector (IntOp.absi a) left) 15#32) m)
    (IntOp.shrsi .vector (IntOp.addi (IntOp.muli (IntOp.andi (IntOp.shli .vector (IntOp.absi a) left) 32767#32) m)
      (Scalar.select (IntOp.cmpi .eq right 0#32) 16384#32 0#32)) 15#32)) half) right)
    (IntOp.shrsi .vector a 31#32)) (IntOp.shrsi .vector a 31#32)

/-- Clipping to sixteen signed bits. -/
def clip16W (v : W) : W := IntOp.minsi 32767#32 (IntOp.maxsi 4294934528#32 v)

/-- Clipping to eight signed bits. -/
def clip8W (v : W) : W := IntOp.minsi 127#32 (IntOp.maxsi 4294967168#32 v)

/-- The lane of a table row that a value's high bits name. -/
def laneW (v : W) : W := IntOp.andi (IntOp.shrsi .vector v 7#32) 127#32

/-- Linear interpolation by a value's low seven bits between the two table entries packed in the word `w`. -/
def interpW (w v : W) : W :=
  IntOp.addi (IntOp.shrsi .vector w 16#32)
    (IntOp.shrsi .vector (IntOp.addi (IntOp.muli
      (IntOp.subi (IntOp.shrsi .vector (IntOp.shli .vector w 16#32) 16#32) (IntOp.shrsi .vector w 16#32))
      (IntOp.andi v 127#32)) 64#32) 7#32)

/-- Of the words the four quarters of a table hold, the one for the quarter `v` lies in. -/
def pickW (g0 g1 g2 g3 v : W) : W :=
  Scalar.select (IntOp.cmpi .slt v 0#32)
    (Scalar.select (IntOp.cmpi .slt v 4294950912#32) g0 g1)
    (Scalar.select (IntOp.cmpi .slt v 16384#32) g2 g3)

/-- The sum of the two rescaled accumulators of a gate, each clipped and the sum clipped. -/
def preW (xa xm xh xr xl ha hm hh hr hl : W) : W :=
  clip16W (IntOp.addi (clip16W (rescaleW xa xm xh xr xl)) (clip16W (rescaleW ha hm hh hr hl)))

/-- The next cell state from the activations of the input, forget and update gates. -/
def nextCW (i f z c : W) : W :=
  clip16W (IntOp.addi
    (IntOp.shrsi .vector (IntOp.addi (IntOp.addi (IntOp.muli f c) 16384#32) (IntOp.shrsi .vector (IntOp.muli f c) 31#32)) 15#32)
    (IntOp.shrsi .vector (IntOp.addi (IntOp.addi (IntOp.muli i z) 262144#32) (IntOp.shrsi .vector (IntOp.muli i z) 31#32)) 19#32))

/-- The clipped double of the cell state, looked up next. -/
def twiceW (c : W) : W := clip16W (IntOp.muli 2#32 c)

/-- The next hidden state from the output gate and the looked-up cell state. -/
def nextHW (o t m half right left zp : W) : W :=
  clip8W (IntOp.addi (rescaleW (IntOp.muli o t) m half right left) zp)

/-- A quarter of a table looked up lane by lane, as the vector unit's gather writes it. -/
def gatherV (t : IVec ⟨2, ![8, 128]⟩ 32) (v : IVec ⟨2, ![8, 128]⟩ 32) : IVec ⟨2, ![8, 128]⟩ 32 :=
  dynamicGather 1 t (shapeCast ⟨2, ![8, 128]⟩ (shapeCast (s := ⟨2, ![8, 128]⟩) ⟨3, ![8, 128, 1]⟩ (fun i => laneW (v i)) (by decide)) (by decide))

/-- A table looked up at every lane of a vector. -/
def lutV (t0 t1 t2 t3 v : IVec ⟨2, ![8, 128]⟩ 32) : IVec ⟨2, ![8, 128]⟩ 32 := fun i =>
  interpW (pickW (gatherV t0 v i) (gatherV t1 v i) (gatherV t2 v i) (gatherV t3 v i) (v i)) (v i)

/-- A block cast to its own shape. -/
abbrev selfV {α : Type} (x : Shape.Idx ⟨2, ![8, 128]⟩ → α) : Shape.Idx ⟨2, ![8, 128]⟩ → α :=
  shapeCast (s := ⟨2, ![8, 128]⟩) ⟨2, ![8, 128]⟩ x (by decide)

/-- A [1, 8, 128] block read as an [8, 128] block. -/
abbrev planeV (p : IVec ⟨3, ![1, 8, 128]⟩ 32) : IVec ⟨2, ![8, 128]⟩ 32 := shapeCast ⟨2, ![8, 128]⟩ p (by decide)

/-- A gate's clipped sum at every lane, the parameter planes read as [1, 8, 128] blocks. -/
def preV (ax : IVec ⟨2, ![8, 128]⟩ 32) (bx : IVec ⟨2, ![8, 128]⟩ 32) (xm xh xr xl : IVec ⟨3, ![1, 8, 128]⟩ 32)
    (ah : IVec ⟨2, ![8, 128]⟩ 32) (bh : IVec ⟨2, ![8, 128]⟩ 32) (hm hh hr hl : IVec ⟨3, ![1, 8, 128]⟩ 32) :
    IVec ⟨2, ![8, 128]⟩ 32 := fun i =>
  preW (IntOp.addi (ax i) (selfV bx i)) (planeV xm i) (planeV xh i) (planeV xr i) (planeV xl i)
    (IntOp.subi (ah i) (selfV bh i)) (planeV hm i) (planeV hh i) (planeV hr i) (planeV hl i)

end Lstm

end
-- ==== Proof.Cells.lean ====
/- The LSTM cell at each entry of the state, from the whole operands, and the vector forms read at an entry. -/
module

public import proofs.«01_k».proof.Proof.Cell
public import Idealize.ShloMosaic.Lib.ValueIdxCore
public import Idealize.ShloMosaic.Lib.Pipeline.Value

@[expose] public section

namespace Lstm

open Idealize.ShloMosaic Idealize.ShloMosaic.ValueIdx

/-- The operands the cell reads at every step. -/
structure Params where
  /-- The packed sigmoid table. -/
  sg : Shape.Idx ⟨2, ![32, 128]⟩ → W
  /-- The packed tanh table. -/
  tn : Shape.Idx ⟨2, ![32, 128]⟩ → W
  /-- The input biases. -/
  bx : Shape.Idx ⟨2, ![768, 128]⟩ → W
  /-- The recurrent corrections. -/
  bh : Shape.Idx ⟨2, ![768, 128]⟩ → W
  /-- The input rescaling planes. -/
  px : Shape.Idx ⟨3, ![4, 768, 128]⟩ → W
  /-- The recurrent rescaling planes. -/
  ph : Shape.Idx ⟨3, ![4, 768, 128]⟩ → W
  /-- The multiplier of the hidden state. -/
  m : W
  /-- The rounding term of the hidden state. -/
  half : W
  /-- The right shift of the hidden state. -/
  right : W
  /-- The left shift of the hidden state. -/
  left : W
  /-- The zero point of the hidden state. -/
  zp : W

/-- A gate's row of the stacked operands. -/
def rowG (g : Fin 4) (r : Fin 192) : Fin 768 := ⟨192 * g.val + r.val, by omega⟩
/-- A column's lane. -/
def lane (b : Fin 256) : Fin 128 := ⟨b.val % 128, by omega⟩

/-- A table looked up at a word, in the sublane of row `r`. -/
def tabW (T : Shape.Idx ⟨2, ![32, 128]⟩ → W) (r : Fin 192) (v : W) : W :=
  interpW (pickW (T (ix2 ⟨0 + r.val % 8, by omega⟩ ⟨(laneW v).toNat % 128, by omega⟩))
    (T (ix2 ⟨8 + r.val % 8, by omega⟩ ⟨(laneW v).toNat % 128, by omega⟩))
    (T (ix2 ⟨16 + r.val % 8, by omega⟩ ⟨(laneW v).toNat % 128, by omega⟩))
    (T (ix2 ⟨24 + r.val % 8, by omega⟩ ⟨(laneW v).toNat % 128, by omega⟩)) v) v

section
variable (P : Params) (ax ah : Shape.Idx ⟨2, ![768, 256]⟩ → W) (c : Shape.Idx ⟨2, ![192, 256]⟩ → W)

/-- A gate's clipped sum at unit `r` and batch column `b`. -/
def preA (g : Fin 4) (r : Fin 192) (b : Fin 256) : W :=
  preW (IntOp.addi (ax (ix2 (rowG g r) b)) (P.bx (ix2 (rowG g r) (lane b))))
    (P.px (ix3 0 (rowG g r) (lane b))) (P.px (ix3 1 (rowG g r) (lane b)))
    (P.px (ix3 2 (rowG g r) (lane b))) (P.px (ix3 3 (rowG g r) (lane b)))
    (IntOp.subi (ah (ix2 (rowG g r) b)) (P.bh (ix2 (rowG g r) (lane b))))
    (P.ph (ix3 0 (rowG g r) (lane b))) (P.ph (ix3 1 (rowG g r) (lane b)))
    (P.ph (ix3 2 (rowG g r) (lane b))) (P.ph (ix3 3 (rowG g r) (lane b)))

/-- The next cell state at an entry. -/
def cA (r : Fin 192) (b : Fin 256) : W :=
  nextCW (tabW P.sg r (preA P ax ah 0 r b)) (tabW P.sg r (preA P ax ah 1 r b)) (tabW P.tn r (preA P ax ah 2 r b)) (c (ix2 r b))

/-- The next hidden state at an entry. -/
def hA (r : Fin 192) (b : Fin 256) : W :=
  nextHW (tabW P.sg r (preA P ax ah 3 r b)) (tabW P.tn r (twiceW (cA P ax ah c r b))) P.m P.half P.right P.left P.zp

variable {P ax ah c}
theorem cA_congr {c' : Shape.Idx ⟨2, ![192, 256]⟩ → W} {r : Fin 192} {b : Fin 256} (h : c (ix2 r b) = c' (ix2 r b)) :
    cA P ax ah c r b = cA P ax ah c' r b := by unfold cA; rw [h]
theorem hA_congr {c' : Shape.Idx ⟨2, ![192, 256]⟩ → W} {r : Fin 192} {b : Fin 256} (h : c (ix2 r b) = c' (ix2 r b)) :
    hA P ax ah c r b = hA P ax ah c' r b := by unfold hA; rw [cA_congr h]
end

theorem gatherV_apply (t v : IVec ⟨2, ![8, 128]⟩ 32) (j : Shape.Idx ⟨2, ![8, 128]⟩) :
    gatherV t v j = t (ix2 (j 0) ⟨(laneW (v j)).toNat % 128, by omega⟩) := by
  unfold gatherV
  rw [shapeCast_shapeCast]
  refine congrArg t (funext fun b => ?_)
  match b with
  | ⟨0, _⟩ => rfl
  | ⟨1, _⟩ => rfl

/-- A vector lookup reads, at a lane, the word lookup. -/
theorem lutV_apply (T : Shape.Idx ⟨2, ![32, 128]⟩ → W) (t0 t1 t2 t3 v : IVec ⟨2, ![8, 128]⟩ 32)
    (h0 : ∀ j : Shape.Idx ⟨2, ![8, 128]⟩, t0 j = T (ix2 ⟨0 + (j 0).val, by have := idx2_lt0 j; omega⟩ (j 1)))
    (h1 : ∀ j : Shape.Idx ⟨2, ![8, 128]⟩, t1 j = T (ix2 ⟨8 + (j 0).val, by have := idx2_lt0 j; omega⟩ (j 1)))
    (h2 : ∀ j : Shape.Idx ⟨2, ![8, 128]⟩, t2 j = T (ix2 ⟨16 + (j 0).val, by have := idx2_lt0 j; omega⟩ (j 1)))
    (h3 : ∀ j : Shape.Idx ⟨2, ![8, 128]⟩, t3 j = T (ix2 ⟨24 + (j 0).val, by have := idx2_lt0 j; omega⟩ (j 1)))
    (j : Shape.Idx ⟨2, ![8, 128]⟩) (r : Fin 192) (hr : r.val % 8 = (j 0).val) : lutV t0 t1 t2 t3 v j = tabW T r (v j) := by
  unfold lutV tabW
  simp only [gatherV_apply, h0, h1, h2, h3, hr]

theorem selfV_eq {α : Type} (x : Shape.Idx ⟨2, ![8, 128]⟩ → α) : selfV x = x := shapeCast_self _ _

theorem planeV_apply (p : IVec ⟨3, ![1, 8, 128]⟩ 32) (j : Shape.Idx ⟨2, ![8, 128]⟩) : planeV p j = p (ix3 0 (j 0) (j 1)) := by
  refine shapeCast_apply _ _ _ _ ?_
  rw [Shape.rowMajor_val_three, Shape.rowMajor_val_two]
  show (0 * 8 + (j 0).val) * 128 + (j 1).val = (j 0).val * 128 + (j 1).val
  omega

end Lstm

end
-- ==== Proof.TripKernel.lean ====
/- One trip of the loop over units: the two column blocks it stores, as vector functions of what it loads. -/
module

public import proofs.«01_k».proof.Proof.Cell
public import proofs.«01_k».proof.Proof.Gen.Kernel.Loops

@[expose] public section

set_option maxRecDepth 65536
set_option maxHeartbeats 4000000

noncomputable section

namespace Cert.Kernel.Gen

open Idealize.ShloMosaic Idealize.ShloMosaic.TcCoe Lstm

variable {F : FTy → Type} [FloatOps F]

/-- Where column block `b` of a gate's rows starts in a [768, 256] accumulator. -/
abbrev accOff (b : Fin 2) (k : Fin k0_t2_loop.trips) (g : Fin 4) : Fin 2 → Nat :=
  match b with
  | 0 => k0_off2 k (BitVec.ofNat 32 (192 * g.val))
  | 1 => k0_off9 k (BitVec.ofNat 32 (192 * g.val))
/-- It is in bounds. -/
theorem accOff_inb (b : Fin 2) (k : Fin k0_t2_loop.trips) (g : Fin 4) : ∀ a, accOff b k g a + S8x128.size a ≤ S768x256.size a :=
  match b with
  | 0 => k0_off2_inb k g
  | 1 => k0_off9_inb k g
/-- Column block `b` of a gate's rows of an accumulator. -/
abbrev accRect (b : Fin 2) (k : Fin k0_t2_loop.trips) (g : Fin 4) : Rect S768x256 :=
  Rect.unit (s := S768x256) (accOff b k g) S8x128.size (accOff_inb b k g)

/-- Where column block `b` of a unit's rows starts in the state. -/
abbrev hcOff (b : Fin 2) (k : Fin k0_t2_loop.trips) : Fin 2 → Nat :=
  match b with
  | 0 => k0_off8 k
  | 1 => k0_off10 k
/-- It is in bounds. -/
theorem hcOff_inb (b : Fin 2) (k : Fin k0_t2_loop.trips) : ∀ a, hcOff b k a + S8x128.size a ≤ S192x256.size a :=
  match b with
  | 0 => k0_off8_inb k
  | 1 => k0_off10_inb k
/-- Column block `b` of a unit's rows of the state. -/
abbrev hcRect (b : Fin 2) (k : Fin k0_t2_loop.trips) : Rect S192x256 :=
  Rect.unit (s := S192x256) (hcOff b k) S8x128.size (hcOff_inb b k)

/-- A gate's rows of a bias plane. -/
abbrev biasRect (k : Fin k0_t2_loop.trips) (g : Fin 4) : Rect S768x128 :=
  Rect.unit (s := S768x128) (k0_off3 k (BitVec.ofNat 32 (192 * g.val))) S8x128.size (k0_off3_inb k g)

/-- Where a gate's rows of parameter plane `q` start. -/
abbrev parOff (q : Fin 4) (k : Fin k0_t2_loop.trips) (g : Fin 4) : Fin 3 → Nat :=
  match q with
  | 0 => k0_off4 k (BitVec.ofNat 32 (192 * g.val))
  | 1 => k0_off5 k (BitVec.ofNat 32 (192 * g.val))
  | 2 => k0_off6 k (BitVec.ofNat 32 (192 * g.val))
  | 3 => k0_off7 k (BitVec.ofNat 32 (192 * g.val))
/-- They are in bounds. -/
theorem parOff_inb (q : Fin 4) (k : Fin k0_t2_loop.trips) (g : Fin 4) : ∀ a, parOff q k g a + S1x8x128.size a ≤ S4x768x128.size a :=
  match q with
  | 0 => k0_off4_inb k g
  | 1 => k0_off5_inb k g
  | 2 => k0_off6_inb k g
  | 3 => k0_off7_inb k g
/-- A gate's rows of parameter plane `q`. -/
abbrev parRect (q : Fin 4) (k : Fin k0_t2_loop.trips) (g : Fin 4) : Rect S4x768x128 :=
  Rect.unit (s := S4x768x128) (parOff q k g) S1x8x128.size (parOff_inb q k g)

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips)

/-- A gate's clipped sum on column block `b` in trip `k`. -/
def tripPre (b : Fin 2) (g : Fin 4) : IVec S8x128 32 :=
  preV (fptosi (s := S8x128) (φ := .f32) 32 (View.readAt (Elt F) arg16.view (accRect b k g).toLoadRect X_arg16))
    (View.readAt (Elt F) arg5.view (biasRect k g).toLoadRect X_arg5)
    (View.readAt (Elt F) arg7.view (parRect 0 k g).toLoadRect X_arg7)
    (View.readAt (Elt F) arg7.view (parRect 1 k g).toLoadRect X_arg7)
    (View.readAt (Elt F) arg7.view (parRect 2 k g).toLoadRect X_arg7)
    (View.readAt (Elt F) arg7.view (parRect 3 k g).toLoadRect X_arg7)
    (fptosi (s := S8x128) (φ := .f32) 32 (View.readAt (Elt F) arg17.view (accRect b k g).toLoadRect X_arg17))
    (View.readAt (Elt F) arg6.view (biasRect k g).toLoadRect X_arg6)
    (View.readAt (Elt F) arg8.view (parRect 0 k g).toLoadRect X_arg8)
    (View.readAt (Elt F) arg8.view (parRect 1 k g).toLoadRect X_arg8)
    (View.readAt (Elt F) arg8.view (parRect 2 k g).toLoadRect X_arg8)
    (View.readAt (Elt F) arg8.view (parRect 3 k g).toLoadRect X_arg8)

/-- A sigmoid gate on column block `b`. -/
def tripSig (b : Fin 2) (g : Fin 4) : IVec S8x128 32 := lutV v29 v31 v33 v35 (tripPre X_arg5 X_arg6 X_arg7 X_arg8 X_arg16 X_arg17 k b g)

/-- The cell state stored on column block `b`, from what the block holds. -/
def tripC (f_arg14 : BufTy.Contents (Elt F) arg14.view.ty) (b : Fin 2) : IVec S8x128 32 := fun j =>
  nextCW (tripSig v29 v31 v33 v35 X_arg5 X_arg6 X_arg7 X_arg8 X_arg16 X_arg17 k b 0 j) (tripSig v29 v31 v33 v35 X_arg5 X_arg6 X_arg7 X_arg8 X_arg16 X_arg17 k b 1 j)
    (lutV v37 v39 (selfV v40) (selfV v42) (tripPre X_arg5 X_arg6 X_arg7 X_arg8 X_arg16 X_arg17 k b 2) j)
    (selfV (View.readAt (Elt F) arg14.view (hcRect b k).toLoadRect f_arg14) j)

/-- The hidden state stored on column block `b`, as words. -/
def tripH (f_arg14 : BufTy.Contents (Elt F) arg14.view.ty) (b : Fin 2) : IVec S8x128 32 := fun j =>
  nextHW (tripSig v29 v31 v33 v35 X_arg5 X_arg6 X_arg7 X_arg8 X_arg16 X_arg17 k b 3 j)
    (lutV v37 v39 (selfV v40) (selfV v42) (fun j => twiceW (tripC v29 v31 v33 v35 v37 v39 v40 v42 X_arg5 X_arg6 X_arg7 X_arg8 X_arg16 X_arg17 k f_arg14 b j)) j) v3 v4 v5 v6 v7
end

/-- Gate 0's clipped sum on column block 0. -/
theorem pre_00 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v151 (F := F) arg5 arg6 arg7 arg8 arg16 arg17 X_arg5 X_arg6 X_arg7 X_arg8 X_arg16 X_arg17 k = tripPre X_arg5 X_arg6 X_arg7 X_arg8 X_arg16 X_arg17 k 0 0 := rfl

/-- Gate 1's clipped sum on column block 0. -/
theorem pre_01 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v291 (F := F) arg5 arg6 arg7 arg8 arg16 arg17 X_arg5 X_arg6 X_arg7 X_arg8 X_arg16 X_arg17 k = tripPre X_arg5 X_arg6 X_arg7 X_arg8 X_arg16 X_arg17 k 0 1 := rfl

/-- Gate 2's clipped sum on column block 0. -/
theorem pre_02 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v431 (F := F) arg5 arg6 arg7 arg8 arg16 arg17 X_arg5 X_arg6 X_arg7 X_arg8 X_arg16 X_arg17 k = tripPre X_arg5 X_arg6 X_arg7 X_arg8 X_arg16 X_arg17 k 0 2 := rfl

/-- Gate 3's clipped sum on column block 0. -/
theorem pre_03 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v571 (F := F) arg5 arg6 arg7 arg8 arg16 arg17 X_arg5 X_arg6 X_arg7 X_arg8 X_arg16 X_arg17 k = tripPre X_arg5 X_arg6 X_arg7 X_arg8 X_arg16 X_arg17 k 0 3 := rfl

/-- Gate 0's clipped sum on column block 1. -/
theorem pre_10 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v823 (F := F) arg5 arg6 arg7 arg8 arg16 arg17 X_arg5 X_arg6 X_arg7 X_arg8 X_arg16 X_arg17 k = tripPre X_arg5 X_arg6 X_arg7 X_arg8 X_arg16 X_arg17 k 1 0 := rfl

/-- Gate 1's clipped sum on column block 1. -/
theorem pre_11 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v963 (F := F) arg5 arg6 arg7 arg8 arg16 arg17 X_arg5 X_arg6 X_arg7 X_arg8 X_arg16 X_arg17 k = tripPre X_arg5 X_arg6 X_arg7 X_arg8 X_arg16 X_arg17 k 1 1 := rfl

/-- Gate 2's clipped sum on column block 1. -/
theorem pre_12 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1103 (F := F) arg5 arg6 arg7 arg8 arg16 arg17 X_arg5 X_arg6 X_arg7 X_arg8 X_arg16 X_arg17 k = tripPre X_arg5 X_arg6 X_arg7 X_arg8 X_arg16 X_arg17 k 1 2 := rfl

/-- Gate 3's clipped sum on column block 1. -/
theorem pre_13 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1243 (F := F) arg5 arg6 arg7 arg8 arg16 arg17 X_arg5 X_arg6 X_arg7 X_arg8 X_arg16 X_arg17 k = tripPre X_arg5 X_arg6 X_arg7 X_arg8 X_arg16 X_arg17 k 1 3 := rfl

/-- Gate 0's activation on column block 0. -/
theorem act_00 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_12 (F := F) arg5 arg6 arg7 arg8 arg16 arg17 v29 v31 v33 v35 X_arg5 X_arg6 X_arg7 X_arg8 X_arg16 X_arg17 k = lutV v29 v31 v33 v35 (trip_k0_t2.sl.v151 (F := F) arg5 arg6 arg7 arg8 arg16 arg17 X_arg5 X_arg6 X_arg7 X_arg8 X_arg16 X_arg17 k) := rfl

/-- Gate 1's activation on column block 0. -/
theorem act_01 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_25 (F := F) arg5 arg6 arg7 arg8 arg16 arg17 v29 v31 v33 v35 X_arg5 X_arg6 X_arg7 X_arg8 X_arg16 X_arg17 k = lutV v29 v31 v33 v35 (trip_k0_t2.sl.v291 (F := F) arg5 arg6 arg7 arg8 arg16 arg17 X_arg5 X_arg6 X_arg7 X_arg8 X_arg16 X_arg17 k) := rfl

/-- Gate 2's activation on column block 0. -/
theorem act_02 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_36 (F := F) arg5 arg6 arg7 arg8 arg16 arg17 v37 v39 v40 v42 X_arg5 X_arg6 X_arg7 X_arg8 X_arg16 X_arg17 k = lutV v37 v39 (selfV v40) (selfV v42) (trip_k0_t2.sl.v431 (F := F) arg5 arg6 arg7 arg8 arg16 arg17 X_arg5 X_arg6 X_arg7 X_arg8 X_arg16 X_arg17 k) := rfl

/-- Gate 3's activation on column block 0. -/
theorem act_03 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v611 (F := F) arg5 arg6 arg7 arg8 arg16 arg17 v29 v31 v33 v35 X_arg5 X_arg6 X_arg7 X_arg8 X_arg16 X_arg17 k = lutV v29 v31 v33 v35 (trip_k0_t2.sl.v571 (F := F) arg5 arg6 arg7 arg8 arg16 arg17 X_arg5 X_arg6 X_arg7 X_arg8 X_arg16 X_arg17 k) := rfl

/-- Gate 0's activation on column block 1. -/
theorem act_10 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_53 (F := F) arg5 arg6 arg7 arg8 arg16 arg17 v29 v31 v33 v35 X_arg5 X_arg6 X_arg7 X_arg8 X_arg16 X_arg17 k = lutV v29 v31 v33 v35 (trip_k0_t2.sl.v823 (F := F) arg5 arg6 arg7 arg8 arg16 arg17 X_arg5 X_arg6 X_arg7 X_arg8 X_arg16 X_arg17 k) := rfl

/-- Gate 1's activation on column block 1. -/
theorem act_11 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_60 (F := F) arg5 arg6 arg7 arg8 arg16 arg17 v29 v31 v33 v35 X_arg5 X_arg6 X_arg7 X_arg8 X_arg16 X_arg17 k = lutV v29 v31 v33 v35 (trip_k0_t2.sl.v963 (F := F) arg5 arg6 arg7 arg8 arg16 arg17 X_arg5 X_arg6 X_arg7 X_arg8 X_arg16 X_arg17 k) := rfl

/-- Gate 2's activation on column block 1. -/
theorem act_12 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_64 (F := F) arg5 arg6 arg7 arg8 arg16 arg17 v37 v39 v40 v42 X_arg5 X_arg6 X_arg7 X_arg8 X_arg16 X_arg17 k = lutV v37 v39 (selfV v40) (selfV v42) (trip_k0_t2.sl.v1103 (F := F) arg5 arg6 arg7 arg8 arg16 arg17 X_arg5 X_arg6 X_arg7 X_arg8 X_arg16 X_arg17 k) := rfl

/-- Gate 3's activation on column block 1. -/
theorem act_13 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1283 (F := F) arg5 arg6 arg7 arg8 arg16 arg17 v29 v31 v33 v35 X_arg5 X_arg6 X_arg7 X_arg8 X_arg16 X_arg17 k = lutV v29 v31 v33 v35 (trip_k0_t2.sl.v1243 (F := F) arg5 arg6 arg7 arg8 arg16 arg17 X_arg5 X_arg6 X_arg7 X_arg8 X_arg16 X_arg17 k) := rfl

/-- The cell state stored on column block 0, from the activations. -/
theorem cell_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v637 (F := F) arg5 arg6 arg7 arg8 arg14 arg16 arg17 v29 v31 v33 v35 v37 v39 v40 v42 X_arg5 X_arg6 X_arg7 X_arg8 X_arg16 X_arg17 k f_arg14 = fun j => nextCW (trip_k0_t2.sl.r_12 (F := F) arg5 arg6 arg7 arg8 arg16 arg17 v29 v31 v33 v35 X_arg5 X_arg6 X_arg7 X_arg8 X_arg16 X_arg17 k j) (trip_k0_t2.sl.r_25 (F := F) arg5 arg6 arg7 arg8 arg16 arg17 v29 v31 v33 v35 X_arg5 X_arg6 X_arg7 X_arg8 X_arg16 X_arg17 k j) (trip_k0_t2.sl.r_36 (F := F) arg5 arg6 arg7 arg8 arg16 arg17 v37 v39 v40 v42 X_arg5 X_arg6 X_arg7 X_arg8 X_arg16 X_arg17 k j) (selfV (View.readAt (Elt F) arg14.view (hcRect 0 k).toLoadRect f_arg14) j) := rfl

/-- The doubled cell state on column block 0. -/
theorem twice_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v645 (F := F) arg5 arg6 arg7 arg8 arg14 arg16 arg17 v29 v31 v33 v35 v37 v39 v40 v42 X_arg5 X_arg6 X_arg7 X_arg8 X_arg16 X_arg17 k f_arg14 = fun j => twiceW (trip_k0_t2.sl.v637 (F := F) arg5 arg6 arg7 arg8 arg14 arg16 arg17 v29 v31 v33 v35 v37 v39 v40 v42 X_arg5 X_arg6 X_arg7 X_arg8 X_arg16 X_arg17 k f_arg14 j) := rfl

/-- The cell state looked up on column block 0. -/
theorem look_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v685 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (trip_k0_t2.sl.v645 (F := F) arg5 arg6 arg7 arg8 arg14 arg16 arg17 v29 v31 v33 v35 v37 v39 v40 v42 X_arg5 X_arg6 X_arg7 X_arg8 X_arg16 X_arg17 k f_arg14) := rfl

/-- The stored cell state on column block 0 is the cell function. -/
theorem tripC_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v637 (F := F) arg5 arg6 arg7 arg8 arg14 arg16 arg17 v29 v31 v33 v35 v37 v39 v40 v42 X_arg5 X_arg6 X_arg7 X_arg8 X_arg16 X_arg17 k f_arg14 = tripC v29 v31 v33 v35 v37 v39 v40 v42 X_arg5 X_arg6 X_arg7 X_arg8 X_arg16 X_arg17 k f_arg14 0 := by
  rw [cell_0, act_00, act_01, act_02, pre_00, pre_01, pre_02]; rfl

/-- The cell state looked up on column block 0, all told. -/
theorem tripT_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v685 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (fun j => twiceW (tripC v29 v31 v33 v35 v37 v39 v40 v42 X_arg5 X_arg6 X_arg7 X_arg8 X_arg16 X_arg17 k f_arg14 0 j)) := by
  rw [look_0, twice_0, tripC_0]

/-- The cell state stored on column block 1, from the activations. -/
theorem cell_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1309 (F := F) arg5 arg6 arg7 arg8 arg14 arg16 arg17 v29 v31 v33 v35 v37 v39 v40 v42 X_arg5 X_arg6 X_arg7 X_arg8 X_arg16 X_arg17 k f_arg14 = fun j => nextCW (trip_k0_t2.sl.r_53 (F := F) arg5 arg6 arg7 arg8 arg16 arg17 v29 v31 v33 v35 X_arg5 X_arg6 X_arg7 X_arg8 X_arg16 X_arg17 k j) (trip_k0_t2.sl.r_60 (F := F) arg5 arg6 arg7 arg8 arg16 arg17 v29 v31 v33 v35 X_arg5 X_arg6 X_arg7 X_arg8 X_arg16 X_arg17 k j) (trip_k0_t2.sl.r_64 (F := F) arg5 arg6 arg7 arg8 arg16 arg17 v37 v39 v40 v42 X_arg5 X_arg6 X_arg7 X_arg8 X_arg16 X_arg17 k j) (selfV (View.readAt (Elt F) arg14.view (hcRect 1 k).toLoadRect f_arg14) j) := rfl

/-- The doubled cell state on column block 1. -/
theorem twice_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1317 (F := F) arg5 arg6 arg7 arg8 arg14 arg16 arg17 v29 v31 v33 v35 v37 v39 v40 v42 X_arg5 X_arg6 X_arg7 X_arg8 X_arg16 X_arg17 k f_arg14 = fun j => twiceW (trip_k0_t2.sl.v1309 (F := F) arg5 arg6 arg7 arg8 arg14 arg16 arg17 v29 v31 v33 v35 v37 v39 v40 v42 X_arg5 X_arg6 X_arg7 X_arg8 X_arg16 X_arg17 k f_arg14 j) := rfl

/-- The cell state looked up on column block 1. -/
theorem look_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1357 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (trip_k0_t2.sl.v1317 (F := F) arg5 arg6 arg7 arg8 arg14 arg16 arg17 v29 v31 v33 v35 v37 v39 v40 v42 X_arg5 X_arg6 X_arg7 X_arg8 X_arg16 X_arg17 k f_arg14) := rfl

/-- The stored cell state on column block 1 is the cell function. -/
theorem tripC_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1309 (F := F) arg5 arg6 arg7 arg8 arg14 arg16 arg17 v29 v31 v33 v35 v37 v39 v40 v42 X_arg5 X_arg6 X_arg7 X_arg8 X_arg16 X_arg17 k f_arg14 = tripC v29 v31 v33 v35 v37 v39 v40 v42 X_arg5 X_arg6 X_arg7 X_arg8 X_arg16 X_arg17 k f_arg14 1 := by
  rw [cell_1, act_10, act_11, act_12, pre_10, pre_11, pre_12]; rfl

/-- The cell state looked up on column block 1, all told. -/
theorem tripT_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1357 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (fun j => twiceW (tripC v29 v31 v33 v35 v37 v39 v40 v42 X_arg5 X_arg6 X_arg7 X_arg8 X_arg16 X_arg17 k f_arg14 1 j)) := by
  rw [look_1, twice_1, tripC_1]

/-- What one trip stores into the cell state: the two column blocks. -/
theorem trip_c (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).1 f_arg14 f_arg15 = [⟨hcRect 1 k, tripC v29 v31 v33 v35 v37 v39 v40 v42 X_arg5 X_arg6 X_arg7 X_arg8 X_arg16 X_arg17 k f_arg14 1⟩, ⟨hcRect 0 k, tripC v29 v31 v33 v35 v37 v39 v40 v42 X_arg5 X_arg6 X_arg7 X_arg8 X_arg16 X_arg17 k f_arg14 0⟩] := by
  rw [← tripC_0, ← tripC_1]; unfold trip_k0_t2; rfl

/-- What one trip stores into the hidden state, from its stages. -/
theorem trip_h_stages (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).2.1 f_arg14 f_arg15 = [⟨hcRect 1 k, selfV (sitofp (F := F) (s := S8x128) .f32 (fun j => nextHW (trip_k0_t2.sl.v1283 (F := F) arg5 arg6 arg7 arg8 arg16 arg17 v29 v31 v33 v35 X_arg5 X_arg6 X_arg7 X_arg8 X_arg16 X_arg17 k j) (trip_k0_t2.sl.v1357 (F := F) arg5 arg6 arg7 arg8 arg14 arg16 arg17 v29 v31 v33 v35 v37 v39 v40 v42 X_arg5 X_arg6 X_arg7 X_arg8 X_arg16 X_arg17 k f_arg14 j) v3 v4 v5 v6 v7))⟩, ⟨hcRect 0 k, selfV (sitofp (F := F) (s := S8x128) .f32 (fun j => nextHW (trip_k0_t2.sl.v611 (F := F) arg5 arg6 arg7 arg8 arg16 arg17 v29 v31 v33 v35 X_arg5 X_arg6 X_arg7 X_arg8 X_arg16 X_arg17 k j) (trip_k0_t2.sl.v685 (F := F) arg5 arg6 arg7 arg8 arg14 arg16 arg17 v29 v31 v33 v35 v37 v39 v40 v42 X_arg5 X_arg6 X_arg7 X_arg8 X_arg16 X_arg17 k f_arg14 j) v3 v4 v5 v6 v7))⟩] := by
  unfold trip_k0_t2; rfl

/-- What one trip stores into the hidden state: the two column blocks. -/
theorem trip_h (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).2.1 f_arg14 f_arg15 = [⟨hcRect 1 k, selfV (sitofp (F := F) (s := S8x128) .f32 (tripH v3 v4 v5 v6 v7 v29 v31 v33 v35 v37 v39 v40 v42 X_arg5 X_arg6 X_arg7 X_arg8 X_arg16 X_arg17 k f_arg14 1))⟩, ⟨hcRect 0 k, selfV (sitofp (F := F) (s := S8x128) .f32 (tripH v3 v4 v5 v6 v7 v29 v31 v33 v35 v37 v39 v40 v42 X_arg5 X_arg6 X_arg7 X_arg8 X_arg16 X_arg17 k f_arg14 0))⟩] := by
  rw [trip_h_stages, tripT_0, tripT_1, act_03, act_13, pre_03, pre_13]; rfl

end Cert.Kernel.Gen

end
-- ==== Proof.ArrayKernel.lean ====
/- The loop over units: what a trip's blocks hold at an entry, and what the whole loop leaves. -/
module

public import proofs.«01_k».proof.Proof.Cells
public import proofs.«01_k».proof.Proof.TripKernel

@[expose] public section

set_option maxRecDepth 65536
set_option maxHeartbeats 4000000

noncomputable section

namespace Cert.Kernel.Gen

open Idealize.ShloMosaic Idealize.ShloMosaic.TcCoe Idealize.ShloMosaic.ValueIdx Lstm

variable {F : FTy → Type} [FloatOps F]

theorem accOff_eq (b : Fin 2) (k : Fin k0_t2_loop.trips) (g : Fin 4) : accOff b k g = ![192 * g.val + 8 * k.val, 128 * b.val] := by
  revert b k g; decide +kernel
theorem hcOff_eq (b : Fin 2) (k : Fin k0_t2_loop.trips) : hcOff b k = ![8 * k.val, 128 * b.val] := by
  revert b k; decide +kernel
theorem parOff_eq (q : Fin 4) (k : Fin k0_t2_loop.trips) (g : Fin 4) : parOff q k g = ![q.val, 192 * g.val + 8 * k.val, 0] := by
  revert q k g; decide +kernel
theorem off3_eq (k : Fin k0_t2_loop.trips) (g : Fin 4) : k0_off3 k (BitVec.ofNat 32 (192 * g.val)) = ![192 * g.val + 8 * k.val, 0] := by
  revert k g; decide +kernel

theorem k_lt (k : Fin k0_t2_loop.trips) : k.val < 24 := Nat.lt_of_lt_of_le k.isLt k0_t2_abs.2.1

/-- The unit that row `j` of trip `k` is. -/
def unit (k : Fin k0_t2_loop.trips) (j : S8x128.Idx) : Fin 192 := ⟨8 * k.val + (j 0).val, by have := k_lt k; have := idx2_lt0 j; omega⟩
/-- The batch column that lane `j` of block `b` is. -/
def col (b : Fin 2) (j : S8x128.Idx) : Fin 256 := ⟨128 * b.val + (j 1).val, by have := idx2_lt1 j; omega⟩

theorem unit_mod (k : Fin k0_t2_loop.trips) (j : S8x128.Idx) : (unit k j).val % 8 = (j 0).val := by
  have := idx2_lt0 j; simp only [unit]; omega
theorem lane_col (b : Fin 2) (j : S8x128.Idx) : lane (col b j) = j 1 := by
  have := idx2_lt1 j; apply Fin.ext; show (128 * b.val + (j 1).val) % 128 = (j 1).val; omega

theorem accIdx (b : Fin 2) (k : Fin k0_t2_loop.trips) (g : Fin 4) (j : S8x128.Idx) :
    (accRect b k g).toLoadRect.idx j = ix2 (rowG g (unit k j)) (col b j) := by
  funext a; apply Fin.ext
  show accOff b k g a + 1 * (j a).val = _
  rw [accOff_eq, Nat.one_mul]
  match a with
  | ⟨0, _⟩ => show 192 * g.val + 8 * k.val + (j 0).val = 192 * g.val + (8 * k.val + (j 0).val); omega
  | ⟨1, _⟩ => rfl
theorem hcIdx (b : Fin 2) (k : Fin k0_t2_loop.trips) (j : S8x128.Idx) :
    (hcRect b k).toLoadRect.idx j = ix2 (unit k j) (col b j) := by
  funext a; apply Fin.ext
  show hcOff b k a + 1 * (j a).val = _
  rw [hcOff_eq, Nat.one_mul]
  match a with
  | ⟨0, _⟩ => rfl
  | ⟨1, _⟩ => rfl
theorem biasIdx (b : Fin 2) (k : Fin k0_t2_loop.trips) (g : Fin 4) (j : S8x128.Idx) :
    (biasRect k g).toLoadRect.idx j = ix2 (rowG g (unit k j)) (lane (col b j)) := by
  rw [lane_col]
  funext a; apply Fin.ext
  show k0_off3 k (BitVec.ofNat 32 (192 * g.val)) a + 1 * (j a).val = _
  rw [off3_eq, Nat.one_mul]
  match a with
  | ⟨0, _⟩ => show 192 * g.val + 8 * k.val + (j 0).val = 192 * g.val + (8 * k.val + (j 0).val); omega
  | ⟨1, _⟩ => show 0 + (j 1).val = (j 1).val; omega
theorem parIdx (b : Fin 2) (q : Fin 4) (k : Fin k0_t2_loop.trips) (g : Fin 4) (j : S8x128.Idx) :
    (parRect q k g).toLoadRect.idx (ix3 0 (j 0) (j 1)) = ix3 q (rowG g (unit k j)) (lane (col b j)) := by
  rw [lane_col]
  funext a; apply Fin.ext
  show parOff q k g a + 1 * _ = _
  rw [parOff_eq, Nat.one_mul]
  match a with
  | ⟨0, _⟩ => show q.val + 0 = q.val; omega
  | ⟨1, _⟩ => show 192 * g.val + 8 * k.val + (j 0).val = 192 * g.val + (8 * k.val + (j 0).val); omega
  | ⟨2, _⟩ => show 0 + (j 1).val = (j 1).val; omega

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg15 : Memref sig .tc .vmem S192x256 .f32} {arg16 : Memref sig .tc .vmem S768x256 .f32} {arg17 : Memref sig .tc .vmem S768x256 .f32} {v3 : Elt F .i32} {v4 : Elt F .i32} {v5 : Elt F .i32} {v6 : Elt F .i32} {v7 : Elt F .i32} {v29 : IVec S8x128 32} {v31 : IVec S8x128 32} {v33 : IVec S8x128 32} {v35 : IVec S8x128 32} {v37 : IVec S8x128 32} {v39 : IVec S8x128 32} {v40 : Vec F S8x128 .i32} {v42 : Vec F S8x128 .i32} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg16 : BufTy.Contents (Elt F) arg16.view.ty} {X_arg17 : BufTy.Contents (Elt F) arg17.view.ty}

/-- What the region loaded: the eight quarters of the tables, and what the operands' memrefs read. -/
structure Loaded (P : Params) (ax ah : S768x256.Idx → W) (v3 v4 v5 v6 v7 : W) (v29 v31 v33 v35 v37 v39 v40 v42 : IVec S8x128 32)
    (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) : Prop where
  s0 : ∀ j : S8x128.Idx, v29 j = P.sg (ix2 ⟨0 + (j 0).val, by have := idx2_lt0 j; omega⟩ (j 1))
  s1 : ∀ j : S8x128.Idx, v31 j = P.sg (ix2 ⟨8 + (j 0).val, by have := idx2_lt0 j; omega⟩ (j 1))
  s2 : ∀ j : S8x128.Idx, v33 j = P.sg (ix2 ⟨16 + (j 0).val, by have := idx2_lt0 j; omega⟩ (j 1))
  s3 : ∀ j : S8x128.Idx, v35 j = P.sg (ix2 ⟨24 + (j 0).val, by have := idx2_lt0 j; omega⟩ (j 1))
  t0 : ∀ j : S8x128.Idx, v37 j = P.tn (ix2 ⟨0 + (j 0).val, by have := idx2_lt0 j; omega⟩ (j 1))
  t1 : ∀ j : S8x128.Idx, v39 j = P.tn (ix2 ⟨8 + (j 0).val, by have := idx2_lt0 j; omega⟩ (j 1))
  t2 : ∀ j : S8x128.Idx, v40 j = P.tn (ix2 ⟨16 + (j 0).val, by have := idx2_lt0 j; omega⟩ (j 1))
  t3 : ∀ j : S8x128.Idx, v42 j = P.tn (ix2 ⟨24 + (j 0).val, by have := idx2_lt0 j; omega⟩ (j 1))
  bx : arg5.view.read (Elt F) X_arg5 = P.bx
  bh : arg6.view.read (Elt F) X_arg6 = P.bh
  px : arg7.view.read (Elt F) X_arg7 = P.px
  ph : arg8.view.read (Elt F) X_arg8 = P.ph
  ax : ∀ i, FloatOps.fptosi (φ := .f32) 32 (arg16.view.read (Elt F) X_arg16 i) = ax i
  ah : ∀ i, FloatOps.fptosi (φ := .f32) 32 (arg17.view.read (Elt F) X_arg17 i) = ah i
  m : v3 = P.m
  half : v4 = P.half
  right : v5 = P.right
  left : v6 = P.left
  zp : v7 = P.zp

variable {P : Params} {ax ah : S768x256.Idx → W}

/-- A gate's clipped sum in a trip, at a lane. -/
theorem tripPre_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (b : Fin 2) (g : Fin 4) (j : S8x128.Idx) :
    tripPre X_arg5 X_arg6 X_arg7 X_arg8 X_arg16 X_arg17 k b g j = preA P ax ah g (unit k j) (col b j) := by
  unfold tripPre preV preA
  simp only [selfV_eq, planeV_apply]
  simp only [View.readAt_apply, biasIdx b, parIdx b, L.bx, L.bh, L.px, L.ph]
  rw [← L.ax, ← L.ah, ← accIdx, ]
  rfl

/-- A trip's cell state at a lane. -/
theorem tripC_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (f_arg14 : BufTy.Contents (Elt F) arg14.view.ty) (b : Fin 2) (j : S8x128.Idx) :
    tripC v29 v31 v33 v35 v37 v39 v40 v42 X_arg5 X_arg6 X_arg7 X_arg8 X_arg16 X_arg17 k f_arg14 b j
      = cA P ax ah (arg14.view.read (Elt F) f_arg14) (unit k j) (col b j) := by
  unfold tripC tripSig cA
  rw [lutV_apply P.sg _ _ _ _ _ L.s0 L.s1 L.s2 L.s3 j _ (unit_mod k j), lutV_apply P.sg _ _ _ _ _ L.s0 L.s1 L.s2 L.s3 j _ (unit_mod k j),
    selfV_eq, selfV_eq, selfV_eq, lutV_apply P.tn _ _ _ _ _ L.t0 L.t1 L.t2 L.t3 j _ (unit_mod k j),
    tripPre_apply L, tripPre_apply L, tripPre_apply L, View.readAt_apply, hcIdx]

/-- A trip's hidden state at a lane. -/
theorem tripH_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (f_arg14 : BufTy.Contents (Elt F) arg14.view.ty) (b : Fin 2) (j : S8x128.Idx) :
    tripH v3 v4 v5 v6 v7 v29 v31 v33 v35 v37 v39 v40 v42 X_arg5 X_arg6 X_arg7 X_arg8 X_arg16 X_arg17 k f_arg14 b j
      = hA P ax ah (arg14.view.read (Elt F) f_arg14) (unit k j) (col b j) := by
  unfold tripH tripSig hA
  rw [lutV_apply P.sg _ _ _ _ _ L.s0 L.s1 L.s2 L.s3 j _ (unit_mod k j),
    selfV_eq, selfV_eq, lutV_apply P.tn _ _ _ _ _ L.t0 L.t1 L.t2 L.t3 j _ (unit_mod k j),
    tripPre_apply L, tripC_apply L, ← L.m, ← L.half, ← L.right, ← L.left, ← L.zp]

/-- An entry lies in some block of trip `k` exactly when its row is one of the trip's. -/
theorem mem_hcRect (b : Fin 2) (k : Fin k0_t2_loop.trips) (y : S192x256.Idx) :
    y ∈ (hcRect b k).set ↔ (8 * k.val ≤ (y 0).val ∧ (y 0).val < 8 * k.val + 8) ∧ (128 * b.val ≤ (y 1).val ∧ (y 1).val < 128 * b.val + 128) := by
  rw [Rect.mem_set_unit, hcOff_eq]
  constructor
  · intro h; exact ⟨h 0, h 1⟩
  · intro h a
    match a with
    | ⟨0, _⟩ => exact h.1
    | ⟨1, _⟩ => exact h.2

/-- The rows below the trips made so far hold the new value, the others the old. -/
theorem blocks_apply {e : EltTy} (M : Memref sig .tc .vmem S192x256 e) (f : BufTy.Contents (Elt F) M.view.ty) (k : Fin k0_t2_loop.trips) (G : S192x256.Idx → Elt F e)
    (w0 w1 : S8x128.Idx → Elt F e) (h0 : ∀ j, w0 j = G (ix2 (unit k j) (col 0 j))) (h1 : ∀ j, w1 j = G (ix2 (unit k j) (col 1 j))) (y : S192x256.Idx) :
    M.view.read (Elt F) (M.view.writes (Elt F) f [⟨hcRect 1 k, w1⟩, ⟨hcRect 0 k, w0⟩]) y
      = if 8 * k.val ≤ (y 0).val ∧ (y 0).val < 8 * k.val + 8 then G y else M.view.read (Elt F) f y := by
  split
  next h =>
    refine View.read_writes_apply_of_pieces M.view f G _ ?_ y ?_
    · intro p hp x
      rcases List.mem_cons.mp hp with rfl | hp
      · exact (h1 x).trans (congrArg G (hcIdx 1 k x).symm)
      · obtain rfl := List.mem_singleton.mp hp
        exact (h0 x).trans (congrArg G (hcIdx 0 k x).symm)
    · have hy := idx2_lt1 y
      by_cases hb : (y 1).val < 128
      · exact ⟨⟨hcRect 0 k, w0⟩, List.mem_cons_of_mem _ (List.mem_singleton.mpr rfl), (mem_hcRect 0 k y).mpr ⟨h, by simp; omega⟩⟩
      · exact ⟨_, List.mem_cons_self, (mem_hcRect 1 k y).mpr ⟨h, by simp; omega⟩⟩
  next h =>
    refine View.read_writes_apply_of_forall_not_mem M.view f y _ ?_
    intro p hp hm
    rcases List.mem_cons.mp hp with rfl | hp
    · exact h ((mem_hcRect 1 k y).mp hm).1
    · obtain rfl := List.mem_singleton.mp hp
      exact h ((mem_hcRect 0 k y).mp hm).1
end

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg15 : Memref sig .tc .vmem S192x256 .f32} {arg16 : Memref sig .tc .vmem S768x256 .f32} {arg17 : Memref sig .tc .vmem S768x256 .f32} {v3 : Elt F .i32} {v4 : Elt F .i32} {v5 : Elt F .i32} {v6 : Elt F .i32} {v7 : Elt F .i32} {v29 : IVec S8x128 32} {v31 : IVec S8x128 32} {v33 : IVec S8x128 32} {v35 : IVec S8x128 32} {v37 : IVec S8x128 32} {v39 : IVec S8x128 32} {v40 : Vec F S8x128 .i32} {v42 : Vec F S8x128 .i32} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg16 : BufTy.Contents (Elt F) arg16.view.ty} {X_arg17 : BufTy.Contents (Elt F) arg17.view.ty} {P : Params} {ax ah : S768x256.Idx → W}

/-- One trip on the cell state, which holds what `f0` holds on the trip's rows. -/
theorem step_c (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (k : Fin k0_t2_loop.trips) (f f0 : BufTy.Contents (Elt F) arg14.view.ty)
    (hold : ∀ y : S192x256.Idx, 8 * k.val ≤ (y 0).val → (y 0).val < 8 * k.val + 8 → arg14.view.read (Elt F) f y = arg14.view.read (Elt F) f0 y) (y : S192x256.Idx) :
    arg14.view.read (Elt F) (arg14.view.writes (Elt F) f [⟨hcRect 1 k, tripC v29 v31 v33 v35 v37 v39 v40 v42 X_arg5 X_arg6 X_arg7 X_arg8 X_arg16 X_arg17 k f 1⟩, ⟨hcRect 0 k, tripC v29 v31 v33 v35 v37 v39 v40 v42 X_arg5 X_arg6 X_arg7 X_arg8 X_arg16 X_arg17 k f 0⟩]) y
      = if 8 * k.val ≤ (y 0).val ∧ (y 0).val < 8 * k.val + 8 then cA P ax ah (arg14.view.read (Elt F) f0) (y 0) (y 1) else arg14.view.read (Elt F) f y := by
  refine blocks_apply arg14 f k (fun y => cA P ax ah (arg14.view.read (Elt F) f0) (y 0) (y 1)) _ _ (fun j => ?_) (fun j => ?_) y
  · exact (tripC_apply L k f 0 j).trans (cA_congr (hold _ (Nat.le_add_right _ _) (Nat.add_lt_add_left (idx2_lt0 j) _)))
  · exact (tripC_apply L k f 1 j).trans (cA_congr (hold _ (Nat.le_add_right _ _) (Nat.add_lt_add_left (idx2_lt0 j) _)))

/-- One trip on the hidden state. -/
theorem step_h (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (k : Fin k0_t2_loop.trips) (f15 : BufTy.Contents (Elt F) arg15.view.ty) (f f0 : BufTy.Contents (Elt F) arg14.view.ty)
    (hold : ∀ y : S192x256.Idx, 8 * k.val ≤ (y 0).val → (y 0).val < 8 * k.val + 8 → arg14.view.read (Elt F) f y = arg14.view.read (Elt F) f0 y) (y : S192x256.Idx) :
    arg15.view.read (Elt F) (arg15.view.writes (Elt F) f15 [⟨hcRect 1 k, selfV (sitofp (F := F) (s := S8x128) .f32 (tripH v3 v4 v5 v6 v7 v29 v31 v33 v35 v37 v39 v40 v42 X_arg5 X_arg6 X_arg7 X_arg8 X_arg16 X_arg17 k f 1))⟩, ⟨hcRect 0 k, selfV (sitofp (F := F) (s := S8x128) .f32 (tripH v3 v4 v5 v6 v7 v29 v31 v33 v35 v37 v39 v40 v42 X_arg5 X_arg6 X_arg7 X_arg8 X_arg16 X_arg17 k f 0))⟩]) y
      = if 8 * k.val ≤ (y 0).val ∧ (y 0).val < 8 * k.val + 8 then FloatOps.sitofp .f32 (hA P ax ah (arg14.view.read (Elt F) f0) (y 0) (y 1)) else arg15.view.read (Elt F) f15 y := by
  refine blocks_apply arg15 f15 k (fun y => FloatOps.sitofp .f32 (hA P ax ah (arg14.view.read (Elt F) f0) (y 0) (y 1))) _ _ (fun j => ?_) (fun j => ?_) y
  · rw [selfV_eq]
    exact congrArg (FloatOps.sitofp .f32) ((tripH_apply L k f 0 j).trans (hA_congr (hold _ (Nat.le_add_right _ _) (Nat.add_lt_add_left (idx2_lt0 j) _))))
  · rw [selfV_eq]
    exact congrArg (FloatOps.sitofp .f32) ((tripH_apply L k f 1 j).trans (hA_congr (hold _ (Nat.le_add_right _ _) (Nat.add_lt_add_left (idx2_lt0 j) _))))
end

theorem join (n : ℕ) {α : Type} (a : ℕ) (x z : α) :
    (if 8 * n ≤ a ∧ a < 8 * n + 8 then x else if a < 8 * n then x else z) = if a < 8 * (n + 1) then x else z := by
  split <;> split <;> (try split) <;> first | rfl | omega

theorem trips_t2 : k0_t2_loop.trips = 24 := by decide +kernel

/-- After `n` trips the rows of the first `n` units' blocks hold the next state, the others what they held. -/
theorem pb_apply (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n ≤ 24) :
    (∀ y, arg14.view.read (Elt F) (arg14.view.writes (Elt F) G_arg14 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).1) y
        = if (y 0).val < 8 * n then cA P ax ah (arg14.view.read (Elt F) G_arg14) (y 0) (y 1) else arg14.view.read (Elt F) G_arg14 y)
    ∧ (∀ y, arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).2) y
        = if (y 0).val < 8 * n then FloatOps.sitofp .f32 (hA P ax ah (arg14.view.read (Elt F) G_arg14) (y 0) (y 1)) else arg15.view.read (Elt F) G_arg15 y) := by
  induction n with
  | zero => exact ⟨fun y => by rw [if_neg (by omega)]; rfl, fun y => by rw [if_neg (by omega)]; rfl⟩
  | succ n ih =>
    obtain ⟨ihc, ihh⟩ := ih (by omega)
    have hk : n < k0_t2_loop.trips := by rw [trips_t2]; omega
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 ⟨n, hk⟩
    rw [hs]
    dsimp only [tripL_k0_t2]
    rw [trip_c, trip_h, View.writes_append, View.writes_append]
    generalize hP : (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n) = pb at ihc ihh ⊢
    refine ⟨fun y => ?_, fun y => ?_⟩
    · rw [step_c L ⟨n, hk⟩ _ G_arg14 (fun y h _ => by rw [ihc]; exact if_neg (by have h : 8 * n ≤ (y 0).val := h; omega)) y, ihc]
      exact join n _ _ _
    · rw [step_h L ⟨n, hk⟩ _ _ G_arg14 (fun y h _ => by rw [ihc]; exact if_neg (by have h : 8 * n ≤ (y 0).val := h; omega)) y, ihh]
      exact join n _ _ _

/-- The whole loop's cell state. -/
theorem pb_c (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n = 24) :
    arg14.view.read (Elt F) (arg14.view.writes (Elt F) G_arg14 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).1)
        = fun y => cA P ax ah (arg14.view.read (Elt F) G_arg14) (y 0) (y 1) := by
  funext y
  rw [hn, (pb_apply 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 L 24 (le_refl _)).1 y, if_pos (by have := idx2_lt0 y; omega)]

/-- The whole loop's hidden state. -/
theorem pb_h (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n = 24) :
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).2)
        = fun y => FloatOps.sitofp .f32 (hA P ax ah (arg14.view.read (Elt F) G_arg14) (y 0) (y 1)) := by
  funext y
  rw [hn, (pb_apply 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 L 24 (le_refl _)).2 y, if_pos (by have := idx2_lt0 y; omega)]

end Cert.Kernel.Gen

end

end
-- ==== Proof.LoopKernel.lean ====
/- The loop over time steps: its invariant, from the state at its entry. -/
module

public import proofs.«01_k».proof.Proof.ArrayKernel

@[expose] public section

set_option maxRecDepth 65536
set_option maxHeartbeats 4000000

noncomputable section

namespace Cert.Kernel.Gen

open Idealize.ShloMosaic Idealize.ShloMosaic.TcCoe Idealize.ShloMosaic.Tactic
open Idealize.ShloMosaic.ValueIdx Lstm
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The hidden and the cell state the kernel carries. -/
abbrev HC (F : FTy → Type) [FloatOps F] : Type := Vec F S192x256 .f32 × Vec F S192x256 .i32

/-- The inputs of one time step in a point's block of sixteen. -/
def xRow (x2 : Vec F S16x320x256 .i8) (t : ℕ) : Vec F S1x320x256 .i8 := fun j => x2 (ix3 ⟨t % 16, Nat.mod_lt _ (by decide)⟩ (j 1) (j 2))

/-- One time step on the carried state. -/
def hcNext (P : Params) (x2 : Vec F S16x320x256 .i8) (x3 : Vec F S768x320 .bf16) (x4 : Vec F S768x192 .bf16) (t : ℕ) (s : HC F) : HC F :=
  (fun y => FloatOps.sitofp .f32 (hA P (fun i => FloatOps.fptosi (φ := .f32) 32 (k0_pay160 (xRow x2 t) x3 i)) (fun i => FloatOps.fptosi (φ := .f32) 32 (k0_pay161 x4 s.1 i)) s.2 (y 0) (y 1)),
   fun y => cA P (fun i => FloatOps.fptosi (φ := .f32) 32 (k0_pay160 (xRow x2 t) x3 i)) (fun i => FloatOps.fptosi (φ := .f32) 32 (k0_pay161 x4 s.1 i)) s.2 (y 0) (y 1))

/-- The carried state before time step `t` of a point's block. -/
def hcAt (P : Params) (x2 : Vec F S16x320x256 .i8) (x3 : Vec F S768x320 .bf16) (x4 : Vec F S768x192 .bf16) (s : HC F) : ℕ → HC F
  | 0 => s
  | t + 1 => hcNext P x2 x3 x4 t (hcAt P x2 x3 x4 s t)

theorem hcAt_succ (P : Params) (x2 : Vec F S16x320x256 .i8) (x3 : Vec F S768x320 .bf16) (x4 : Vec F S768x192 .bf16) (s : HC F) (t : ℕ) :
    hcAt P x2 x3 x4 s (t + 1) = hcNext P x2 x3 x4 t (hcAt P x2 x3 x4 s t) := rfl

/-- The cell state after one more time step. -/
theorem hcAt_succ2 (P : Params) (x2 : Vec F S16x320x256 .i8) (x3 : Vec F S768x320 .bf16) (x4 : Vec F S768x192 .bf16) (s : HC F) (t : ℕ) :
    (hcAt P x2 x3 x4 s (t + 1)).2 = fun y => cA P (fun i => FloatOps.fptosi (φ := .f32) 32 (k0_pay160 (xRow x2 t) x3 i)) (fun i => FloatOps.fptosi (φ := .f32) 32 (k0_pay161 x4 (hcAt P x2 x3 x4 s t).1 i)) (hcAt P x2 x3 x4 s t).2 (y 0) (y 1) := by
  rw [hcAt_succ]; unfold hcNext; dsimp only

/-- The output row a time step stores, from the hidden state it ends with. -/
def outRow (h : Vec F S192x256 .f32) (r : Fin 192) (b : Fin 256) : Elt F .i8 := k0_pay6 h (ix3 0 r b)

/-- A whole buffer's rectangle reads every entry at itself. -/
theorem whole_idx2 {n0 n1 : Nat} (inb) (j : (⟨2, ![n0, n1]⟩ : Shape).Idx) :
    (Rect.unit (s := ⟨2, ![n0, n1]⟩) ![0, 0] ![n0, n1] inb).toLoadRect.idx j = j := by
  funext a; apply Fin.ext
  match a with
  | ⟨0, _⟩ => show 0 + 1 * (j 0).val = (j 0).val; omega
  | ⟨1, _⟩ => show 0 + 1 * (j 1).val = (j 1).val; omega

/-- Loading a whole buffer gives what it reads. -/
theorem readAt_whole2 {sp : Space} {n0 n1 : Nat} {e : EltTy} {M : Memref sig .tc sp ⟨2, ![n0, n1]⟩ e} (inb) {f : BufTy.Contents (Elt F) M.view.ty} {x}
    (hf : M.view.read (Elt F) f = x) : View.readAt (Elt F) M.view (Rect.unit (s := ⟨2, ![n0, n1]⟩) ![0, 0] ![n0, n1] inb).toLoadRect f = x := by
  funext j; rw [View.readAt_apply, whole_idx2, hf]

/-- A buffer stored whole reads what was stored. -/
theorem read_whole2 {sp : Space} {n0 n1 : Nat} {e : EltTy} (M : Memref sig .tc sp ⟨2, ![n0, n1]⟩ e) (inb) (f : BufTy.Contents (Elt F) M.view.ty) (w) :
    M.view.read (Elt F) (M.view.writes (Elt F) f [⟨Rect.unit (s := ⟨2, ![n0, n1]⟩) ![0, 0] ![n0, n1] inb, w⟩]) = w := by
  funext j
  have h := View.read_writes_cons_emb (v := M.view) (f := f) (Rect.unit (s := ⟨2, ![n0, n1]⟩) ![0, 0] ![n0, n1] inb) w [] j
  rwa [show (Rect.unit (s := ⟨2, ![n0, n1]⟩) ![0, 0] ![n0, n1] inb).emb j = j from whole_idx2 inb j] at h

/-- Eight rows of a table, loaded. -/
theorem quarter {M : Memref sig .tc .vmem S32x128 .i32} (q : Nat) (inb) {f : BufTy.Contents (Elt F) M.view.ty} {x : Vec F S32x128 .i32}
    (hf : M.view.read (Elt F) f = x) (j : S8x128.Idx) (hq : q + (j 0).val < 32) :
    View.readAt (Elt F) M.view (Rect.unit (s := S32x128) ![q, 0] S8x128.size inb).toLoadRect f j = x (ix2 ⟨q + (j 0).val, hq⟩ (j 1)) := by
  rw [View.readAt_apply, hf]
  refine congrArg x (funext fun a => Fin.ext ?_)
  match a with
  | ⟨0, _⟩ => show q + 1 * (j 0).val = q + (j 0).val; omega
  | ⟨1, _⟩ => show 0 + 1 * (j 1).val = (j 1).val; omega

theorem off1_eq (k : Fin k0_t1_loop.trips) : k0_off1 k = ![k.val, 0, 0] := by revert k; decide +kernel
theorem off11_eq (k : Fin k0_t1_loop.trips) : k0_off11 k = ![k.val, 0, 0] := by revert k; decide +kernel
theorem k1_lt (k : Fin k0_t1_loop.trips) : k.val < 16 := Nat.lt_of_lt_of_le k.isLt k0_t1_abs.2.1

/-- One time step's inputs, loaded. -/
theorem readAt_xRow {M : Memref sig .tc .vmem S16x320x256 .i8} (k : Fin k0_t1_loop.trips) {f : BufTy.Contents (Elt F) M.view.ty} {x : Vec F S16x320x256 .i8}
    (hf : M.view.read (Elt F) f = x) :
    View.readAt (Elt F) M.view (Rect.unit (s := S16x320x256) (k0_off1 k) S1x320x256.size (k0_off1_inb k)).toLoadRect f = xRow x k.val := by
  funext j
  rw [View.readAt_apply, hf]
  refine congrArg x (funext fun a => Fin.ext ?_)
  have e0 : k0_off1 k 0 = k.val := congrFun (off1_eq k) 0
  have e1 : k0_off1 k 1 = 0 := congrFun (off1_eq k) 1
  have e2 : k0_off1 k 2 = 0 := congrFun (off1_eq k) 2
  match a with
  | ⟨0, _⟩ =>
    have h0 : (j 0).val < 1 := (j 0).isLt
    have := k1_lt k
    show k0_off1 k 0 + 1 * (j 0).val = k.val % 16
    omega
  | ⟨1, _⟩ => show k0_off1 k 1 + 1 * (j 1).val = (j 1).val; omega
  | ⟨2, _⟩ => show k0_off1 k 2 + 1 * (j 2).val = (j 2).val; omega

/-- A time step stores its output row and keeps the others. -/
theorem rows_step {M : Memref sig .tc .vmem S16x192x256 .i8} (k : Fin k0_t1_loop.trips) {f : BufTy.Contents (Elt F) M.view.ty} {d : Vec F S16x192x256 .i8}
    (hf : M.view.read (Elt F) f = d) (st : ℕ → Vec F S192x256 .f32) {v : Vec F S192x256 .f32} (hv : v = st (k.val + 1))
    (hrows : ∀ t : Fin 16, t.val < k.val → ∀ r b, d (ix3 t r b) = outRow (st (t.val + 1)) r b)
    (t : Fin 16) (ht : t.val < k.val + 1) (r : Fin 192) (b : Fin 256) :
    M.view.read (Elt F) (M.view.writes (Elt F) f [⟨Rect.unit (s := S16x192x256) (k0_off11 k) S1x192x256.size (k0_off11_inb k), k0_pay6 v⟩]) (ix3 t r b)
      = outRow (st (t.val + 1)) r b := by
  by_cases h : t.val = k.val
  · have e : (Rect.unit (s := S16x192x256) (k0_off11 k) S1x192x256.size (k0_off11_inb k)).emb (ix3 0 r b) = ix3 t r b := by
      funext a; apply Fin.ext
      have e0 : k0_off11 k 0 = k.val := congrFun (off11_eq k) 0
      have e1 : k0_off11 k 1 = 0 := congrFun (off11_eq k) 1
      have e2 : k0_off11 k 2 = 0 := congrFun (off11_eq k) 2
      match a with
      | ⟨0, _⟩ => show k0_off11 k 0 + 1 * 0 = t.val; omega
      | ⟨1, _⟩ => show k0_off11 k 1 + 1 * r.val = r.val; omega
      | ⟨2, _⟩ => show k0_off11 k 2 + 1 * b.val = b.val; omega
    rw [← e, View.read_writes_cons_emb, h, ← hv]
    rfl
  · rw [View.read_writes_apply_of_forall_not_mem, hf, hrows t (by omega)]
    intro p hp hm
    obtain rfl := List.mem_singleton.mp hp
    have e0 : k0_off11 k 0 = k.val := congrFun (off11_eq k) 0
    have h3 : k0_off11 k 0 ≤ t.val ∧ t.val < k0_off11 k 0 + 1 := (Rect.mem_set_unit (inb := k0_off11_inb k).mp hm) 0
    omega

/-- The cell's operands, from the blocks. -/
abbrev params (x5 x6 : Vec F S768x128 .i32) (x7 x8 : Vec F S4x768x128 .i32) (x9 x10 : Vec F S32x128 .i32) (v3 v4 v5 v6 v7 : Elt F .i32) : Params :=
  ⟨x9, x10, x5, x6, x7, x8, v3, v4, v5, v6, v7⟩

section
variable (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 v4 v5 v6 v7 : Elt F .i32)
  (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (s : HC F)

/-- What is held before time step `k`: the operands, the output rows stored so far, and the carried state. -/
abbrev inv_k0_t1 (k : ℕ) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg13 fullShare d ∗ ⌜∀ t : Fin 16, t.val < k → ∀ r b, d (ix3 t r b) = outRow (hcAt (params x5 x6 x7 x8 x9 x10 v3 v4 v5 v6 v7) x2 x3 x4 s (t.val + 1)).1 r b⌝)
    ∗ owns (c : Thread nD τ) arg14 fullShare (hcAt (params x5 x6 x7 x8 x9 x10 v3 v4 v5 v6 v7) x2 x3 x4 s k).2
    ∗ owns (c : Thread nD τ) arg15 fullShare (hcAt (params x5 x6 x7 x8 x9 x10 v3 v4 v5 v6 v7) x2 x3 x4 s k).1
    ∗ (∃ d, owns (c : Thread nD τ) arg16 fullShare d) ∗ (∃ d, owns (c : Thread nD τ) arg17 fullShare d))

/-- What a time step has loaded when its loop over units starts. -/
theorem loaded_of (k : Fin k0_t1_loop.trips) {f2 : BufTy.Contents (Elt F) arg2.view.ty} (hf2 : arg2.view.read (Elt F) f2 = x2) {f3 : BufTy.Contents (Elt F) arg3.view.ty} (hf3 : arg3.view.read (Elt F) f3 = x3) {f4 : BufTy.Contents (Elt F) arg4.view.ty} (hf4 : arg4.view.read (Elt F) f4 = x4) {f5 : BufTy.Contents (Elt F) arg5.view.ty} (hf5 : arg5.view.read (Elt F) f5 = x5) {f6 : BufTy.Contents (Elt F) arg6.view.ty} (hf6 : arg6.view.read (Elt F) f6 = x6) {f7 : BufTy.Contents (Elt F) arg7.view.ty} (hf7 : arg7.view.read (Elt F) f7 = x7) {f8 : BufTy.Contents (Elt F) arg8.view.ty} (hf8 : arg8.view.read (Elt F) f8 = x8) {f9 : BufTy.Contents (Elt F) arg9.view.ty} (hf9 : arg9.view.read (Elt F) f9 = x9) {f10 : BufTy.Contents (Elt F) arg10.view.ty} (hf10 : arg10.view.read (Elt F) f10 = x10)
    {f15 : BufTy.Contents (Elt F) arg15.view.ty} {h : Vec F S192x256 .f32} (hf15 : arg15.view.read (Elt F) f15 = h)
    (g16 : BufTy.Contents (Elt F) arg16.view.ty) (g17 : BufTy.Contents (Elt F) arg17.view.ty) :
    Loaded (arg5 := arg5) (arg6 := arg6) (arg7 := arg7) (arg8 := arg8) (arg16 := arg16) (arg17 := arg17) (params x5 x6 x7 x8 x9 x10 v3 v4 v5 v6 v7)
      (fun i => FloatOps.fptosi (φ := .f32) 32 (k0_pay160 (xRow x2 k.val) x3 i)) (fun i => FloatOps.fptosi (φ := .f32) 32 (k0_pay161 x4 h i)) v3 v4 v5 v6 v7
      (k0_pay162 (View.readAt (Elt F) arg9.view (Rect.unit (s := S32x128) ![0, 0] S8x128.size inb_S32x128_S8x128_0_0).toLoadRect f9))
      (k0_pay163 (View.readAt (Elt F) arg9.view (Rect.unit (s := S32x128) ![8, 0] S8x128.size inb_S32x128_S8x128_8_0).toLoadRect f9))
      (k0_pay164 (View.readAt (Elt F) arg9.view (Rect.unit (s := S32x128) ![16, 0] S8x128.size inb_S32x128_S8x128_16_0).toLoadRect f9))
      (k0_pay165 (View.readAt (Elt F) arg9.view (Rect.unit (s := S32x128) ![24, 0] S8x128.size inb_S32x128_S8x128_24_0).toLoadRect f9))
      (k0_pay166 (View.readAt (Elt F) arg10.view (Rect.unit (s := S32x128) ![0, 0] S8x128.size inb_S32x128_S8x128_0_0).toLoadRect f10))
      (k0_pay167 (View.readAt (Elt F) arg10.view (Rect.unit (s := S32x128) ![8, 0] S8x128.size inb_S32x128_S8x128_8_0).toLoadRect f10))
      (View.readAt (Elt F) arg10.view (Rect.unit (s := S32x128) ![16, 0] ![8, 128] inb_S32x128_S8x128_16_0).toLoadRect f10)
      (View.readAt (Elt F) arg10.view (Rect.unit (s := S32x128) ![24, 0] ![8, 128] inb_S32x128_S8x128_24_0).toLoadRect f10)
      f5 f6 f7 f8
      (arg16.view.writes (Elt F) g16 [⟨Rect.unit (s := S768x256) ![0, 0] S768x256.size inb_S768x256_S768x256_0_0, k0_pay160 (View.readAt (Elt F) arg2.view (Rect.unit (s := S16x320x256) (k0_off1 k) S1x320x256.size (k0_off1_inb k)).toLoadRect f2) (View.readAt (Elt F) arg3.view (Rect.unit (s := S768x320) ![0, 0] S768x320.size inb_S768x320_S768x320_0_0).toLoadRect f3)⟩])
      (arg17.view.writes (Elt F) g17 [⟨Rect.unit (s := S768x256) ![0, 0] S768x256.size inb_S768x256_S768x256_0_0, k0_pay161 (View.readAt (Elt F) arg4.view (Rect.unit (s := S768x192) ![0, 0] S768x192.size inb_S768x192_S768x192_0_0).toLoadRect f4) (View.readAt (Elt F) arg15.view (Rect.unit (s := S192x256) ![0, 0] S192x256.size inb_S192x256_S192x256_0_0).toLoadRect f15)⟩]) where
  s0 := fun j => (congrFun (shapeCast_self _ _) j).trans (quarter 0 _ hf9 j _)
  s1 := fun j => (congrFun (shapeCast_self _ _) j).trans (quarter 8 _ hf9 j _)
  s2 := fun j => (congrFun (shapeCast_self _ _) j).trans (quarter 16 _ hf9 j _)
  s3 := fun j => (congrFun (shapeCast_self _ _) j).trans (quarter 24 _ hf9 j _)
  t0 := fun j => (congrFun (shapeCast_self _ _) j).trans (quarter 0 _ hf10 j _)
  t1 := fun j => (congrFun (shapeCast_self _ _) j).trans (quarter 8 _ hf10 j _)
  t2 := fun j => quarter 16 _ hf10 j _
  t3 := fun j => quarter 24 _ hf10 j _
  bx := hf5
  bh := hf6
  px := hf7
  ph := hf8
  ax := fun i => by
    rw [show arg16.view.read (Elt F) _ = _ from read_whole2 arg16 _ g16 _, readAt_xRow k hf2, show View.readAt (Elt F) arg3.view _ f3 = _ from readAt_whole2 _ hf3]
  ah := fun i => by
    rw [show arg17.view.read (Elt F) _ = _ from read_whole2 arg17 _ g17 _, show View.readAt (Elt F) arg4.view _ f4 = _ from readAt_whole2 _ hf4, show View.readAt (Elt F) arg15.view _ f15 = _ from readAt_whole2 _ hf15]
  m := rfl
  half := rfl
  right := rfl
  left := rfl
  zp := rfl

set_option maxHeartbeats 400000 in
/-- One time step keeps it. -/
theorem step_k0_t1 (k : Fin k0_t1_loop.trips) :
    inv_k0_t1 c arg2 arg3 arg4 arg5 arg6 arg7 arg8 arg9 arg10 arg13 arg14 arg15 arg16 arg17 v3 v4 v5 v6 v7 x2 x3 x4 x5 x6 x7 x8 x9 x10 s k.val
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 k ())
          (fun _ => inv_k0_t1 c arg2 arg3 arg4 arg5 arg6 arg7 arg8 arg9 arg10 arg13 arg14 arg15 arg16 arg17 v3 v4 v5 v6 v7 x2 x3 x4 x5 x6 x7 x8 x9 x10 s (k.val + 1)) := by
  have hk : k.val < 16 := Nat.lt_of_lt_of_le k.isLt k0_t1_abs.2.1
  unfold k0_t1_body
  simp only [k0_part32_eq_skeleton]
  unfold inv_k0_t1 owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, ⟨%f13, %hf13, H13⟩, %hrows⟩, ⟨%f14, %hf14, H14⟩, ⟨%f15, %hf15, H15⟩, ⟨%d16, %f16, -, H16⟩, ⟨%d17, %f17, -, H17⟩⟩
  sl_exec
  sl_step
  have hL := loaded_of arg2 arg3 arg4 arg5 arg6 arg7 arg8 arg9 arg10 arg15 arg16 arg17 v3 v4 v5 v6 v7 x2 x3 x4 x5 x6 x7 x8 x9 x10 k hf2 hf3 hf4 hf5 hf6 hf7 hf8 hf9 hf10 hf15 arg16.view.junk arg17.view.junk
  have h14 := pb_c Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 _ _ _ _ _ _ _ _ f5 f6 f7 f8 _ _ f14 f15 hL (Scf.trips k0_t2_loop.lb k0_t2_loop.ub k0_t2_loop.st) trips_t2
  have h15 := pb_h Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 _ _ _ _ _ _ _ _ f5 f6 f7 f8 _ _ f14 f15 hL (Scf.trips k0_t2_loop.lb k0_t2_loop.ub k0_t2_loop.st) trips_t2
  rw [hf14] at h14 h15
  isplitl [H2]
  · iexists _; isplitr; swap; (iexact H2); ipureintro; exact hf2
  isplitl [H3]
  · iexists _; isplitr; swap; (iexact H3); ipureintro; exact hf3
  isplitl [H4]
  · iexists _; isplitr; swap; (iexact H4); ipureintro; exact hf4
  isplitl [H5]
  · iexists _; isplitr; swap; (iexact H5); ipureintro; exact hf5
  isplitl [H6]
  · iexists _; isplitr; swap; (iexact H6); ipureintro; exact hf6
  isplitl [H7]
  · iexists _; isplitr; swap; (iexact H7); ipureintro; exact hf7
  isplitl [H8]
  · iexists _; isplitr; swap; (iexact H8); ipureintro; exact hf8
  isplitl [H9]
  · iexists _; isplitr; swap; (iexact H9); ipureintro; exact hf9
  isplitl [H10]
  · iexists _; isplitr; swap; (iexact H10); ipureintro; exact hf10
  isplitl [H13]
  · iexists _; isplitl [H13]
    · iexists _; isplitr; swap; (iexact H13); ipureintro; rfl
    · ipureintro
      unfold step_k0_t1.sl.v45 step_k0_t1.sl.r step_k0_t1.sl.r_1 step_k0_t1.sl.r_2 step_k0_t1.sl.r_3 step_k0_t1.sl.r_4 step_k0_t1.sl.r_5 step_k0_t1.sl.H16_1 step_k0_t1.sl.H17_1
      exact fun t ht r b => rows_step k hf13 (fun n => (hcAt (params x5 x6 x7 x8 x9 x10 v3 v4 v5 v6 v7) x2 x3 x4 s n).1) (readAt_whole2 _ h15) hrows t ht r b
  isplitl [H14]
  · iexists _; isplitr; swap; (iexact H14); ipureintro; unfold step_k0_t1.sl.r step_k0_t1.sl.r_1 step_k0_t1.sl.r_2 step_k0_t1.sl.r_3 step_k0_t1.sl.r_4 step_k0_t1.sl.r_5 step_k0_t1.sl.H16_1 step_k0_t1.sl.H17_1; refine Eq.trans ?_ (hcAt_succ2 _ _ _ _ _ _).symm; rw [h14]
  isplitl [H15]
  · iexists _; isplitr; swap; (iexact H15); ipureintro; rw [hcAt_succ]; unfold step_k0_t1.sl.r step_k0_t1.sl.r_1 step_k0_t1.sl.r_2 step_k0_t1.sl.r_3 step_k0_t1.sl.r_4 step_k0_t1.sl.r_5 step_k0_t1.sl.H16_1 step_k0_t1.sl.H17_1 hcNext; exact h15
  isplitl [H16]
  · iexists _; iexists _; isplitr; swap; (iexact H16); ipureintro; rfl
  · iexists _; iexists _; isplitr; swap; (iexact H17); ipureintro; rfl
end

end Cert.Kernel.Gen

end

end
-- ==== Proof.BodyKernel.lean ====
/- The kernel's body at one grid point: what it leaves in its outputs and in the scratch it carries. -/
module

public import proofs.«01_k».proof.Proof.LoopKernel

@[expose] public section

set_option maxRecDepth 65536
set_option maxHeartbeats 4000000

noncomputable section

namespace Cert.Kernel.Gen

open Idealize.ShloMosaic Idealize.ShloMosaic.TcCoe Idealize.ShloMosaic.Tactic
open Idealize.ShloMosaic.ValueIdx Lstm
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition: the point is the first. -/
abbrev cond0_0 (i : grid0.Coords) : Prop := (Scalar.cmpi .ne (Scalar.extui (Scalar.cmpi .eq (BitVec.ofNat 32 (i 0).val) 0#32)) 0#32) = 1#1

/-- A scalar operand. -/
def sc (x1 : Vec F S5 .i32) (n : Fin 5) : W := x1 (ix1 n)

/-- A scalar operand, loaded. -/
theorem sc_of {M : Memref sig .tc .smem S5 .i32} {f : BufTy.Contents (Elt F) M.view.ty} {x : Vec F S5 .i32} (hf : M.view.read (Elt F) f = x) (n : Fin 5)
    (inb) (j : S1.Idx) : View.readAt (Elt F) M.view (Rect.unit (s := S5) ![n.val] S1.size inb).toLoadRect f j = sc x n := by
  rw [View.readAt_apply, hf]
  refine congrArg x ?_
  funext a; apply Fin.ext
  match a with
  | ⟨0, _⟩ => show n.val + 1 * (j 0).val = n.val; have : (j 0).val < 1 := (j 0).isLt; omega

/-- The initial states are stored as they were loaded. -/
theorem pay1_self (v : Vec F S192x256 .f32) : k0_pay1 v = v := by
  unfold k0_pay1; dsimp only; rw [shapeCast_self, shapeCast_self]
theorem pay2_self (v : Vec F S192x256 .i32) : k0_pay2 v = v := by
  unfold k0_pay2; dsimp only; rw [shapeCast_self]

theorem trips_t1 : Scf.trips k0_t1_loop.lb k0_t1_loop.ub k0_t1_loop.st = 16 := by decide +kernel

/-- The operands of a point, as parameters of one time step. -/
def bodyParams (x1 : Vec F S5 .i32) (x5 x6 : Vec F S768x128 .i32) (x7 x8 : Vec F S4x768x128 .i32) (x9 x10 : Vec F S32x128 .i32) : Params :=
  params (F := F) x5 x6 x7 x8 x9 x10 (sc x1 0) (sc x1 1) (sc x1 2) (sc x1 3) (sc x1 4)

/-- The sixteen rows of hidden states a point leaves. -/
def rowsOf (st : ℕ → HC F) : Vec F S16x192x256 .i8 := fun y => outRow (st ((y 0).val + 1)).1 (y 1) (y 2)

theorem rowsOf_eq (st : ℕ → HC F) (d : Vec F S16x192x256 .i8)
    (h : ∀ t : Fin 16, t.val < 16 → ∀ r b, d (ix3 t r b) = outRow (st (t.val + 1)).1 r b) : d = rowsOf st := by
  funext y
  have e : y = ix3 (y 0) (y 1) (y 2) := by funext a; match a with | ⟨0, _⟩ => rfl | ⟨1, _⟩ => rfl | ⟨2, _⟩ => rfl
  rw [e]
  exact h (y 0) (y 0).isLt (y 1) (y 2)

/-- The body at a later point: it starts from the states carried to it. -/
theorem body_B (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (hc0 : ¬ cond0_0 i)
    (x1 : Vec F S5 .i32) (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (x11 : Vec F S192x256 .f32) (x12 : Vec F S192x256 .i32) (xo : Vec F S192x256 .i32) (xs : Vec F S192x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xo ∗ owns (c : Thread nD τ) arg15 fullShare xs ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (rowsOf (hcAt (bodyParams x1 x5 x6 x7 x8 x9 x10) x2 x3 x4 (xs, xo))) ∗ owns (c : Thread nD τ) arg14 fullShare (hcAt (bodyParams x1 x5 x6 x7 x8 x9 x10) x2 x3 x4 (xs, xo) 16).2 ∗ owns (c : Thread nD τ) arg15 fullShare (hcAt (bodyParams x1 x5 x6 x7 x8 x9 x10) x2 x3 x4 (xs, xo) 16).1 ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_int_lstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_int_lstm_eq_skeleton]; unfold cc0_int_lstm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%d17, %f17, -, H17⟩, Hk⟩
  sl_exec (disch := first | sl_exact hc0)
  have e0 : body_B.sl.r c arg1 f1 = sc x1 0 := by unfold body_B.sl.r; exact sc_of hf1 0 _ _
  have e1 : body_B.sl.r_1 c arg1 f1 = sc x1 1 := by unfold body_B.sl.r_1; exact sc_of hf1 1 _ _
  have e2 : body_B.sl.r_2 c arg1 f1 = sc x1 2 := by unfold body_B.sl.r_2; exact sc_of hf1 2 _ _
  have e3 : body_B.sl.r_3 c arg1 f1 = sc x1 3 := by unfold body_B.sl.r_3; exact sc_of hf1 3 _ _
  have e4 : body_B.sl.r_4 c arg1 f1 = sc x1 4 := by unfold body_B.sl.r_4; exact sc_of hf1 4 _ _
  rw [e0, e1, e2, e3, e4]
  sl_for (fun k _ => (inv_k0_t1 c arg2 arg3 arg4 arg5 arg6 arg7 arg8 arg9 arg10 arg13 arg14 arg15 arg16 arg17 (sc x1 0) (sc x1 1) (sc x1 2) (sc x1 3) (sc x1 4) x2 x3 x4 x5 x6 x7 x8 x9 x10 (xs, xo)) k) $$ [H2 H3 H4 H5 H6 H7 H8 H9 H10 H13 H14 H15 H16 H17]
  case region =>
    intro k _; exact step_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc x1 0) (sc x1 1) (sc x1 2) (sc x1 3) (sc x1 4) x2 x3 x4 x5 x6 x7 x8 x9 x10 (xs, xo) k
  · unfold inv_k0_t1 owns
    isplitl [H2]; · iexists _; isplitr; swap; (iexact H2); ipureintro; exact hf2
    isplitl [H3]; · iexists _; isplitr; swap; (iexact H3); ipureintro; exact hf3
    isplitl [H4]; · iexists _; isplitr; swap; (iexact H4); ipureintro; exact hf4
    isplitl [H5]; · iexists _; isplitr; swap; (iexact H5); ipureintro; exact hf5
    isplitl [H6]; · iexists _; isplitr; swap; (iexact H6); ipureintro; exact hf6
    isplitl [H7]; · iexists _; isplitr; swap; (iexact H7); ipureintro; exact hf7
    isplitl [H8]; · iexists _; isplitr; swap; (iexact H8); ipureintro; exact hf8
    isplitl [H9]; · iexists _; isplitr; swap; (iexact H9); ipureintro; exact hf9
    isplitl [H10]; · iexists _; isplitr; swap; (iexact H10); ipureintro; exact hf10
    isplitl [H13]
    · iexists _; isplitl [H13]
      · iexists _; isplitr; swap; (iexact H13); ipureintro; rfl
      · ipureintro; exact fun t ht => absurd ht (Nat.not_lt_zero _)
    isplitl [H14]; · iexists _; isplitr; swap; (iexact H14); ipureintro; exact hf14
    isplitl [H15]; · iexists _; isplitr; swap; (iexact H15); ipureintro; exact hf15
    isplitl [H16]; · iexists _; iexists _; isplitr; swap; (iexact H16); ipureintro; rfl
    iexists _; iexists _; isplitr; swap; (iexact H17); ipureintro; rfl
  iintro %acc HI
  have ht : Scf.trips k0_t1_loop.lb k0_t1_loop.ub k0_t1_loop.st = 16 := trips_t1
  rw [ht]; unfold inv_k0_t1 owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%d, ⟨%g13, %hg13, H13⟩, %hd⟩, ⟨%g14, %hg14, H14⟩, ⟨%g15, %hg15, H15⟩, H16, H17⟩
  sl_step
  iapply Hk
  isplitl [H1]; · iexists _; isplitr; swap; (iexact H1); ipureintro; exact hf1
  isplitl [H2]; · iexists _; isplitr; swap; (iexact H2); ipureintro; exact hg2
  isplitl [H3]; · iexists _; isplitr; swap; (iexact H3); ipureintro; exact hg3
  isplitl [H4]; · iexists _; isplitr; swap; (iexact H4); ipureintro; exact hg4
  isplitl [H5]; · iexists _; isplitr; swap; (iexact H5); ipureintro; exact hg5
  isplitl [H6]; · iexists _; isplitr; swap; (iexact H6); ipureintro; exact hg6
  isplitl [H7]; · iexists _; isplitr; swap; (iexact H7); ipureintro; exact hg7
  isplitl [H8]; · iexists _; isplitr; swap; (iexact H8); ipureintro; exact hg8
  isplitl [H9]; · iexists _; isplitr; swap; (iexact H9); ipureintro; exact hg9
  isplitl [H10]; · iexists _; isplitr; swap; (iexact H10); ipureintro; exact hg10
  isplitl [H11]; · iexists _; isplitr; swap; (iexact H11); ipureintro; exact hf11
  isplitl [H12]; · iexists _; isplitr; swap; (iexact H12); ipureintro; exact hf12
  isplitl [H13]; · iexists _; isplitr; swap; (iexact H13); ipureintro; exact hg13.trans (rowsOf_eq _ d hd)
  isplitl [H14]; · iexists _; isplitr; swap; (iexact H14); ipureintro; exact hg14
  isplitl [H15]; · iexists _; isplitr; swap; (iexact H15); ipureintro; exact hg15
  isplitl [H16]; · iexact H16
  iexact H17

/-- The body at the first point: it starts from the initial states. -/
theorem body_A (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (hc0 : cond0_0 i)
    (x1 : Vec F S5 .i32) (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (x11 : Vec F S192x256 .f32) (x12 : Vec F S192x256 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (rowsOf (hcAt (bodyParams x1 x5 x6 x7 x8 x9 x10) x2 x3 x4 (x11, x12))) ∗ owns (c : Thread nD τ) arg14 fullShare (hcAt (bodyParams x1 x5 x6 x7 x8 x9 x10) x2 x3 x4 (x11, x12) 16).2 ∗ owns (c : Thread nD τ) arg15 fullShare (hcAt (bodyParams x1 x5 x6 x7 x8 x9 x10) x2 x3 x4 (x11, x12) 16).1 ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_int_lstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_int_lstm_eq_skeleton]; unfold cc0_int_lstm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0)
  have h14 : arg14.view.read (Elt F) (arg14.view.writes (Elt F) arg14.view.junk (body_A.sl.H14_1 c arg12 f12)) = x12 := by
    unfold body_A.sl.H14_1; refine (read_whole2 arg14 _ _ _).trans ?_; exact (pay2_self _).trans <| readAt_whole2 _ hf12
  have h15 : arg15.view.read (Elt F) (arg15.view.writes (Elt F) arg15.view.junk (body_A.sl.H15_1 c arg11 f11)) = x11 := by
    unfold body_A.sl.H15_1; refine (read_whole2 arg15 _ _ _).trans ?_; exact (pay1_self _).trans <| readAt_whole2 _ hf11
  have e0 : body_A.sl.r c arg1 f1 = sc x1 0 := by unfold body_A.sl.r; exact sc_of hf1 0 _ _
  have e1 : body_A.sl.r_1 c arg1 f1 = sc x1 1 := by unfold body_A.sl.r_1; exact sc_of hf1 1 _ _
  have e2 : body_A.sl.r_2 c arg1 f1 = sc x1 2 := by unfold body_A.sl.r_2; exact sc_of hf1 2 _ _
  have e3 : body_A.sl.r_3 c arg1 f1 = sc x1 3 := by unfold body_A.sl.r_3; exact sc_of hf1 3 _ _
  have e4 : body_A.sl.r_4 c arg1 f1 = sc x1 4 := by unfold body_A.sl.r_4; exact sc_of hf1 4 _ _
  rw [e0, e1, e2, e3, e4]
  sl_for (fun k _ => (inv_k0_t1 c arg2 arg3 arg4 arg5 arg6 arg7 arg8 arg9 arg10 arg13 arg14 arg15 arg16 arg17 (sc x1 0) (sc x1 1) (sc x1 2) (sc x1 3) (sc x1 4) x2 x3 x4 x5 x6 x7 x8 x9 x10 (x11, x12)) k) $$ [H2 H3 H4 H5 H6 H7 H8 H9 H10 H13 H14 H15 H16 H17]
  case region =>
    intro k _; exact step_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc x1 0) (sc x1 1) (sc x1 2) (sc x1 3) (sc x1 4) x2 x3 x4 x5 x6 x7 x8 x9 x10 (x11, x12) k
  · unfold inv_k0_t1 owns
    isplitl [H2]; · iexists _; isplitr; swap; (iexact H2); ipureintro; exact hf2
    isplitl [H3]; · iexists _; isplitr; swap; (iexact H3); ipureintro; exact hf3
    isplitl [H4]; · iexists _; isplitr; swap; (iexact H4); ipureintro; exact hf4
    isplitl [H5]; · iexists _; isplitr; swap; (iexact H5); ipureintro; exact hf5
    isplitl [H6]; · iexists _; isplitr; swap; (iexact H6); ipureintro; exact hf6
    isplitl [H7]; · iexists _; isplitr; swap; (iexact H7); ipureintro; exact hf7
    isplitl [H8]; · iexists _; isplitr; swap; (iexact H8); ipureintro; exact hf8
    isplitl [H9]; · iexists _; isplitr; swap; (iexact H9); ipureintro; exact hf9
    isplitl [H10]; · iexists _; isplitr; swap; (iexact H10); ipureintro; exact hf10
    isplitl [H13]
    · iexists _; isplitl [H13]
      · iexists _; isplitr; swap; (iexact H13); ipureintro; rfl
      · ipureintro; exact fun t ht => absurd ht (Nat.not_lt_zero _)
    isplitl [H14]; · iexists _; isplitr; swap; (iexact H14); ipureintro; exact h14
    isplitl [H15]; · iexists _; isplitr; swap; (iexact H15); ipureintro; exact h15
    isplitl [H16]; · iexists _; iexists _; isplitr; swap; (iexact H16); ipureintro; rfl
    iexists _; iexists _; isplitr; swap; (iexact H17); ipureintro; rfl
  iintro %acc HI
  have ht : Scf.trips k0_t1_loop.lb k0_t1_loop.ub k0_t1_loop.st = 16 := trips_t1
  rw [ht]; unfold inv_k0_t1 owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%d, ⟨%g13, %hg13, H13⟩, %hd⟩, ⟨%g14, %hg14, H14⟩, ⟨%g15, %hg15, H15⟩, H16, H17⟩
  unfold body_A.sl.prog.cont_1; sl_step
  iapply Hk
  isplitl [H1]; · iexists _; isplitr; swap; (iexact H1); ipureintro; exact hf1
  isplitl [H2]; · iexists _; isplitr; swap; (iexact H2); ipureintro; exact hg2
  isplitl [H3]; · iexists _; isplitr; swap; (iexact H3); ipureintro; exact hg3
  isplitl [H4]; · iexists _; isplitr; swap; (iexact H4); ipureintro; exact hg4
  isplitl [H5]; · iexists _; isplitr; swap; (iexact H5); ipureintro; exact hg5
  isplitl [H6]; · iexists _; isplitr; swap; (iexact H6); ipureintro; exact hg6
  isplitl [H7]; · iexists _; isplitr; swap; (iexact H7); ipureintro; exact hg7
  isplitl [H8]; · iexists _; isplitr; swap; (iexact H8); ipureintro; exact hg8
  isplitl [H9]; · iexists _; isplitr; swap; (iexact H9); ipureintro; exact hg9
  isplitl [H10]; · iexists _; isplitr; swap; (iexact H10); ipureintro; exact hg10
  isplitl [H11]; · iexists _; isplitr; swap; (iexact H11); ipureintro; exact hf11
  isplitl [H12]; · iexists _; isplitr; swap; (iexact H12); ipureintro; exact hf12
  isplitl [H13]; · iexists _; isplitr; swap; (iexact H13); ipureintro; exact hg13.trans (rowsOf_eq _ d hd)
  isplitl [H14]; · iexists _; isplitr; swap; (iexact H14); ipureintro; exact hg14
  isplitl [H15]; · iexists _; isplitr; swap; (iexact H15); ipureintro; exact hg15
  isplitl [H16]; · iexact H16
  iexact H17

end Cert.Kernel.Gen

end
-- ==== Proof.RunKernel.lean ====
/- The kernel's run: what every grid point leaves, and the frame. -/
module

public import proofs.«01_k».proof.Proof.BodyKernel
public import proofs.«01_k».proof.Proof.Gen.Kernel.Frame
public import Idealize.ShloMosaic.Lib.Claim

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Lstm
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- Each window's current staging memref at point `t`, spelled as the pipeline passes it (`bodyAt0`), and its wholeness. -/
abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x320x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x320 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x768x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x768x128 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S192x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S192x256 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x192x256 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S192x256 .i32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S192x256 .f32 := Memref.whole cc0_scratch0
abbrev scM0_1 : Memref sig .tc .vmem S768x256 .f32 := Memref.whole cc0_scratch1
abbrev scM0_2 : Memref sig .tc .vmem S768x256 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the outputs hold after each point -/

/-- What a point leaves, from the hidden and the cell state it starts with: the rows of its block, the cell state, the hidden state. -/
def outOf (c : Dev nD) (t : Fin cfg0.N) (s : HC F) : Vec F S16x192x256 .i8 × Vec F S192x256 .i32 × Vec F S192x256 .f32 :=
  (rowsOf (hcAt (bodyParams (iblk m c 0 t) (iblk m c 4 t) (iblk m c 5 t) (iblk m c 6 t) (iblk m c 7 t) (iblk m c 8 t) (iblk m c 9 t)) (iblk m c 1 t) (iblk m c 2 t) (iblk m c 3 t) s),
   (hcAt (bodyParams (iblk m c 0 t) (iblk m c 4 t) (iblk m c 5 t) (iblk m c 6 t) (iblk m c 7 t) (iblk m c 8 t) (iblk m c 9 t)) (iblk m c 1 t) (iblk m c 2 t) (iblk m c 3 t) s 16).2,
   (hcAt (bodyParams (iblk m c 0 t) (iblk m c 4 t) (iblk m c 5 t) (iblk m c 6 t) (iblk m c 7 t) (iblk m c 8 t) (iblk m c 9 t)) (iblk m c 1 t) (iblk m c 2 t) (iblk m c 3 t) s 16).1)

/-- What the outputs' staging buffers and the carried scratch hold after the body at each point: the first from the initial states, each later one
    from what the point before left. -/
def outsAt0 (c : Dev nD) : (n : ℕ) → n < cfg0.N → Vec F S16x192x256 .i8 × Vec F S192x256 .i32 × Vec F S192x256 .f32
  | 0, hn => outOf m c ⟨0, hn⟩ (iblk m c 10 ⟨0, hn⟩, iblk m c 11 ⟨0, hn⟩)
  | n + 1, hn => outOf m c ⟨n + 1, hn⟩ ((outsAt0 c n (Nat.lt_of_succ_lt hn)).2.2, (outsAt0 c n (Nat.lt_of_succ_lt hn)).2.1)

theorem outsAt0_A (c : Dev nD) (t : Fin cfg0.N) (h0 : t.val = 0) :
    outsAt0 m c t.val t.isLt = outOf m c t (iblk m c 10 t, iblk m c 11 t) := by
  obtain ⟨n, hn⟩ := t
  cases n with
  | zero => unfold outsAt0; rfl
  | succ n => exact absurd h0 (Nat.succ_ne_zero n)

theorem outsAt0_B (c : Dev nD) (t : Fin cfg0.N) (h0 : ¬t.val = 0) :
    outsAt0 m c t.val t.isLt = outOf m c t ((outsAt0 m c (t.val - 1) (Nat.lt_of_le_of_lt (Nat.sub_le _ _) t.isLt)).2.2, (outsAt0 m c (t.val - 1) (Nat.lt_of_le_of_lt (Nat.sub_le _ _) t.isLt)).2.1) := by
  obtain ⟨n, hn⟩ := t
  cases n with
  | zero => exact absurd rfl h0
  | succ n => rw [outsAt0.eq_2]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val = 0) (d) :
    (dats m 0 c).before 13 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: the inputs' memrefs hold their blocks, the carried scratch what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 64 := lt_of_lt_of_eq t.isLt (show cfg0.N = 64 from N_0)
  by_cases h0 : t.val = 0
  · rw [PhiS_castSucc m c t, PhiS_zero m c _ _ h0, PhiA0_eq]
    rw [outsAt0_A m c t h0]
    unfold outOf; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_A c (grid0.coords t) _ _ _ _ _ _ _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [PhiS_castSucc m c t, PhiS_pos m c _ _ h0]
    rw [outsAt0_B m c t h0]
    simp only [before0_13_B m c t h0]
    unfold outOf; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_B c (grid0.coords t) _ _ _ _ _ _ _ _ _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel.Gen

end
-- ==== Proof.TripKernelIdeal.lean ====
/- One trip of the loop over units: the two column blocks it stores, as vector functions of what it loads. -/
module

public import proofs.«01_k».proof.Proof.Cell
public import proofs.«01_k».proof.Proof.Gen.KernelIdeal.Loops

@[expose] public section

set_option maxRecDepth 65536
set_option maxHeartbeats 4000000

noncomputable section

namespace Cert.KernelIdeal.Gen

open Idealize.ShloMosaic Idealize.ShloMosaic.TcCoe Lstm

variable {F : FTy → Type} [FloatOps F]

/-- Where column block `b` of a gate's rows starts in a [768, 256] accumulator. -/
abbrev accOff (b : Fin 2) (k : Fin k0_t2_loop.trips) (g : Fin 4) : Fin 2 → Nat :=
  match b with
  | 0 => k0_off2 k (BitVec.ofNat 32 (192 * g.val))
  | 1 => k0_off9 k (BitVec.ofNat 32 (192 * g.val))
/-- It is in bounds. -/
theorem accOff_inb (b : Fin 2) (k : Fin k0_t2_loop.trips) (g : Fin 4) : ∀ a, accOff b k g a + S8x128.size a ≤ S768x256.size a :=
  match b with
  | 0 => k0_off2_inb k g
  | 1 => k0_off9_inb k g
/-- Column block `b` of a gate's rows of an accumulator. -/
abbrev accRect (b : Fin 2) (k : Fin k0_t2_loop.trips) (g : Fin 4) : Rect S768x256 :=
  Rect.unit (s := S768x256) (accOff b k g) S8x128.size (accOff_inb b k g)

/-- Where column block `b` of a unit's rows starts in the state. -/
abbrev hcOff (b : Fin 2) (k : Fin k0_t2_loop.trips) : Fin 2 → Nat :=
  match b with
  | 0 => k0_off8 k
  | 1 => k0_off10 k
/-- It is in bounds. -/
theorem hcOff_inb (b : Fin 2) (k : Fin k0_t2_loop.trips) : ∀ a, hcOff b k a + S8x128.size a ≤ S192x256.size a :=
  match b with
  | 0 => k0_off8_inb k
  | 1 => k0_off10_inb k
/-- Column block `b` of a unit's rows of the state. -/
abbrev hcRect (b : Fin 2) (k : Fin k0_t2_loop.trips) : Rect S192x256 :=
  Rect.unit (s := S192x256) (hcOff b k) S8x128.size (hcOff_inb b k)

/-- A gate's rows of a bias plane. -/
abbrev biasRect (k : Fin k0_t2_loop.trips) (g : Fin 4) : Rect S768x128 :=
  Rect.unit (s := S768x128) (k0_off3 k (BitVec.ofNat 32 (192 * g.val))) S8x128.size (k0_off3_inb k g)

/-- Where a gate's rows of parameter plane `q` start. -/
abbrev parOff (q : Fin 4) (k : Fin k0_t2_loop.trips) (g : Fin 4) : Fin 3 → Nat :=
  match q with
  | 0 => k0_off4 k (BitVec.ofNat 32 (192 * g.val))
  | 1 => k0_off5 k (BitVec.ofNat 32 (192 * g.val))
  | 2 => k0_off6 k (BitVec.ofNat 32 (192 * g.val))
  | 3 => k0_off7 k (BitVec.ofNat 32 (192 * g.val))
/-- They are in bounds. -/
theorem parOff_inb (q : Fin 4) (k : Fin k0_t2_loop.trips) (g : Fin 4) : ∀ a, parOff q k g a + S1x8x128.size a ≤ S4x768x128.size a :=
  match q with
  | 0 => k0_off4_inb k g
  | 1 => k0_off5_inb k g
  | 2 => k0_off6_inb k g
  | 3 => k0_off7_inb k g
/-- A gate's rows of parameter plane `q`. -/
abbrev parRect (q : Fin 4) (k : Fin k0_t2_loop.trips) (g : Fin 4) : Rect S4x768x128 :=
  Rect.unit (s := S4x768x128) (parOff q k g) S1x8x128.size (parOff_inb q k g)

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips)

/-- A gate's clipped sum on column block `b` in trip `k`. -/
def tripPre (b : Fin 2) (g : Fin 4) : IVec S8x128 32 :=
  preV (fptosi (s := S8x128) (φ := .f32) 32 (View.readAt (Elt F) arg16.view (accRect b k g).toLoadRect X_arg16))
    (View.readAt (Elt F) arg5.view (biasRect k g).toLoadRect X_arg5)
    (View.readAt (Elt F) arg7.view (parRect 0 k g).toLoadRect X_arg7)
    (View.readAt (Elt F) arg7.view (parRect 1 k g).toLoadRect X_arg7)
    (View.readAt (Elt F) arg7.view (parRect 2 k g).toLoadRect X_arg7)
    (View.readAt (Elt F) arg7.view (parRect 3 k g).toLoadRect X_arg7)
    (fptosi (s := S8x128) (φ := .f32) 32 (View.readAt (Elt F) arg17.view (accRect b k g).toLoadRect X_arg17))
    (View.readAt (Elt F) arg6.view (biasRect k g).toLoadRect X_arg6)
    (View.readAt (Elt F) arg8.view (parRect 0 k g).toLoadRect X_arg8)
    (View.readAt (Elt F) arg8.view (parRect 1 k g).toLoadRect X_arg8)
    (View.readAt (Elt F) arg8.view (parRect 2 k g).toLoadRect X_arg8)
    (View.readAt (Elt F) arg8.view (parRect 3 k g).toLoadRect X_arg8)

/-- A sigmoid gate on column block `b`. -/
def tripSig (b : Fin 2) (g : Fin 4) : IVec S8x128 32 := lutV v29 v31 v33 v35 (tripPre X_arg5 X_arg6 X_arg7 X_arg8 X_arg16 X_arg17 k b g)

/-- The cell state stored on column block `b`, from what the block holds. -/
def tripC (f_arg14 : BufTy.Contents (Elt F) arg14.view.ty) (b : Fin 2) : IVec S8x128 32 := fun j =>
  nextCW (tripSig v29 v31 v33 v35 X_arg5 X_arg6 X_arg7 X_arg8 X_arg16 X_arg17 k b 0 j) (tripSig v29 v31 v33 v35 X_arg5 X_arg6 X_arg7 X_arg8 X_arg16 X_arg17 k b 1 j)
    (lutV v37 v39 (selfV v40) (selfV v42) (tripPre X_arg5 X_arg6 X_arg7 X_arg8 X_arg16 X_arg17 k b 2) j)
    (selfV (View.readAt (Elt F) arg14.view (hcRect b k).toLoadRect f_arg14) j)

/-- The hidden state stored on column block `b`, as words. -/
def tripH (f_arg14 : BufTy.Contents (Elt F) arg14.view.ty) (b : Fin 2) : IVec S8x128 32 := fun j =>
  nextHW (tripSig v29 v31 v33 v35 X_arg5 X_arg6 X_arg7 X_arg8 X_arg16 X_arg17 k b 3 j)
    (lutV v37 v39 (selfV v40) (selfV v42) (fun j => twiceW (tripC v29 v31 v33 v35 v37 v39 v40 v42 X_arg5 X_arg6 X_arg7 X_arg8 X_arg16 X_arg17 k f_arg14 b j)) j) v3 v4 v5 v6 v7
end

/-- Gate 0's clipped sum on column block 0. -/
theorem pre_00 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v151 (F := F) arg5 arg6 arg7 arg8 arg16 arg17 X_arg5 X_arg6 X_arg7 X_arg8 X_arg16 X_arg17 k = tripPre X_arg5 X_arg6 X_arg7 X_arg8 X_arg16 X_arg17 k 0 0 := rfl

/-- Gate 1's clipped sum on column block 0. -/
theorem pre_01 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v291 (F := F) arg5 arg6 arg7 arg8 arg16 arg17 X_arg5 X_arg6 X_arg7 X_arg8 X_arg16 X_arg17 k = tripPre X_arg5 X_arg6 X_arg7 X_arg8 X_arg16 X_arg17 k 0 1 := rfl

/-- Gate 2's clipped sum on column block 0. -/
theorem pre_02 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v431 (F := F) arg5 arg6 arg7 arg8 arg16 arg17 X_arg5 X_arg6 X_arg7 X_arg8 X_arg16 X_arg17 k = tripPre X_arg5 X_arg6 X_arg7 X_arg8 X_arg16 X_arg17 k 0 2 := rfl

/-- Gate 3's clipped sum on column block 0. -/
theorem pre_03 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v571 (F := F) arg5 arg6 arg7 arg8 arg16 arg17 X_arg5 X_arg6 X_arg7 X_arg8 X_arg16 X_arg17 k = tripPre X_arg5 X_arg6 X_arg7 X_arg8 X_arg16 X_arg17 k 0 3 := rfl

/-- Gate 0's clipped sum on column block 1. -/
theorem pre_10 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v823 (F := F) arg5 arg6 arg7 arg8 arg16 arg17 X_arg5 X_arg6 X_arg7 X_arg8 X_arg16 X_arg17 k = tripPre X_arg5 X_arg6 X_arg7 X_arg8 X_arg16 X_arg17 k 1 0 := rfl

/-- Gate 1's clipped sum on column block 1. -/
theorem pre_11 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v963 (F := F) arg5 arg6 arg7 arg8 arg16 arg17 X_arg5 X_arg6 X_arg7 X_arg8 X_arg16 X_arg17 k = tripPre X_arg5 X_arg6 X_arg7 X_arg8 X_arg16 X_arg17 k 1 1 := rfl

/-- Gate 2's clipped sum on column block 1. -/
theorem pre_12 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1103 (F := F) arg5 arg6 arg7 arg8 arg16 arg17 X_arg5 X_arg6 X_arg7 X_arg8 X_arg16 X_arg17 k = tripPre X_arg5 X_arg6 X_arg7 X_arg8 X_arg16 X_arg17 k 1 2 := rfl

/-- Gate 3's clipped sum on column block 1. -/
theorem pre_13 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1243 (F := F) arg5 arg6 arg7 arg8 arg16 arg17 X_arg5 X_arg6 X_arg7 X_arg8 X_arg16 X_arg17 k = tripPre X_arg5 X_arg6 X_arg7 X_arg8 X_arg16 X_arg17 k 1 3 := rfl

/-- Gate 0's activation on column block 0. -/
theorem act_00 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_12 (F := F) arg5 arg6 arg7 arg8 arg16 arg17 v29 v31 v33 v35 X_arg5 X_arg6 X_arg7 X_arg8 X_arg16 X_arg17 k = lutV v29 v31 v33 v35 (trip_k0_t2.sl.v151 (F := F) arg5 arg6 arg7 arg8 arg16 arg17 X_arg5 X_arg6 X_arg7 X_arg8 X_arg16 X_arg17 k) := rfl

/-- Gate 1's activation on column block 0. -/
theorem act_01 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_25 (F := F) arg5 arg6 arg7 arg8 arg16 arg17 v29 v31 v33 v35 X_arg5 X_arg6 X_arg7 X_arg8 X_arg16 X_arg17 k = lutV v29 v31 v33 v35 (trip_k0_t2.sl.v291 (F := F) arg5 arg6 arg7 arg8 arg16 arg17 X_arg5 X_arg6 X_arg7 X_arg8 X_arg16 X_arg17 k) := rfl

/-- Gate 2's activation on column block 0. -/
theorem act_02 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_36 (F := F) arg5 arg6 arg7 arg8 arg16 arg17 v37 v39 v40 v42 X_arg5 X_arg6 X_arg7 X_arg8 X_arg16 X_arg17 k = lutV v37 v39 (selfV v40) (selfV v42) (trip_k0_t2.sl.v431 (F := F) arg5 arg6 arg7 arg8 arg16 arg17 X_arg5 X_arg6 X_arg7 X_arg8 X_arg16 X_arg17 k) := rfl

/-- Gate 3's activation on column block 0. -/
theorem act_03 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v611 (F := F) arg5 arg6 arg7 arg8 arg16 arg17 v29 v31 v33 v35 X_arg5 X_arg6 X_arg7 X_arg8 X_arg16 X_arg17 k = lutV v29 v31 v33 v35 (trip_k0_t2.sl.v571 (F := F) arg5 arg6 arg7 arg8 arg16 arg17 X_arg5 X_arg6 X_arg7 X_arg8 X_arg16 X_arg17 k) := rfl

/-- Gate 0's activation on column block 1. -/
theorem act_10 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_53 (F := F) arg5 arg6 arg7 arg8 arg16 arg17 v29 v31 v33 v35 X_arg5 X_arg6 X_arg7 X_arg8 X_arg16 X_arg17 k = lutV v29 v31 v33 v35 (trip_k0_t2.sl.v823 (F := F) arg5 arg6 arg7 arg8 arg16 arg17 X_arg5 X_arg6 X_arg7 X_arg8 X_arg16 X_arg17 k) := rfl

/-- Gate 1's activation on column block 1. -/
theorem act_11 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_60 (F := F) arg5 arg6 arg7 arg8 arg16 arg17 v29 v31 v33 v35 X_arg5 X_arg6 X_arg7 X_arg8 X_arg16 X_arg17 k = lutV v29 v31 v33 v35 (trip_k0_t2.sl.v963 (F := F) arg5 arg6 arg7 arg8 arg16 arg17 X_arg5 X_arg6 X_arg7 X_arg8 X_arg16 X_arg17 k) := rfl

/-- Gate 2's activation on column block 1. -/
theorem act_12 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.r_64 (F := F) arg5 arg6 arg7 arg8 arg16 arg17 v37 v39 v40 v42 X_arg5 X_arg6 X_arg7 X_arg8 X_arg16 X_arg17 k = lutV v37 v39 (selfV v40) (selfV v42) (trip_k0_t2.sl.v1103 (F := F) arg5 arg6 arg7 arg8 arg16 arg17 X_arg5 X_arg6 X_arg7 X_arg8 X_arg16 X_arg17 k) := rfl

/-- Gate 3's activation on column block 1. -/
theorem act_13 {arg5 : Memref sig .tc .vmem S768x128 .i32} {arg6 : Memref sig .tc .vmem S768x128 .i32} {arg7 : Memref sig .tc .vmem S4x768x128 .i32} {arg8 : Memref sig .tc .vmem S4x768x128 .i32} {arg16 : Memref sig .tc .vmem S768x256 .f32} {arg17 : Memref sig .tc .vmem S768x256 .f32} (v29 : IVec S8x128 32) (v31 : IVec S8x128 32) (v33 : IVec S8x128 32) (v35 : IVec S8x128 32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) :
    trip_k0_t2.sl.v1283 (F := F) arg5 arg6 arg7 arg8 arg16 arg17 v29 v31 v33 v35 X_arg5 X_arg6 X_arg7 X_arg8 X_arg16 X_arg17 k = lutV v29 v31 v33 v35 (trip_k0_t2.sl.v1243 (F := F) arg5 arg6 arg7 arg8 arg16 arg17 X_arg5 X_arg6 X_arg7 X_arg8 X_arg16 X_arg17 k) := rfl

/-- The cell state stored on column block 0, from the activations. -/
theorem cell_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v637 (F := F) arg5 arg6 arg7 arg8 arg14 arg16 arg17 v29 v31 v33 v35 v37 v39 v40 v42 X_arg5 X_arg6 X_arg7 X_arg8 X_arg16 X_arg17 k f_arg14 = fun j => nextCW (trip_k0_t2.sl.r_12 (F := F) arg5 arg6 arg7 arg8 arg16 arg17 v29 v31 v33 v35 X_arg5 X_arg6 X_arg7 X_arg8 X_arg16 X_arg17 k j) (trip_k0_t2.sl.r_25 (F := F) arg5 arg6 arg7 arg8 arg16 arg17 v29 v31 v33 v35 X_arg5 X_arg6 X_arg7 X_arg8 X_arg16 X_arg17 k j) (trip_k0_t2.sl.r_36 (F := F) arg5 arg6 arg7 arg8 arg16 arg17 v37 v39 v40 v42 X_arg5 X_arg6 X_arg7 X_arg8 X_arg16 X_arg17 k j) (selfV (View.readAt (Elt F) arg14.view (hcRect 0 k).toLoadRect f_arg14) j) := rfl

/-- The doubled cell state on column block 0. -/
theorem twice_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v645 (F := F) arg5 arg6 arg7 arg8 arg14 arg16 arg17 v29 v31 v33 v35 v37 v39 v40 v42 X_arg5 X_arg6 X_arg7 X_arg8 X_arg16 X_arg17 k f_arg14 = fun j => twiceW (trip_k0_t2.sl.v637 (F := F) arg5 arg6 arg7 arg8 arg14 arg16 arg17 v29 v31 v33 v35 v37 v39 v40 v42 X_arg5 X_arg6 X_arg7 X_arg8 X_arg16 X_arg17 k f_arg14 j) := rfl

/-- The cell state looked up on column block 0. -/
theorem look_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v685 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (trip_k0_t2.sl.v645 (F := F) arg5 arg6 arg7 arg8 arg14 arg16 arg17 v29 v31 v33 v35 v37 v39 v40 v42 X_arg5 X_arg6 X_arg7 X_arg8 X_arg16 X_arg17 k f_arg14) := rfl

/-- The stored cell state on column block 0 is the cell function. -/
theorem tripC_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v637 (F := F) arg5 arg6 arg7 arg8 arg14 arg16 arg17 v29 v31 v33 v35 v37 v39 v40 v42 X_arg5 X_arg6 X_arg7 X_arg8 X_arg16 X_arg17 k f_arg14 = tripC v29 v31 v33 v35 v37 v39 v40 v42 X_arg5 X_arg6 X_arg7 X_arg8 X_arg16 X_arg17 k f_arg14 0 := by
  rw [cell_0, act_00, act_01, act_02, pre_00, pre_01, pre_02]; rfl

/-- The cell state looked up on column block 0, all told. -/
theorem tripT_0 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v685 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (fun j => twiceW (tripC v29 v31 v33 v35 v37 v39 v40 v42 X_arg5 X_arg6 X_arg7 X_arg8 X_arg16 X_arg17 k f_arg14 0 j)) := by
  rw [look_0, twice_0, tripC_0]

/-- The cell state stored on column block 1, from the activations. -/
theorem cell_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1309 (F := F) arg5 arg6 arg7 arg8 arg14 arg16 arg17 v29 v31 v33 v35 v37 v39 v40 v42 X_arg5 X_arg6 X_arg7 X_arg8 X_arg16 X_arg17 k f_arg14 = fun j => nextCW (trip_k0_t2.sl.r_53 (F := F) arg5 arg6 arg7 arg8 arg16 arg17 v29 v31 v33 v35 X_arg5 X_arg6 X_arg7 X_arg8 X_arg16 X_arg17 k j) (trip_k0_t2.sl.r_60 (F := F) arg5 arg6 arg7 arg8 arg16 arg17 v29 v31 v33 v35 X_arg5 X_arg6 X_arg7 X_arg8 X_arg16 X_arg17 k j) (trip_k0_t2.sl.r_64 (F := F) arg5 arg6 arg7 arg8 arg16 arg17 v37 v39 v40 v42 X_arg5 X_arg6 X_arg7 X_arg8 X_arg16 X_arg17 k j) (selfV (View.readAt (Elt F) arg14.view (hcRect 1 k).toLoadRect f_arg14) j) := rfl

/-- The doubled cell state on column block 1. -/
theorem twice_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1317 (F := F) arg5 arg6 arg7 arg8 arg14 arg16 arg17 v29 v31 v33 v35 v37 v39 v40 v42 X_arg5 X_arg6 X_arg7 X_arg8 X_arg16 X_arg17 k f_arg14 = fun j => twiceW (trip_k0_t2.sl.v1309 (F := F) arg5 arg6 arg7 arg8 arg14 arg16 arg17 v29 v31 v33 v35 v37 v39 v40 v42 X_arg5 X_arg6 X_arg7 X_arg8 X_arg16 X_arg17 k f_arg14 j) := rfl

/-- The cell state looked up on column block 1. -/
theorem look_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1357 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (trip_k0_t2.sl.v1317 (F := F) arg5 arg6 arg7 arg8 arg14 arg16 arg17 v29 v31 v33 v35 v37 v39 v40 v42 X_arg5 X_arg6 X_arg7 X_arg8 X_arg16 X_arg17 k f_arg14) := rfl

/-- The stored cell state on column block 1 is the cell function. -/
theorem tripC_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1309 (F := F) arg5 arg6 arg7 arg8 arg14 arg16 arg17 v29 v31 v33 v35 v37 v39 v40 v42 X_arg5 X_arg6 X_arg7 X_arg8 X_arg16 X_arg17 k f_arg14 = tripC v29 v31 v33 v35 v37 v39 v40 v42 X_arg5 X_arg6 X_arg7 X_arg8 X_arg16 X_arg17 k f_arg14 1 := by
  rw [cell_1, act_10, act_11, act_12, pre_10, pre_11, pre_12]; rfl

/-- The cell state looked up on column block 1, all told. -/
theorem tripT_1 {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg16 : Memref sig .tc .vmem S768x256 .f32} {arg17 : Memref sig .tc .vmem S768x256 .f32} (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) :
    trip_k0_t2.sl.v1357 (F := F) arg5 arg6 arg7 arg8 arg14 arg16 arg17 v29 v31 v33 v35 v37 v39 v40 v42 X_arg5 X_arg6 X_arg7 X_arg8 X_arg16 X_arg17 k f_arg14 = lutV v37 v39 (selfV v40) (selfV v42) (fun j => twiceW (tripC v29 v31 v33 v35 v37 v39 v40 v42 X_arg5 X_arg6 X_arg7 X_arg8 X_arg16 X_arg17 k f_arg14 1 j)) := by
  rw [look_1, twice_1, tripC_1]

/-- What one trip stores into the cell state: the two column blocks. -/
theorem trip_c (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).1 f_arg14 f_arg15 = [⟨hcRect 1 k, tripC v29 v31 v33 v35 v37 v39 v40 v42 X_arg5 X_arg6 X_arg7 X_arg8 X_arg16 X_arg17 k f_arg14 1⟩, ⟨hcRect 0 k, tripC v29 v31 v33 v35 v37 v39 v40 v42 X_arg5 X_arg6 X_arg7 X_arg8 X_arg16 X_arg17 k f_arg14 0⟩] := by
  rw [← tripC_0, ← tripC_1]; unfold trip_k0_t2; rfl

/-- What one trip stores into the hidden state, from its stages. -/
theorem trip_h_stages (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).2.1 f_arg14 f_arg15 = [⟨hcRect 1 k, selfV (sitofp (F := F) (s := S8x128) .f32 (fun j => nextHW (trip_k0_t2.sl.v1283 (F := F) arg5 arg6 arg7 arg8 arg16 arg17 v29 v31 v33 v35 X_arg5 X_arg6 X_arg7 X_arg8 X_arg16 X_arg17 k j) (trip_k0_t2.sl.v1357 (F := F) arg5 arg6 arg7 arg8 arg14 arg16 arg17 v29 v31 v33 v35 v37 v39 v40 v42 X_arg5 X_arg6 X_arg7 X_arg8 X_arg16 X_arg17 k f_arg14 j) v3 v4 v5 v6 v7))⟩, ⟨hcRect 0 k, selfV (sitofp (F := F) (s := S8x128) .f32 (fun j => nextHW (trip_k0_t2.sl.v611 (F := F) arg5 arg6 arg7 arg8 arg16 arg17 v29 v31 v33 v35 X_arg5 X_arg6 X_arg7 X_arg8 X_arg16 X_arg17 k j) (trip_k0_t2.sl.v685 (F := F) arg5 arg6 arg7 arg8 arg14 arg16 arg17 v29 v31 v33 v35 v37 v39 v40 v42 X_arg5 X_arg6 X_arg7 X_arg8 X_arg16 X_arg17 k f_arg14 j) v3 v4 v5 v6 v7))⟩] := by
  unfold trip_k0_t2; rfl

/-- What one trip stores into the hidden state: the two column blocks. -/
theorem trip_h (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (k : Fin k0_t2_loop.trips) (f_arg14 : BufTy.Contents (Elt F) arg14.view.ty) (f_arg15 : BufTy.Contents (Elt F) arg15.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 k).2.1 f_arg14 f_arg15 = [⟨hcRect 1 k, selfV (sitofp (F := F) (s := S8x128) .f32 (tripH v3 v4 v5 v6 v7 v29 v31 v33 v35 v37 v39 v40 v42 X_arg5 X_arg6 X_arg7 X_arg8 X_arg16 X_arg17 k f_arg14 1))⟩, ⟨hcRect 0 k, selfV (sitofp (F := F) (s := S8x128) .f32 (tripH v3 v4 v5 v6 v7 v29 v31 v33 v35 v37 v39 v40 v42 X_arg5 X_arg6 X_arg7 X_arg8 X_arg16 X_arg17 k f_arg14 0))⟩] := by
  rw [trip_h_stages, tripT_0, tripT_1, act_03, act_13, pre_03, pre_13]; rfl

end Cert.KernelIdeal.Gen

end
-- ==== Proof.ArrayKernelIdeal.lean ====
/- The loop over units: what a trip's blocks hold at an entry, and what the whole loop leaves. -/
module

public import proofs.«01_k».proof.Proof.Cells
public import proofs.«01_k».proof.Proof.TripKernelIdeal

@[expose] public section

set_option maxRecDepth 65536
set_option maxHeartbeats 4000000

noncomputable section

namespace Cert.KernelIdeal.Gen

open Idealize.ShloMosaic Idealize.ShloMosaic.TcCoe Idealize.ShloMosaic.ValueIdx Lstm

variable {F : FTy → Type} [FloatOps F]

theorem accOff_eq (b : Fin 2) (k : Fin k0_t2_loop.trips) (g : Fin 4) : accOff b k g = ![192 * g.val + 8 * k.val, 128 * b.val] := by
  revert b k g; decide +kernel
theorem hcOff_eq (b : Fin 2) (k : Fin k0_t2_loop.trips) : hcOff b k = ![8 * k.val, 128 * b.val] := by
  revert b k; decide +kernel
theorem parOff_eq (q : Fin 4) (k : Fin k0_t2_loop.trips) (g : Fin 4) : parOff q k g = ![q.val, 192 * g.val + 8 * k.val, 0] := by
  revert q k g; decide +kernel
theorem off3_eq (k : Fin k0_t2_loop.trips) (g : Fin 4) : k0_off3 k (BitVec.ofNat 32 (192 * g.val)) = ![192 * g.val + 8 * k.val, 0] := by
  revert k g; decide +kernel

theorem k_lt (k : Fin k0_t2_loop.trips) : k.val < 24 := Nat.lt_of_lt_of_le k.isLt k0_t2_abs.2.1

/-- The unit that row `j` of trip `k` is. -/
def unit (k : Fin k0_t2_loop.trips) (j : S8x128.Idx) : Fin 192 := ⟨8 * k.val + (j 0).val, by have := k_lt k; have := idx2_lt0 j; omega⟩
/-- The batch column that lane `j` of block `b` is. -/
def col (b : Fin 2) (j : S8x128.Idx) : Fin 256 := ⟨128 * b.val + (j 1).val, by have := idx2_lt1 j; omega⟩

theorem unit_mod (k : Fin k0_t2_loop.trips) (j : S8x128.Idx) : (unit k j).val % 8 = (j 0).val := by
  have := idx2_lt0 j; simp only [unit]; omega
theorem lane_col (b : Fin 2) (j : S8x128.Idx) : lane (col b j) = j 1 := by
  have := idx2_lt1 j; apply Fin.ext; show (128 * b.val + (j 1).val) % 128 = (j 1).val; omega

theorem accIdx (b : Fin 2) (k : Fin k0_t2_loop.trips) (g : Fin 4) (j : S8x128.Idx) :
    (accRect b k g).toLoadRect.idx j = ix2 (rowG g (unit k j)) (col b j) := by
  funext a; apply Fin.ext
  show accOff b k g a + 1 * (j a).val = _
  rw [accOff_eq, Nat.one_mul]
  match a with
  | ⟨0, _⟩ => show 192 * g.val + 8 * k.val + (j 0).val = 192 * g.val + (8 * k.val + (j 0).val); omega
  | ⟨1, _⟩ => rfl
theorem hcIdx (b : Fin 2) (k : Fin k0_t2_loop.trips) (j : S8x128.Idx) :
    (hcRect b k).toLoadRect.idx j = ix2 (unit k j) (col b j) := by
  funext a; apply Fin.ext
  show hcOff b k a + 1 * (j a).val = _
  rw [hcOff_eq, Nat.one_mul]
  match a with
  | ⟨0, _⟩ => rfl
  | ⟨1, _⟩ => rfl
theorem biasIdx (b : Fin 2) (k : Fin k0_t2_loop.trips) (g : Fin 4) (j : S8x128.Idx) :
    (biasRect k g).toLoadRect.idx j = ix2 (rowG g (unit k j)) (lane (col b j)) := by
  rw [lane_col]
  funext a; apply Fin.ext
  show k0_off3 k (BitVec.ofNat 32 (192 * g.val)) a + 1 * (j a).val = _
  rw [off3_eq, Nat.one_mul]
  match a with
  | ⟨0, _⟩ => show 192 * g.val + 8 * k.val + (j 0).val = 192 * g.val + (8 * k.val + (j 0).val); omega
  | ⟨1, _⟩ => show 0 + (j 1).val = (j 1).val; omega
theorem parIdx (b : Fin 2) (q : Fin 4) (k : Fin k0_t2_loop.trips) (g : Fin 4) (j : S8x128.Idx) :
    (parRect q k g).toLoadRect.idx (ix3 0 (j 0) (j 1)) = ix3 q (rowG g (unit k j)) (lane (col b j)) := by
  rw [lane_col]
  funext a; apply Fin.ext
  show parOff q k g a + 1 * _ = _
  rw [parOff_eq, Nat.one_mul]
  match a with
  | ⟨0, _⟩ => show q.val + 0 = q.val; omega
  | ⟨1, _⟩ => show 192 * g.val + 8 * k.val + (j 0).val = 192 * g.val + (8 * k.val + (j 0).val); omega
  | ⟨2, _⟩ => show 0 + (j 1).val = (j 1).val; omega

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg15 : Memref sig .tc .vmem S192x256 .f32} {arg16 : Memref sig .tc .vmem S768x256 .f32} {arg17 : Memref sig .tc .vmem S768x256 .f32} {v3 : Elt F .i32} {v4 : Elt F .i32} {v5 : Elt F .i32} {v6 : Elt F .i32} {v7 : Elt F .i32} {v29 : IVec S8x128 32} {v31 : IVec S8x128 32} {v33 : IVec S8x128 32} {v35 : IVec S8x128 32} {v37 : IVec S8x128 32} {v39 : IVec S8x128 32} {v40 : Vec F S8x128 .i32} {v42 : Vec F S8x128 .i32} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg16 : BufTy.Contents (Elt F) arg16.view.ty} {X_arg17 : BufTy.Contents (Elt F) arg17.view.ty}

/-- What the region loaded: the eight quarters of the tables, and what the operands' memrefs read. -/
structure Loaded (P : Params) (ax ah : S768x256.Idx → W) (v3 v4 v5 v6 v7 : W) (v29 v31 v33 v35 v37 v39 v40 v42 : IVec S8x128 32)
    (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) : Prop where
  s0 : ∀ j : S8x128.Idx, v29 j = P.sg (ix2 ⟨0 + (j 0).val, by have := idx2_lt0 j; omega⟩ (j 1))
  s1 : ∀ j : S8x128.Idx, v31 j = P.sg (ix2 ⟨8 + (j 0).val, by have := idx2_lt0 j; omega⟩ (j 1))
  s2 : ∀ j : S8x128.Idx, v33 j = P.sg (ix2 ⟨16 + (j 0).val, by have := idx2_lt0 j; omega⟩ (j 1))
  s3 : ∀ j : S8x128.Idx, v35 j = P.sg (ix2 ⟨24 + (j 0).val, by have := idx2_lt0 j; omega⟩ (j 1))
  t0 : ∀ j : S8x128.Idx, v37 j = P.tn (ix2 ⟨0 + (j 0).val, by have := idx2_lt0 j; omega⟩ (j 1))
  t1 : ∀ j : S8x128.Idx, v39 j = P.tn (ix2 ⟨8 + (j 0).val, by have := idx2_lt0 j; omega⟩ (j 1))
  t2 : ∀ j : S8x128.Idx, v40 j = P.tn (ix2 ⟨16 + (j 0).val, by have := idx2_lt0 j; omega⟩ (j 1))
  t3 : ∀ j : S8x128.Idx, v42 j = P.tn (ix2 ⟨24 + (j 0).val, by have := idx2_lt0 j; omega⟩ (j 1))
  bx : arg5.view.read (Elt F) X_arg5 = P.bx
  bh : arg6.view.read (Elt F) X_arg6 = P.bh
  px : arg7.view.read (Elt F) X_arg7 = P.px
  ph : arg8.view.read (Elt F) X_arg8 = P.ph
  ax : ∀ i, FloatOps.fptosi (φ := .f32) 32 (arg16.view.read (Elt F) X_arg16 i) = ax i
  ah : ∀ i, FloatOps.fptosi (φ := .f32) 32 (arg17.view.read (Elt F) X_arg17 i) = ah i
  m : v3 = P.m
  half : v4 = P.half
  right : v5 = P.right
  left : v6 = P.left
  zp : v7 = P.zp

variable {P : Params} {ax ah : S768x256.Idx → W}

/-- A gate's clipped sum in a trip, at a lane. -/
theorem tripPre_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (b : Fin 2) (g : Fin 4) (j : S8x128.Idx) :
    tripPre X_arg5 X_arg6 X_arg7 X_arg8 X_arg16 X_arg17 k b g j = preA P ax ah g (unit k j) (col b j) := by
  unfold tripPre preV preA
  simp only [selfV_eq, planeV_apply]
  simp only [View.readAt_apply, biasIdx b, parIdx b, L.bx, L.bh, L.px, L.ph]
  rw [← L.ax, ← L.ah, ← accIdx, ]
  rfl

/-- A trip's cell state at a lane. -/
theorem tripC_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (f_arg14 : BufTy.Contents (Elt F) arg14.view.ty) (b : Fin 2) (j : S8x128.Idx) :
    tripC v29 v31 v33 v35 v37 v39 v40 v42 X_arg5 X_arg6 X_arg7 X_arg8 X_arg16 X_arg17 k f_arg14 b j
      = cA P ax ah (arg14.view.read (Elt F) f_arg14) (unit k j) (col b j) := by
  unfold tripC tripSig cA
  rw [lutV_apply P.sg _ _ _ _ _ L.s0 L.s1 L.s2 L.s3 j _ (unit_mod k j), lutV_apply P.sg _ _ _ _ _ L.s0 L.s1 L.s2 L.s3 j _ (unit_mod k j),
    selfV_eq, selfV_eq, selfV_eq, lutV_apply P.tn _ _ _ _ _ L.t0 L.t1 L.t2 L.t3 j _ (unit_mod k j),
    tripPre_apply L, tripPre_apply L, tripPre_apply L, View.readAt_apply, hcIdx]

/-- A trip's hidden state at a lane. -/
theorem tripH_apply (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17)
    (k : Fin k0_t2_loop.trips) (f_arg14 : BufTy.Contents (Elt F) arg14.view.ty) (b : Fin 2) (j : S8x128.Idx) :
    tripH v3 v4 v5 v6 v7 v29 v31 v33 v35 v37 v39 v40 v42 X_arg5 X_arg6 X_arg7 X_arg8 X_arg16 X_arg17 k f_arg14 b j
      = hA P ax ah (arg14.view.read (Elt F) f_arg14) (unit k j) (col b j) := by
  unfold tripH tripSig hA
  rw [lutV_apply P.sg _ _ _ _ _ L.s0 L.s1 L.s2 L.s3 j _ (unit_mod k j),
    selfV_eq, selfV_eq, lutV_apply P.tn _ _ _ _ _ L.t0 L.t1 L.t2 L.t3 j _ (unit_mod k j),
    tripPre_apply L, tripC_apply L, ← L.m, ← L.half, ← L.right, ← L.left, ← L.zp]

/-- An entry lies in some block of trip `k` exactly when its row is one of the trip's. -/
theorem mem_hcRect (b : Fin 2) (k : Fin k0_t2_loop.trips) (y : S192x256.Idx) :
    y ∈ (hcRect b k).set ↔ (8 * k.val ≤ (y 0).val ∧ (y 0).val < 8 * k.val + 8) ∧ (128 * b.val ≤ (y 1).val ∧ (y 1).val < 128 * b.val + 128) := by
  rw [Rect.mem_set_unit, hcOff_eq]
  constructor
  · intro h; exact ⟨h 0, h 1⟩
  · intro h a
    match a with
    | ⟨0, _⟩ => exact h.1
    | ⟨1, _⟩ => exact h.2

/-- The rows below the trips made so far hold the new value, the others the old. -/
theorem blocks_apply {e : EltTy} (M : Memref sig .tc .vmem S192x256 e) (f : BufTy.Contents (Elt F) M.view.ty) (k : Fin k0_t2_loop.trips) (G : S192x256.Idx → Elt F e)
    (w0 w1 : S8x128.Idx → Elt F e) (h0 : ∀ j, w0 j = G (ix2 (unit k j) (col 0 j))) (h1 : ∀ j, w1 j = G (ix2 (unit k j) (col 1 j))) (y : S192x256.Idx) :
    M.view.read (Elt F) (M.view.writes (Elt F) f [⟨hcRect 1 k, w1⟩, ⟨hcRect 0 k, w0⟩]) y
      = if 8 * k.val ≤ (y 0).val ∧ (y 0).val < 8 * k.val + 8 then G y else M.view.read (Elt F) f y := by
  split
  next h =>
    refine View.read_writes_apply_of_pieces M.view f G _ ?_ y ?_
    · intro p hp x
      rcases List.mem_cons.mp hp with rfl | hp
      · exact (h1 x).trans (congrArg G (hcIdx 1 k x).symm)
      · obtain rfl := List.mem_singleton.mp hp
        exact (h0 x).trans (congrArg G (hcIdx 0 k x).symm)
    · have hy := idx2_lt1 y
      by_cases hb : (y 1).val < 128
      · exact ⟨⟨hcRect 0 k, w0⟩, List.mem_cons_of_mem _ (List.mem_singleton.mpr rfl), (mem_hcRect 0 k y).mpr ⟨h, by simp; omega⟩⟩
      · exact ⟨_, List.mem_cons_self, (mem_hcRect 1 k y).mpr ⟨h, by simp; omega⟩⟩
  next h =>
    refine View.read_writes_apply_of_forall_not_mem M.view f y _ ?_
    intro p hp hm
    rcases List.mem_cons.mp hp with rfl | hp
    · exact h ((mem_hcRect 1 k y).mp hm).1
    · obtain rfl := List.mem_singleton.mp hp
      exact h ((mem_hcRect 0 k y).mp hm).1
end

section
variable {arg5 : Memref sig .tc .vmem S768x128 .i32} {arg6 : Memref sig .tc .vmem S768x128 .i32} {arg7 : Memref sig .tc .vmem S4x768x128 .i32} {arg8 : Memref sig .tc .vmem S4x768x128 .i32} {arg14 : Memref sig .tc .vmem S192x256 .i32} {arg15 : Memref sig .tc .vmem S192x256 .f32} {arg16 : Memref sig .tc .vmem S768x256 .f32} {arg17 : Memref sig .tc .vmem S768x256 .f32} {v3 : Elt F .i32} {v4 : Elt F .i32} {v5 : Elt F .i32} {v6 : Elt F .i32} {v7 : Elt F .i32} {v29 : IVec S8x128 32} {v31 : IVec S8x128 32} {v33 : IVec S8x128 32} {v35 : IVec S8x128 32} {v37 : IVec S8x128 32} {v39 : IVec S8x128 32} {v40 : Vec F S8x128 .i32} {v42 : Vec F S8x128 .i32} {X_arg5 : BufTy.Contents (Elt F) arg5.view.ty} {X_arg6 : BufTy.Contents (Elt F) arg6.view.ty} {X_arg7 : BufTy.Contents (Elt F) arg7.view.ty} {X_arg8 : BufTy.Contents (Elt F) arg8.view.ty} {X_arg16 : BufTy.Contents (Elt F) arg16.view.ty} {X_arg17 : BufTy.Contents (Elt F) arg17.view.ty} {P : Params} {ax ah : S768x256.Idx → W}

/-- One trip on the cell state, which holds what `f0` holds on the trip's rows. -/
theorem step_c (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (k : Fin k0_t2_loop.trips) (f f0 : BufTy.Contents (Elt F) arg14.view.ty)
    (hold : ∀ y : S192x256.Idx, 8 * k.val ≤ (y 0).val → (y 0).val < 8 * k.val + 8 → arg14.view.read (Elt F) f y = arg14.view.read (Elt F) f0 y) (y : S192x256.Idx) :
    arg14.view.read (Elt F) (arg14.view.writes (Elt F) f [⟨hcRect 1 k, tripC v29 v31 v33 v35 v37 v39 v40 v42 X_arg5 X_arg6 X_arg7 X_arg8 X_arg16 X_arg17 k f 1⟩, ⟨hcRect 0 k, tripC v29 v31 v33 v35 v37 v39 v40 v42 X_arg5 X_arg6 X_arg7 X_arg8 X_arg16 X_arg17 k f 0⟩]) y
      = if 8 * k.val ≤ (y 0).val ∧ (y 0).val < 8 * k.val + 8 then cA P ax ah (arg14.view.read (Elt F) f0) (y 0) (y 1) else arg14.view.read (Elt F) f y := by
  refine blocks_apply arg14 f k (fun y => cA P ax ah (arg14.view.read (Elt F) f0) (y 0) (y 1)) _ _ (fun j => ?_) (fun j => ?_) y
  · exact (tripC_apply L k f 0 j).trans (cA_congr (hold _ (Nat.le_add_right _ _) (Nat.add_lt_add_left (idx2_lt0 j) _)))
  · exact (tripC_apply L k f 1 j).trans (cA_congr (hold _ (Nat.le_add_right _ _) (Nat.add_lt_add_left (idx2_lt0 j) _)))

/-- One trip on the hidden state. -/
theorem step_h (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (k : Fin k0_t2_loop.trips) (f15 : BufTy.Contents (Elt F) arg15.view.ty) (f f0 : BufTy.Contents (Elt F) arg14.view.ty)
    (hold : ∀ y : S192x256.Idx, 8 * k.val ≤ (y 0).val → (y 0).val < 8 * k.val + 8 → arg14.view.read (Elt F) f y = arg14.view.read (Elt F) f0 y) (y : S192x256.Idx) :
    arg15.view.read (Elt F) (arg15.view.writes (Elt F) f15 [⟨hcRect 1 k, selfV (sitofp (F := F) (s := S8x128) .f32 (tripH v3 v4 v5 v6 v7 v29 v31 v33 v35 v37 v39 v40 v42 X_arg5 X_arg6 X_arg7 X_arg8 X_arg16 X_arg17 k f 1))⟩, ⟨hcRect 0 k, selfV (sitofp (F := F) (s := S8x128) .f32 (tripH v3 v4 v5 v6 v7 v29 v31 v33 v35 v37 v39 v40 v42 X_arg5 X_arg6 X_arg7 X_arg8 X_arg16 X_arg17 k f 0))⟩]) y
      = if 8 * k.val ≤ (y 0).val ∧ (y 0).val < 8 * k.val + 8 then FloatOps.sitofp .f32 (hA P ax ah (arg14.view.read (Elt F) f0) (y 0) (y 1)) else arg15.view.read (Elt F) f15 y := by
  refine blocks_apply arg15 f15 k (fun y => FloatOps.sitofp .f32 (hA P ax ah (arg14.view.read (Elt F) f0) (y 0) (y 1))) _ _ (fun j => ?_) (fun j => ?_) y
  · rw [selfV_eq]
    exact congrArg (FloatOps.sitofp .f32) ((tripH_apply L k f 0 j).trans (hA_congr (hold _ (Nat.le_add_right _ _) (Nat.add_lt_add_left (idx2_lt0 j) _))))
  · rw [selfV_eq]
    exact congrArg (FloatOps.sitofp .f32) ((tripH_apply L k f 1 j).trans (hA_congr (hold _ (Nat.le_add_right _ _) (Nat.add_lt_add_left (idx2_lt0 j) _))))
end

theorem join (n : ℕ) {α : Type} (a : ℕ) (x z : α) :
    (if 8 * n ≤ a ∧ a < 8 * n + 8 then x else if a < 8 * n then x else z) = if a < 8 * (n + 1) then x else z := by
  split <;> split <;> (try split) <;> first | rfl | omega

theorem trips_t2 : k0_t2_loop.trips = 24 := by decide +kernel

/-- After `n` trips the rows of the first `n` units' blocks hold the next state, the others what they held. -/
theorem pb_apply (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n ≤ 24) :
    (∀ y, arg14.view.read (Elt F) (arg14.view.writes (Elt F) G_arg14 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).1) y
        = if (y 0).val < 8 * n then cA P ax ah (arg14.view.read (Elt F) G_arg14) (y 0) (y 1) else arg14.view.read (Elt F) G_arg14 y)
    ∧ (∀ y, arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).2) y
        = if (y 0).val < 8 * n then FloatOps.sitofp .f32 (hA P ax ah (arg14.view.read (Elt F) G_arg14) (y 0) (y 1)) else arg15.view.read (Elt F) G_arg15 y) := by
  induction n with
  | zero => exact ⟨fun y => by rw [if_neg (by omega)]; rfl, fun y => by rw [if_neg (by omega)]; rfl⟩
  | succ n ih =>
    obtain ⟨ihc, ihh⟩ := ih (by omega)
    have hk : n < k0_t2_loop.trips := by rw [trips_t2]; omega
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 ⟨n, hk⟩
    rw [hs]
    dsimp only [tripL_k0_t2]
    rw [trip_c, trip_h, View.writes_append, View.writes_append]
    generalize hP : (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n) = pb at ihc ihh ⊢
    refine ⟨fun y => ?_, fun y => ?_⟩
    · rw [step_c L ⟨n, hk⟩ _ G_arg14 (fun y h _ => by rw [ihc]; exact if_neg (by have h : 8 * n ≤ (y 0).val := h; omega)) y, ihc]
      exact join n _ _ _
    · rw [step_h L ⟨n, hk⟩ _ _ G_arg14 (fun y h _ => by rw [ihc]; exact if_neg (by have h : 8 * n ≤ (y 0).val := h; omega)) y, ihh]
      exact join n _ _ _

/-- The whole loop's cell state. -/
theorem pb_c (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n = 24) :
    arg14.view.read (Elt F) (arg14.view.writes (Elt F) G_arg14 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).1)
        = fun y => cA P ax ah (arg14.view.read (Elt F) G_arg14) (y 0) (y 1) := by
  funext y
  rw [hn, (pb_apply 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 L 24 (le_refl _)).1 y, if_pos (by have := idx2_lt0 y; omega)]

/-- The whole loop's hidden state. -/
theorem pb_h (𝒱 : Variants) (c : Dev nD) (bd : Option 𝒱.V) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 : Elt F .i32) (v4 : Elt F .i32) (v5 : Elt F .i32) (v6 : Elt F .i32) (v7 : Elt F .i32) (v29 : IVec S8x128 32) (v31 : IVec S8x128 32) (v33 : IVec S8x128 32) (v35 : IVec S8x128 32) (v37 : IVec S8x128 32) (v39 : IVec S8x128 32) (v40 : Vec F S8x128 .i32) (v42 : Vec F S8x128 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg16 : BufTy.Contents (Elt F) arg16.view.ty) (X_arg17 : BufTy.Contents (Elt F) arg17.view.ty) (G_arg14 : BufTy.Contents (Elt F) arg14.view.ty) (G_arg15 : BufTy.Contents (Elt F) arg15.view.ty)
    {P : Params} {ax ah : S768x256.Idx → W} (L : Loaded (arg5 := arg5) (arg6 := arg6) (arg7 := arg7) (arg8 := arg8) (arg16 := arg16) (arg17 := arg17) P ax ah v3 v4 v5 v6 v7 v29 v31 v33 v35 v37 v39 v40 v42 X_arg5 X_arg6 X_arg7 X_arg8 X_arg16 X_arg17) (n : ℕ) (hn : n = 24) :
    arg15.view.read (Elt F) (arg15.view.writes (Elt F) G_arg15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 n).2)
        = fun y => FloatOps.sitofp .f32 (hA P ax ah (arg14.view.read (Elt F) G_arg14) (y 0) (y 1)) := by
  funext y
  rw [hn, (pb_apply 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 v29 v31 v33 v35 v37 v39 v40 v42 X_arg5 X_arg6 X_arg7 X_arg8 X_arg16 X_arg17 G_arg14 G_arg15 L 24 (le_refl _)).2 y, if_pos (by have := idx2_lt0 y; omega)]

end Cert.KernelIdeal.Gen

end

end
-- ==== Proof.LoopKernelIdeal.lean ====
/- The loop over time steps: its invariant, from the state at its entry. -/
module

public import proofs.«01_k».proof.Proof.ArrayKernelIdeal

@[expose] public section

set_option maxRecDepth 65536
set_option maxHeartbeats 4000000

noncomputable section

namespace Cert.KernelIdeal.Gen

open Idealize.ShloMosaic Idealize.ShloMosaic.TcCoe Idealize.ShloMosaic.Tactic
open Idealize.ShloMosaic.ValueIdx Lstm
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The hidden and the cell state the kernel carries. -/
abbrev HC (F : FTy → Type) [FloatOps F] : Type := Vec F S192x256 .f32 × Vec F S192x256 .i32

/-- The inputs of one time step in a point's block of sixteen. -/
def xRow (x2 : Vec F S16x320x256 .i8) (t : ℕ) : Vec F S1x320x256 .i8 := fun j => x2 (ix3 ⟨t % 16, Nat.mod_lt _ (by decide)⟩ (j 1) (j 2))

/-- One time step on the carried state. -/
def hcNext (P : Params) (x2 : Vec F S16x320x256 .i8) (x3 : Vec F S768x320 .bf16) (x4 : Vec F S768x192 .bf16) (t : ℕ) (s : HC F) : HC F :=
  (fun y => FloatOps.sitofp .f32 (hA P (fun i => FloatOps.fptosi (φ := .f32) 32 (k0_pay160 (xRow x2 t) x3 i)) (fun i => FloatOps.fptosi (φ := .f32) 32 (k0_pay161 x4 s.1 i)) s.2 (y 0) (y 1)),
   fun y => cA P (fun i => FloatOps.fptosi (φ := .f32) 32 (k0_pay160 (xRow x2 t) x3 i)) (fun i => FloatOps.fptosi (φ := .f32) 32 (k0_pay161 x4 s.1 i)) s.2 (y 0) (y 1))

/-- The carried state before time step `t` of a point's block. -/
def hcAt (P : Params) (x2 : Vec F S16x320x256 .i8) (x3 : Vec F S768x320 .bf16) (x4 : Vec F S768x192 .bf16) (s : HC F) : ℕ → HC F
  | 0 => s
  | t + 1 => hcNext P x2 x3 x4 t (hcAt P x2 x3 x4 s t)

theorem hcAt_succ (P : Params) (x2 : Vec F S16x320x256 .i8) (x3 : Vec F S768x320 .bf16) (x4 : Vec F S768x192 .bf16) (s : HC F) (t : ℕ) :
    hcAt P x2 x3 x4 s (t + 1) = hcNext P x2 x3 x4 t (hcAt P x2 x3 x4 s t) := rfl

/-- The cell state after one more time step. -/
theorem hcAt_succ2 (P : Params) (x2 : Vec F S16x320x256 .i8) (x3 : Vec F S768x320 .bf16) (x4 : Vec F S768x192 .bf16) (s : HC F) (t : ℕ) :
    (hcAt P x2 x3 x4 s (t + 1)).2 = fun y => cA P (fun i => FloatOps.fptosi (φ := .f32) 32 (k0_pay160 (xRow x2 t) x3 i)) (fun i => FloatOps.fptosi (φ := .f32) 32 (k0_pay161 x4 (hcAt P x2 x3 x4 s t).1 i)) (hcAt P x2 x3 x4 s t).2 (y 0) (y 1) := by
  rw [hcAt_succ]; unfold hcNext; dsimp only

/-- The output row a time step stores, from the hidden state it ends with. -/
def outRow (h : Vec F S192x256 .f32) (r : Fin 192) (b : Fin 256) : Elt F .i8 := k0_pay6 h (ix3 0 r b)

/-- A whole buffer's rectangle reads every entry at itself. -/
theorem whole_idx2 {n0 n1 : Nat} (inb) (j : (⟨2, ![n0, n1]⟩ : Shape).Idx) :
    (Rect.unit (s := ⟨2, ![n0, n1]⟩) ![0, 0] ![n0, n1] inb).toLoadRect.idx j = j := by
  funext a; apply Fin.ext
  match a with
  | ⟨0, _⟩ => show 0 + 1 * (j 0).val = (j 0).val; omega
  | ⟨1, _⟩ => show 0 + 1 * (j 1).val = (j 1).val; omega

/-- Loading a whole buffer gives what it reads. -/
theorem readAt_whole2 {sp : Space} {n0 n1 : Nat} {e : EltTy} {M : Memref sig .tc sp ⟨2, ![n0, n1]⟩ e} (inb) {f : BufTy.Contents (Elt F) M.view.ty} {x}
    (hf : M.view.read (Elt F) f = x) : View.readAt (Elt F) M.view (Rect.unit (s := ⟨2, ![n0, n1]⟩) ![0, 0] ![n0, n1] inb).toLoadRect f = x := by
  funext j; rw [View.readAt_apply, whole_idx2, hf]

/-- A buffer stored whole reads what was stored. -/
theorem read_whole2 {sp : Space} {n0 n1 : Nat} {e : EltTy} (M : Memref sig .tc sp ⟨2, ![n0, n1]⟩ e) (inb) (f : BufTy.Contents (Elt F) M.view.ty) (w) :
    M.view.read (Elt F) (M.view.writes (Elt F) f [⟨Rect.unit (s := ⟨2, ![n0, n1]⟩) ![0, 0] ![n0, n1] inb, w⟩]) = w := by
  funext j
  have h := View.read_writes_cons_emb (v := M.view) (f := f) (Rect.unit (s := ⟨2, ![n0, n1]⟩) ![0, 0] ![n0, n1] inb) w [] j
  rwa [show (Rect.unit (s := ⟨2, ![n0, n1]⟩) ![0, 0] ![n0, n1] inb).emb j = j from whole_idx2 inb j] at h

/-- Eight rows of a table, loaded. -/
theorem quarter {M : Memref sig .tc .vmem S32x128 .i32} (q : Nat) (inb) {f : BufTy.Contents (Elt F) M.view.ty} {x : Vec F S32x128 .i32}
    (hf : M.view.read (Elt F) f = x) (j : S8x128.Idx) (hq : q + (j 0).val < 32) :
    View.readAt (Elt F) M.view (Rect.unit (s := S32x128) ![q, 0] S8x128.size inb).toLoadRect f j = x (ix2 ⟨q + (j 0).val, hq⟩ (j 1)) := by
  rw [View.readAt_apply, hf]
  refine congrArg x (funext fun a => Fin.ext ?_)
  match a with
  | ⟨0, _⟩ => show q + 1 * (j 0).val = q + (j 0).val; omega
  | ⟨1, _⟩ => show 0 + 1 * (j 1).val = (j 1).val; omega

theorem off1_eq (k : Fin k0_t1_loop.trips) : k0_off1 k = ![k.val, 0, 0] := by revert k; decide +kernel
theorem off11_eq (k : Fin k0_t1_loop.trips) : k0_off11 k = ![k.val, 0, 0] := by revert k; decide +kernel
theorem k1_lt (k : Fin k0_t1_loop.trips) : k.val < 16 := Nat.lt_of_lt_of_le k.isLt k0_t1_abs.2.1

/-- One time step's inputs, loaded. -/
theorem readAt_xRow {M : Memref sig .tc .vmem S16x320x256 .i8} (k : Fin k0_t1_loop.trips) {f : BufTy.Contents (Elt F) M.view.ty} {x : Vec F S16x320x256 .i8}
    (hf : M.view.read (Elt F) f = x) :
    View.readAt (Elt F) M.view (Rect.unit (s := S16x320x256) (k0_off1 k) S1x320x256.size (k0_off1_inb k)).toLoadRect f = xRow x k.val := by
  funext j
  rw [View.readAt_apply, hf]
  refine congrArg x (funext fun a => Fin.ext ?_)
  have e0 : k0_off1 k 0 = k.val := congrFun (off1_eq k) 0
  have e1 : k0_off1 k 1 = 0 := congrFun (off1_eq k) 1
  have e2 : k0_off1 k 2 = 0 := congrFun (off1_eq k) 2
  match a with
  | ⟨0, _⟩ =>
    have h0 : (j 0).val < 1 := (j 0).isLt
    have := k1_lt k
    show k0_off1 k 0 + 1 * (j 0).val = k.val % 16
    omega
  | ⟨1, _⟩ => show k0_off1 k 1 + 1 * (j 1).val = (j 1).val; omega
  | ⟨2, _⟩ => show k0_off1 k 2 + 1 * (j 2).val = (j 2).val; omega

/-- A time step stores its output row and keeps the others. -/
theorem rows_step {M : Memref sig .tc .vmem S16x192x256 .i8} (k : Fin k0_t1_loop.trips) {f : BufTy.Contents (Elt F) M.view.ty} {d : Vec F S16x192x256 .i8}
    (hf : M.view.read (Elt F) f = d) (st : ℕ → Vec F S192x256 .f32) {v : Vec F S192x256 .f32} (hv : v = st (k.val + 1))
    (hrows : ∀ t : Fin 16, t.val < k.val → ∀ r b, d (ix3 t r b) = outRow (st (t.val + 1)) r b)
    (t : Fin 16) (ht : t.val < k.val + 1) (r : Fin 192) (b : Fin 256) :
    M.view.read (Elt F) (M.view.writes (Elt F) f [⟨Rect.unit (s := S16x192x256) (k0_off11 k) S1x192x256.size (k0_off11_inb k), k0_pay6 v⟩]) (ix3 t r b)
      = outRow (st (t.val + 1)) r b := by
  by_cases h : t.val = k.val
  · have e : (Rect.unit (s := S16x192x256) (k0_off11 k) S1x192x256.size (k0_off11_inb k)).emb (ix3 0 r b) = ix3 t r b := by
      funext a; apply Fin.ext
      have e0 : k0_off11 k 0 = k.val := congrFun (off11_eq k) 0
      have e1 : k0_off11 k 1 = 0 := congrFun (off11_eq k) 1
      have e2 : k0_off11 k 2 = 0 := congrFun (off11_eq k) 2
      match a with
      | ⟨0, _⟩ => show k0_off11 k 0 + 1 * 0 = t.val; omega
      | ⟨1, _⟩ => show k0_off11 k 1 + 1 * r.val = r.val; omega
      | ⟨2, _⟩ => show k0_off11 k 2 + 1 * b.val = b.val; omega
    rw [← e, View.read_writes_cons_emb, h, ← hv]
    rfl
  · rw [View.read_writes_apply_of_forall_not_mem, hf, hrows t (by omega)]
    intro p hp hm
    obtain rfl := List.mem_singleton.mp hp
    have e0 : k0_off11 k 0 = k.val := congrFun (off11_eq k) 0
    have h3 : k0_off11 k 0 ≤ t.val ∧ t.val < k0_off11 k 0 + 1 := (Rect.mem_set_unit (inb := k0_off11_inb k).mp hm) 0
    omega

/-- The cell's operands, from the blocks. -/
abbrev params (x5 x6 : Vec F S768x128 .i32) (x7 x8 : Vec F S4x768x128 .i32) (x9 x10 : Vec F S32x128 .i32) (v3 v4 v5 v6 v7 : Elt F .i32) : Params :=
  ⟨x9, x10, x5, x6, x7, x8, v3, v4, v5, v6, v7⟩

section
variable (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (v3 v4 v5 v6 v7 : Elt F .i32)
  (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (s : HC F)

/-- What is held before time step `k`: the operands, the output rows stored so far, and the carried state. -/
abbrev inv_k0_t1 (k : ℕ) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg13 fullShare d ∗ ⌜∀ t : Fin 16, t.val < k → ∀ r b, d (ix3 t r b) = outRow (hcAt (params x5 x6 x7 x8 x9 x10 v3 v4 v5 v6 v7) x2 x3 x4 s (t.val + 1)).1 r b⌝)
    ∗ owns (c : Thread nD τ) arg14 fullShare (hcAt (params x5 x6 x7 x8 x9 x10 v3 v4 v5 v6 v7) x2 x3 x4 s k).2
    ∗ owns (c : Thread nD τ) arg15 fullShare (hcAt (params x5 x6 x7 x8 x9 x10 v3 v4 v5 v6 v7) x2 x3 x4 s k).1
    ∗ (∃ d, owns (c : Thread nD τ) arg16 fullShare d) ∗ (∃ d, owns (c : Thread nD τ) arg17 fullShare d))

/-- What a time step has loaded when its loop over units starts. -/
theorem loaded_of (k : Fin k0_t1_loop.trips) {f2 : BufTy.Contents (Elt F) arg2.view.ty} (hf2 : arg2.view.read (Elt F) f2 = x2) {f3 : BufTy.Contents (Elt F) arg3.view.ty} (hf3 : arg3.view.read (Elt F) f3 = x3) {f4 : BufTy.Contents (Elt F) arg4.view.ty} (hf4 : arg4.view.read (Elt F) f4 = x4) {f5 : BufTy.Contents (Elt F) arg5.view.ty} (hf5 : arg5.view.read (Elt F) f5 = x5) {f6 : BufTy.Contents (Elt F) arg6.view.ty} (hf6 : arg6.view.read (Elt F) f6 = x6) {f7 : BufTy.Contents (Elt F) arg7.view.ty} (hf7 : arg7.view.read (Elt F) f7 = x7) {f8 : BufTy.Contents (Elt F) arg8.view.ty} (hf8 : arg8.view.read (Elt F) f8 = x8) {f9 : BufTy.Contents (Elt F) arg9.view.ty} (hf9 : arg9.view.read (Elt F) f9 = x9) {f10 : BufTy.Contents (Elt F) arg10.view.ty} (hf10 : arg10.view.read (Elt F) f10 = x10)
    {f15 : BufTy.Contents (Elt F) arg15.view.ty} {h : Vec F S192x256 .f32} (hf15 : arg15.view.read (Elt F) f15 = h)
    (g16 : BufTy.Contents (Elt F) arg16.view.ty) (g17 : BufTy.Contents (Elt F) arg17.view.ty) :
    Loaded (arg5 := arg5) (arg6 := arg6) (arg7 := arg7) (arg8 := arg8) (arg16 := arg16) (arg17 := arg17) (params x5 x6 x7 x8 x9 x10 v3 v4 v5 v6 v7)
      (fun i => FloatOps.fptosi (φ := .f32) 32 (k0_pay160 (xRow x2 k.val) x3 i)) (fun i => FloatOps.fptosi (φ := .f32) 32 (k0_pay161 x4 h i)) v3 v4 v5 v6 v7
      (k0_pay162 (View.readAt (Elt F) arg9.view (Rect.unit (s := S32x128) ![0, 0] S8x128.size inb_S32x128_S8x128_0_0).toLoadRect f9))
      (k0_pay163 (View.readAt (Elt F) arg9.view (Rect.unit (s := S32x128) ![8, 0] S8x128.size inb_S32x128_S8x128_8_0).toLoadRect f9))
      (k0_pay164 (View.readAt (Elt F) arg9.view (Rect.unit (s := S32x128) ![16, 0] S8x128.size inb_S32x128_S8x128_16_0).toLoadRect f9))
      (k0_pay165 (View.readAt (Elt F) arg9.view (Rect.unit (s := S32x128) ![24, 0] S8x128.size inb_S32x128_S8x128_24_0).toLoadRect f9))
      (k0_pay166 (View.readAt (Elt F) arg10.view (Rect.unit (s := S32x128) ![0, 0] S8x128.size inb_S32x128_S8x128_0_0).toLoadRect f10))
      (k0_pay167 (View.readAt (Elt F) arg10.view (Rect.unit (s := S32x128) ![8, 0] S8x128.size inb_S32x128_S8x128_8_0).toLoadRect f10))
      (View.readAt (Elt F) arg10.view (Rect.unit (s := S32x128) ![16, 0] ![8, 128] inb_S32x128_S8x128_16_0).toLoadRect f10)
      (View.readAt (Elt F) arg10.view (Rect.unit (s := S32x128) ![24, 0] ![8, 128] inb_S32x128_S8x128_24_0).toLoadRect f10)
      f5 f6 f7 f8
      (arg16.view.writes (Elt F) g16 [⟨Rect.unit (s := S768x256) ![0, 0] S768x256.size inb_S768x256_S768x256_0_0, k0_pay160 (View.readAt (Elt F) arg2.view (Rect.unit (s := S16x320x256) (k0_off1 k) S1x320x256.size (k0_off1_inb k)).toLoadRect f2) (View.readAt (Elt F) arg3.view (Rect.unit (s := S768x320) ![0, 0] S768x320.size inb_S768x320_S768x320_0_0).toLoadRect f3)⟩])
      (arg17.view.writes (Elt F) g17 [⟨Rect.unit (s := S768x256) ![0, 0] S768x256.size inb_S768x256_S768x256_0_0, k0_pay161 (View.readAt (Elt F) arg4.view (Rect.unit (s := S768x192) ![0, 0] S768x192.size inb_S768x192_S768x192_0_0).toLoadRect f4) (View.readAt (Elt F) arg15.view (Rect.unit (s := S192x256) ![0, 0] S192x256.size inb_S192x256_S192x256_0_0).toLoadRect f15)⟩]) where
  s0 := fun j => (congrFun (shapeCast_self _ _) j).trans (quarter 0 _ hf9 j _)
  s1 := fun j => (congrFun (shapeCast_self _ _) j).trans (quarter 8 _ hf9 j _)
  s2 := fun j => (congrFun (shapeCast_self _ _) j).trans (quarter 16 _ hf9 j _)
  s3 := fun j => (congrFun (shapeCast_self _ _) j).trans (quarter 24 _ hf9 j _)
  t0 := fun j => (congrFun (shapeCast_self _ _) j).trans (quarter 0 _ hf10 j _)
  t1 := fun j => (congrFun (shapeCast_self _ _) j).trans (quarter 8 _ hf10 j _)
  t2 := fun j => quarter 16 _ hf10 j _
  t3 := fun j => quarter 24 _ hf10 j _
  bx := hf5
  bh := hf6
  px := hf7
  ph := hf8
  ax := fun i => by
    rw [show arg16.view.read (Elt F) _ = _ from read_whole2 arg16 _ g16 _, readAt_xRow k hf2, show View.readAt (Elt F) arg3.view _ f3 = _ from readAt_whole2 _ hf3]
  ah := fun i => by
    rw [show arg17.view.read (Elt F) _ = _ from read_whole2 arg17 _ g17 _, show View.readAt (Elt F) arg4.view _ f4 = _ from readAt_whole2 _ hf4, show View.readAt (Elt F) arg15.view _ f15 = _ from readAt_whole2 _ hf15]
  m := rfl
  half := rfl
  right := rfl
  left := rfl
  zp := rfl

set_option maxHeartbeats 400000 in
/-- One time step keeps it. -/
theorem step_k0_t1 (k : Fin k0_t1_loop.trips) :
    inv_k0_t1 c arg2 arg3 arg4 arg5 arg6 arg7 arg8 arg9 arg10 arg13 arg14 arg15 arg16 arg17 v3 v4 v5 v6 v7 x2 x3 x4 x5 x6 x7 x8 x9 x10 s k.val
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 k ())
          (fun _ => inv_k0_t1 c arg2 arg3 arg4 arg5 arg6 arg7 arg8 arg9 arg10 arg13 arg14 arg15 arg16 arg17 v3 v4 v5 v6 v7 x2 x3 x4 x5 x6 x7 x8 x9 x10 s (k.val + 1)) := by
  have hk : k.val < 16 := Nat.lt_of_lt_of_le k.isLt k0_t1_abs.2.1
  unfold k0_t1_body
  simp only [k0_part32_eq_skeleton]
  unfold inv_k0_t1 owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, ⟨%f13, %hf13, H13⟩, %hrows⟩, ⟨%f14, %hf14, H14⟩, ⟨%f15, %hf15, H15⟩, ⟨%d16, %f16, -, H16⟩, ⟨%d17, %f17, -, H17⟩⟩
  sl_exec
  sl_step
  have hL := loaded_of arg2 arg3 arg4 arg5 arg6 arg7 arg8 arg9 arg10 arg15 arg16 arg17 v3 v4 v5 v6 v7 x2 x3 x4 x5 x6 x7 x8 x9 x10 k hf2 hf3 hf4 hf5 hf6 hf7 hf8 hf9 hf10 hf15 arg16.view.junk arg17.view.junk
  have h14 := pb_c Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 _ _ _ _ _ _ _ _ f5 f6 f7 f8 _ _ f14 f15 hL (Scf.trips k0_t2_loop.lb k0_t2_loop.ub k0_t2_loop.st) trips_t2
  have h15 := pb_h Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v5 v6 v7 _ _ _ _ _ _ _ _ f5 f6 f7 f8 _ _ f14 f15 hL (Scf.trips k0_t2_loop.lb k0_t2_loop.ub k0_t2_loop.st) trips_t2
  rw [hf14] at h14 h15
  isplitl [H2]
  · iexists _; isplitr; swap; (iexact H2); ipureintro; exact hf2
  isplitl [H3]
  · iexists _; isplitr; swap; (iexact H3); ipureintro; exact hf3
  isplitl [H4]
  · iexists _; isplitr; swap; (iexact H4); ipureintro; exact hf4
  isplitl [H5]
  · iexists _; isplitr; swap; (iexact H5); ipureintro; exact hf5
  isplitl [H6]
  · iexists _; isplitr; swap; (iexact H6); ipureintro; exact hf6
  isplitl [H7]
  · iexists _; isplitr; swap; (iexact H7); ipureintro; exact hf7
  isplitl [H8]
  · iexists _; isplitr; swap; (iexact H8); ipureintro; exact hf8
  isplitl [H9]
  · iexists _; isplitr; swap; (iexact H9); ipureintro; exact hf9
  isplitl [H10]
  · iexists _; isplitr; swap; (iexact H10); ipureintro; exact hf10
  isplitl [H13]
  · iexists _; isplitl [H13]
    · iexists _; isplitr; swap; (iexact H13); ipureintro; rfl
    · ipureintro
      unfold step_k0_t1.sl.v45 step_k0_t1.sl.r step_k0_t1.sl.r_1 step_k0_t1.sl.r_2 step_k0_t1.sl.r_3 step_k0_t1.sl.r_4 step_k0_t1.sl.r_5 step_k0_t1.sl.H16_1 step_k0_t1.sl.H17_1
      exact fun t ht r b => rows_step k hf13 (fun n => (hcAt (params x5 x6 x7 x8 x9 x10 v3 v4 v5 v6 v7) x2 x3 x4 s n).1) (readAt_whole2 _ h15) hrows t ht r b
  isplitl [H14]
  · iexists _; isplitr; swap; (iexact H14); ipureintro; unfold step_k0_t1.sl.r step_k0_t1.sl.r_1 step_k0_t1.sl.r_2 step_k0_t1.sl.r_3 step_k0_t1.sl.r_4 step_k0_t1.sl.r_5 step_k0_t1.sl.H16_1 step_k0_t1.sl.H17_1; refine Eq.trans ?_ (hcAt_succ2 _ _ _ _ _ _).symm; rw [h14]
  isplitl [H15]
  · iexists _; isplitr; swap; (iexact H15); ipureintro; rw [hcAt_succ]; unfold step_k0_t1.sl.r step_k0_t1.sl.r_1 step_k0_t1.sl.r_2 step_k0_t1.sl.r_3 step_k0_t1.sl.r_4 step_k0_t1.sl.r_5 step_k0_t1.sl.H16_1 step_k0_t1.sl.H17_1 hcNext; exact h15
  isplitl [H16]
  · iexists _; iexists _; isplitr; swap; (iexact H16); ipureintro; rfl
  · iexists _; iexists _; isplitr; swap; (iexact H17); ipureintro; rfl
end

end Cert.KernelIdeal.Gen

end

end
-- ==== Proof.BodyKernelIdeal.lean ====
/- The kernel's body at one grid point: what it leaves in its outputs and in the scratch it carries. -/
module

public import proofs.«01_k».proof.Proof.LoopKernelIdeal

@[expose] public section

set_option maxRecDepth 65536
set_option maxHeartbeats 4000000

noncomputable section

namespace Cert.KernelIdeal.Gen

open Idealize.ShloMosaic Idealize.ShloMosaic.TcCoe Idealize.ShloMosaic.Tactic
open Idealize.ShloMosaic.ValueIdx Lstm
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition: the point is the first. -/
abbrev cond0_0 (i : grid0.Coords) : Prop := (Scalar.cmpi .ne (Scalar.extui (Scalar.cmpi .eq (BitVec.ofNat 32 (i 0).val) 0#32)) 0#32) = 1#1

/-- A scalar operand. -/
def sc (x1 : Vec F S5 .i32) (n : Fin 5) : W := x1 (ix1 n)

/-- A scalar operand, loaded. -/
theorem sc_of {M : Memref sig .tc .smem S5 .i32} {f : BufTy.Contents (Elt F) M.view.ty} {x : Vec F S5 .i32} (hf : M.view.read (Elt F) f = x) (n : Fin 5)
    (inb) (j : S1.Idx) : View.readAt (Elt F) M.view (Rect.unit (s := S5) ![n.val] S1.size inb).toLoadRect f j = sc x n := by
  rw [View.readAt_apply, hf]
  refine congrArg x ?_
  funext a; apply Fin.ext
  match a with
  | ⟨0, _⟩ => show n.val + 1 * (j 0).val = n.val; have : (j 0).val < 1 := (j 0).isLt; omega

/-- The initial states are stored as they were loaded. -/
theorem pay1_self (v : Vec F S192x256 .f32) : k0_pay1 v = v := by
  unfold k0_pay1; dsimp only; rw [shapeCast_self, shapeCast_self]
theorem pay2_self (v : Vec F S192x256 .i32) : k0_pay2 v = v := by
  unfold k0_pay2; dsimp only; rw [shapeCast_self]

theorem trips_t1 : Scf.trips k0_t1_loop.lb k0_t1_loop.ub k0_t1_loop.st = 16 := by decide +kernel

/-- The operands of a point, as parameters of one time step. -/
def bodyParams (x1 : Vec F S5 .i32) (x5 x6 : Vec F S768x128 .i32) (x7 x8 : Vec F S4x768x128 .i32) (x9 x10 : Vec F S32x128 .i32) : Params :=
  params (F := F) x5 x6 x7 x8 x9 x10 (sc x1 0) (sc x1 1) (sc x1 2) (sc x1 3) (sc x1 4)

/-- The sixteen rows of hidden states a point leaves. -/
def rowsOf (st : ℕ → HC F) : Vec F S16x192x256 .i8 := fun y => outRow (st ((y 0).val + 1)).1 (y 1) (y 2)

theorem rowsOf_eq (st : ℕ → HC F) (d : Vec F S16x192x256 .i8)
    (h : ∀ t : Fin 16, t.val < 16 → ∀ r b, d (ix3 t r b) = outRow (st (t.val + 1)).1 r b) : d = rowsOf st := by
  funext y
  have e : y = ix3 (y 0) (y 1) (y 2) := by funext a; match a with | ⟨0, _⟩ => rfl | ⟨1, _⟩ => rfl | ⟨2, _⟩ => rfl
  rw [e]
  exact h (y 0) (y 0).isLt (y 1) (y 2)

/-- The body at a later point: it starts from the states carried to it. -/
theorem body_B (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (hc0 : ¬ cond0_0 i)
    (x1 : Vec F S5 .i32) (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (x11 : Vec F S192x256 .f32) (x12 : Vec F S192x256 .i32) (xo : Vec F S192x256 .i32) (xs : Vec F S192x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xo ∗ owns (c : Thread nD τ) arg15 fullShare xs ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (rowsOf (hcAt (bodyParams x1 x5 x6 x7 x8 x9 x10) x2 x3 x4 (xs, xo))) ∗ owns (c : Thread nD τ) arg14 fullShare (hcAt (bodyParams x1 x5 x6 x7 x8 x9 x10) x2 x3 x4 (xs, xo) 16).2 ∗ owns (c : Thread nD τ) arg15 fullShare (hcAt (bodyParams x1 x5 x6 x7 x8 x9 x10) x2 x3 x4 (xs, xo) 16).1 ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_int_lstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_int_lstm_eq_skeleton]; unfold cc0_int_lstm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%d17, %f17, -, H17⟩, Hk⟩
  sl_exec (disch := first | sl_exact hc0)
  have e0 : body_B.sl.r c arg1 f1 = sc x1 0 := by unfold body_B.sl.r; exact sc_of hf1 0 _ _
  have e1 : body_B.sl.r_1 c arg1 f1 = sc x1 1 := by unfold body_B.sl.r_1; exact sc_of hf1 1 _ _
  have e2 : body_B.sl.r_2 c arg1 f1 = sc x1 2 := by unfold body_B.sl.r_2; exact sc_of hf1 2 _ _
  have e3 : body_B.sl.r_3 c arg1 f1 = sc x1 3 := by unfold body_B.sl.r_3; exact sc_of hf1 3 _ _
  have e4 : body_B.sl.r_4 c arg1 f1 = sc x1 4 := by unfold body_B.sl.r_4; exact sc_of hf1 4 _ _
  rw [e0, e1, e2, e3, e4]
  sl_for (fun k _ => (inv_k0_t1 c arg2 arg3 arg4 arg5 arg6 arg7 arg8 arg9 arg10 arg13 arg14 arg15 arg16 arg17 (sc x1 0) (sc x1 1) (sc x1 2) (sc x1 3) (sc x1 4) x2 x3 x4 x5 x6 x7 x8 x9 x10 (xs, xo)) k) $$ [H2 H3 H4 H5 H6 H7 H8 H9 H10 H13 H14 H15 H16 H17]
  case region =>
    intro k _; exact step_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc x1 0) (sc x1 1) (sc x1 2) (sc x1 3) (sc x1 4) x2 x3 x4 x5 x6 x7 x8 x9 x10 (xs, xo) k
  · unfold inv_k0_t1 owns
    isplitl [H2]; · iexists _; isplitr; swap; (iexact H2); ipureintro; exact hf2
    isplitl [H3]; · iexists _; isplitr; swap; (iexact H3); ipureintro; exact hf3
    isplitl [H4]; · iexists _; isplitr; swap; (iexact H4); ipureintro; exact hf4
    isplitl [H5]; · iexists _; isplitr; swap; (iexact H5); ipureintro; exact hf5
    isplitl [H6]; · iexists _; isplitr; swap; (iexact H6); ipureintro; exact hf6
    isplitl [H7]; · iexists _; isplitr; swap; (iexact H7); ipureintro; exact hf7
    isplitl [H8]; · iexists _; isplitr; swap; (iexact H8); ipureintro; exact hf8
    isplitl [H9]; · iexists _; isplitr; swap; (iexact H9); ipureintro; exact hf9
    isplitl [H10]; · iexists _; isplitr; swap; (iexact H10); ipureintro; exact hf10
    isplitl [H13]
    · iexists _; isplitl [H13]
      · iexists _; isplitr; swap; (iexact H13); ipureintro; rfl
      · ipureintro; exact fun t ht => absurd ht (Nat.not_lt_zero _)
    isplitl [H14]; · iexists _; isplitr; swap; (iexact H14); ipureintro; exact hf14
    isplitl [H15]; · iexists _; isplitr; swap; (iexact H15); ipureintro; exact hf15
    isplitl [H16]; · iexists _; iexists _; isplitr; swap; (iexact H16); ipureintro; rfl
    iexists _; iexists _; isplitr; swap; (iexact H17); ipureintro; rfl
  iintro %acc HI
  have ht : Scf.trips k0_t1_loop.lb k0_t1_loop.ub k0_t1_loop.st = 16 := trips_t1
  rw [ht]; unfold inv_k0_t1 owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%d, ⟨%g13, %hg13, H13⟩, %hd⟩, ⟨%g14, %hg14, H14⟩, ⟨%g15, %hg15, H15⟩, H16, H17⟩
  sl_step
  iapply Hk
  isplitl [H1]; · iexists _; isplitr; swap; (iexact H1); ipureintro; exact hf1
  isplitl [H2]; · iexists _; isplitr; swap; (iexact H2); ipureintro; exact hg2
  isplitl [H3]; · iexists _; isplitr; swap; (iexact H3); ipureintro; exact hg3
  isplitl [H4]; · iexists _; isplitr; swap; (iexact H4); ipureintro; exact hg4
  isplitl [H5]; · iexists _; isplitr; swap; (iexact H5); ipureintro; exact hg5
  isplitl [H6]; · iexists _; isplitr; swap; (iexact H6); ipureintro; exact hg6
  isplitl [H7]; · iexists _; isplitr; swap; (iexact H7); ipureintro; exact hg7
  isplitl [H8]; · iexists _; isplitr; swap; (iexact H8); ipureintro; exact hg8
  isplitl [H9]; · iexists _; isplitr; swap; (iexact H9); ipureintro; exact hg9
  isplitl [H10]; · iexists _; isplitr; swap; (iexact H10); ipureintro; exact hg10
  isplitl [H11]; · iexists _; isplitr; swap; (iexact H11); ipureintro; exact hf11
  isplitl [H12]; · iexists _; isplitr; swap; (iexact H12); ipureintro; exact hf12
  isplitl [H13]; · iexists _; isplitr; swap; (iexact H13); ipureintro; exact hg13.trans (rowsOf_eq _ d hd)
  isplitl [H14]; · iexists _; isplitr; swap; (iexact H14); ipureintro; exact hg14
  isplitl [H15]; · iexists _; isplitr; swap; (iexact H15); ipureintro; exact hg15
  isplitl [H16]; · iexact H16
  iexact H17

/-- The body at the first point: it starts from the initial states. -/
theorem body_A (c : Dev nD) (i : grid0.Coords) (arg1 : Memref sig .tc .smem S5 .i32) (harg1 : arg1.IsWhole) (arg2 : Memref sig .tc .vmem S16x320x256 .i8) (harg2 : arg2.IsWhole) (arg3 : Memref sig .tc .vmem S768x320 .bf16) (harg3 : arg3.IsWhole) (arg4 : Memref sig .tc .vmem S768x192 .bf16) (harg4 : arg4.IsWhole) (arg5 : Memref sig .tc .vmem S768x128 .i32) (harg5 : arg5.IsWhole) (arg6 : Memref sig .tc .vmem S768x128 .i32) (harg6 : arg6.IsWhole) (arg7 : Memref sig .tc .vmem S4x768x128 .i32) (harg7 : arg7.IsWhole) (arg8 : Memref sig .tc .vmem S4x768x128 .i32) (harg8 : arg8.IsWhole) (arg9 : Memref sig .tc .vmem S32x128 .i32) (harg9 : arg9.IsWhole) (arg10 : Memref sig .tc .vmem S32x128 .i32) (harg10 : arg10.IsWhole) (arg11 : Memref sig .tc .vmem S192x256 .f32) (harg11 : arg11.IsWhole) (arg12 : Memref sig .tc .vmem S192x256 .i32) (harg12 : arg12.IsWhole) (arg13 : Memref sig .tc .vmem S16x192x256 .i8) (harg13 : arg13.IsWhole) (arg14 : Memref sig .tc .vmem S192x256 .i32) (harg14 : arg14.IsWhole) (arg15 : Memref sig .tc .vmem S192x256 .f32) (harg15 : arg15.IsWhole) (arg16 : Memref sig .tc .vmem S768x256 .f32) (harg16 : arg16.IsWhole) (arg17 : Memref sig .tc .vmem S768x256 .f32) (harg17 : arg17.IsWhole) (hc0 : cond0_0 i)
    (x1 : Vec F S5 .i32) (x2 : Vec F S16x320x256 .i8) (x3 : Vec F S768x320 .bf16) (x4 : Vec F S768x192 .bf16) (x5 : Vec F S768x128 .i32) (x6 : Vec F S768x128 .i32) (x7 : Vec F S4x768x128 .i32) (x8 : Vec F S4x768x128 .i32) (x9 : Vec F S32x128 .i32) (x10 : Vec F S32x128 .i32) (x11 : Vec F S192x256 .f32) (x12 : Vec F S192x256 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (rowsOf (hcAt (bodyParams x1 x5 x6 x7 x8 x9 x10) x2 x3 x4 (x11, x12))) ∗ owns (c : Thread nD τ) arg14 fullShare (hcAt (bodyParams x1 x5 x6 x7 x8 x9 x10) x2 x3 x4 (x11, x12) 16).2 ∗ owns (c : Thread nD τ) arg15 fullShare (hcAt (bodyParams x1 x5 x6 x7 x8 x9 x10) x2 x3 x4 (x11, x12) 16).1 ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_int_lstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_int_lstm_eq_skeleton]; unfold cc0_int_lstm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0)
  have h14 : arg14.view.read (Elt F) (arg14.view.writes (Elt F) arg14.view.junk (body_A.sl.H14_1 c arg12 f12)) = x12 := by
    unfold body_A.sl.H14_1; refine (read_whole2 arg14 _ _ _).trans ?_; exact (pay2_self _).trans <| readAt_whole2 _ hf12
  have h15 : arg15.view.read (Elt F) (arg15.view.writes (Elt F) arg15.view.junk (body_A.sl.H15_1 c arg11 f11)) = x11 := by
    unfold body_A.sl.H15_1; refine (read_whole2 arg15 _ _ _).trans ?_; exact (pay1_self _).trans <| readAt_whole2 _ hf11
  have e0 : body_A.sl.r c arg1 f1 = sc x1 0 := by unfold body_A.sl.r; exact sc_of hf1 0 _ _
  have e1 : body_A.sl.r_1 c arg1 f1 = sc x1 1 := by unfold body_A.sl.r_1; exact sc_of hf1 1 _ _
  have e2 : body_A.sl.r_2 c arg1 f1 = sc x1 2 := by unfold body_A.sl.r_2; exact sc_of hf1 2 _ _
  have e3 : body_A.sl.r_3 c arg1 f1 = sc x1 3 := by unfold body_A.sl.r_3; exact sc_of hf1 3 _ _
  have e4 : body_A.sl.r_4 c arg1 f1 = sc x1 4 := by unfold body_A.sl.r_4; exact sc_of hf1 4 _ _
  rw [e0, e1, e2, e3, e4]
  sl_for (fun k _ => (inv_k0_t1 c arg2 arg3 arg4 arg5 arg6 arg7 arg8 arg9 arg10 arg13 arg14 arg15 arg16 arg17 (sc x1 0) (sc x1 1) (sc x1 2) (sc x1 3) (sc x1 4) x2 x3 x4 x5 x6 x7 x8 x9 x10 (x11, x12)) k) $$ [H2 H3 H4 H5 H6 H7 H8 H9 H10 H13 H14 H15 H16 H17]
  case region =>
    intro k _; exact step_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc x1 0) (sc x1 1) (sc x1 2) (sc x1 3) (sc x1 4) x2 x3 x4 x5 x6 x7 x8 x9 x10 (x11, x12) k
  · unfold inv_k0_t1 owns
    isplitl [H2]; · iexists _; isplitr; swap; (iexact H2); ipureintro; exact hf2
    isplitl [H3]; · iexists _; isplitr; swap; (iexact H3); ipureintro; exact hf3
    isplitl [H4]; · iexists _; isplitr; swap; (iexact H4); ipureintro; exact hf4
    isplitl [H5]; · iexists _; isplitr; swap; (iexact H5); ipureintro; exact hf5
    isplitl [H6]; · iexists _; isplitr; swap; (iexact H6); ipureintro; exact hf6
    isplitl [H7]; · iexists _; isplitr; swap; (iexact H7); ipureintro; exact hf7
    isplitl [H8]; · iexists _; isplitr; swap; (iexact H8); ipureintro; exact hf8
    isplitl [H9]; · iexists _; isplitr; swap; (iexact H9); ipureintro; exact hf9
    isplitl [H10]; · iexists _; isplitr; swap; (iexact H10); ipureintro; exact hf10
    isplitl [H13]
    · iexists _; isplitl [H13]
      · iexists _; isplitr; swap; (iexact H13); ipureintro; rfl
      · ipureintro; exact fun t ht => absurd ht (Nat.not_lt_zero _)
    isplitl [H14]; · iexists _; isplitr; swap; (iexact H14); ipureintro; exact h14
    isplitl [H15]; · iexists _; isplitr; swap; (iexact H15); ipureintro; exact h15
    isplitl [H16]; · iexists _; iexists _; isplitr; swap; (iexact H16); ipureintro; rfl
    iexists _; iexists _; isplitr; swap; (iexact H17); ipureintro; rfl
  iintro %acc HI
  have ht : Scf.trips k0_t1_loop.lb k0_t1_loop.ub k0_t1_loop.st = 16 := trips_t1
  rw [ht]; unfold inv_k0_t1 owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%d, ⟨%g13, %hg13, H13⟩, %hd⟩, ⟨%g14, %hg14, H14⟩, ⟨%g15, %hg15, H15⟩, H16, H17⟩
  unfold body_A.sl.prog.cont_1; sl_step
  iapply Hk
  isplitl [H1]; · iexists _; isplitr; swap; (iexact H1); ipureintro; exact hf1
  isplitl [H2]; · iexists _; isplitr; swap; (iexact H2); ipureintro; exact hg2
  isplitl [H3]; · iexists _; isplitr; swap; (iexact H3); ipureintro; exact hg3
  isplitl [H4]; · iexists _; isplitr; swap; (iexact H4); ipureintro; exact hg4
  isplitl [H5]; · iexists _; isplitr; swap; (iexact H5); ipureintro; exact hg5
  isplitl [H6]; · iexists _; isplitr; swap; (iexact H6); ipureintro; exact hg6
  isplitl [H7]; · iexists _; isplitr; swap; (iexact H7); ipureintro; exact hg7
  isplitl [H8]; · iexists _; isplitr; swap; (iexact H8); ipureintro; exact hg8
  isplitl [H9]; · iexists _; isplitr; swap; (iexact H9); ipureintro; exact hg9
  isplitl [H10]; · iexists _; isplitr; swap; (iexact H10); ipureintro; exact hg10
  isplitl [H11]; · iexists _; isplitr; swap; (iexact H11); ipureintro; exact hf11
  isplitl [H12]; · iexists _; isplitr; swap; (iexact H12); ipureintro; exact hf12
  isplitl [H13]; · iexists _; isplitr; swap; (iexact H13); ipureintro; exact hg13.trans (rowsOf_eq _ d hd)
  isplitl [H14]; · iexists _; isplitr; swap; (iexact H14); ipureintro; exact hg14
  isplitl [H15]; · iexists _; isplitr; swap; (iexact H15); ipureintro; exact hg15
  isplitl [H16]; · iexact H16
  iexact H17

end Cert.KernelIdeal.Gen

end
-- ==== Proof.RunKernelIdeal.lean ====
/- The kernel's run: what every grid point leaves, and the frame. -/
module

public import proofs.«01_k».proof.Proof.BodyKernelIdeal
public import proofs.«01_k».proof.Proof.Gen.KernelIdeal.Frame
public import Idealize.ShloMosaic.Lib.Claim

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Lstm
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- Each window's current staging memref at point `t`, spelled as the pipeline passes it (`bodyAt0`), and its wholeness. -/
abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x320x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x320 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x768x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x768x128 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S192x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S192x256 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x192x256 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S192x256 .i32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S192x256 .f32 := Memref.whole cc0_scratch0
abbrev scM0_1 : Memref sig .tc .vmem S768x256 .f32 := Memref.whole cc0_scratch1
abbrev scM0_2 : Memref sig .tc .vmem S768x256 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the outputs hold after each point -/

/-- What a point leaves, from the hidden and the cell state it starts with: the rows of its block, the cell state, the hidden state. -/
def outOf (c : Dev nD) (t : Fin cfg0.N) (s : HC F) : Vec F S16x192x256 .i8 × Vec F S192x256 .i32 × Vec F S192x256 .f32 :=
  (rowsOf (hcAt (bodyParams (iblk m c 0 t) (iblk m c 4 t) (iblk m c 5 t) (iblk m c 6 t) (iblk m c 7 t) (iblk m c 8 t) (iblk m c 9 t)) (iblk m c 1 t) (iblk m c 2 t) (iblk m c 3 t) s),
   (hcAt (bodyParams (iblk m c 0 t) (iblk m c 4 t) (iblk m c 5 t) (iblk m c 6 t) (iblk m c 7 t) (iblk m c 8 t) (iblk m c 9 t)) (iblk m c 1 t) (iblk m c 2 t) (iblk m c 3 t) s 16).2,
   (hcAt (bodyParams (iblk m c 0 t) (iblk m c 4 t) (iblk m c 5 t) (iblk m c 6 t) (iblk m c 7 t) (iblk m c 8 t) (iblk m c 9 t)) (iblk m c 1 t) (iblk m c 2 t) (iblk m c 3 t) s 16).1)

/-- What the outputs' staging buffers and the carried scratch hold after the body at each point: the first from the initial states, each later one
    from what the point before left. -/
def outsAt0 (c : Dev nD) : (n : ℕ) → n < cfg0.N → Vec F S16x192x256 .i8 × Vec F S192x256 .i32 × Vec F S192x256 .f32
  | 0, hn => outOf m c ⟨0, hn⟩ (iblk m c 10 ⟨0, hn⟩, iblk m c 11 ⟨0, hn⟩)
  | n + 1, hn => outOf m c ⟨n + 1, hn⟩ ((outsAt0 c n (Nat.lt_of_succ_lt hn)).2.2, (outsAt0 c n (Nat.lt_of_succ_lt hn)).2.1)

theorem outsAt0_A (c : Dev nD) (t : Fin cfg0.N) (h0 : t.val = 0) :
    outsAt0 m c t.val t.isLt = outOf m c t (iblk m c 10 t, iblk m c 11 t) := by
  obtain ⟨n, hn⟩ := t
  cases n with
  | zero => unfold outsAt0; rfl
  | succ n => exact absurd h0 (Nat.succ_ne_zero n)

theorem outsAt0_B (c : Dev nD) (t : Fin cfg0.N) (h0 : ¬t.val = 0) :
    outsAt0 m c t.val t.isLt = outOf m c t ((outsAt0 m c (t.val - 1) (Nat.lt_of_le_of_lt (Nat.sub_le _ _) t.isLt)).2.2, (outsAt0 m c (t.val - 1) (Nat.lt_of_le_of_lt (Nat.sub_le _ _) t.isLt)).2.1) := by
  obtain ⟨n, hn⟩ := t
  cases n with
  | zero => exact absurd rfl h0
  | succ n => rw [outsAt0.eq_2]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val = 0) (d) :
    (dats m 0 c).before 13 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: the inputs' memrefs hold their blocks, the carried scratch what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 64 := lt_of_lt_of_eq t.isLt (show cfg0.N = 64 from N_0)
  by_cases h0 : t.val = 0
  · rw [PhiS_castSucc m c t, PhiS_zero m c _ _ h0, PhiA0_eq]
    rw [outsAt0_A m c t h0]
    unfold outOf; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_A c (grid0.coords t) _ _ _ _ _ _ _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [PhiS_castSucc m c t, PhiS_pos m c _ _ h0]
    rw [outsAt0_B m c t h0]
    simp only [before0_13_B m c t h0]
    unfold outOf; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_B c (grid0.coords t) _ _ _ _ _ _ _ _ _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.Words.lean ====
/- The word arithmetic of the cell: the kernel's forms of a step and the reference's are the same words. -/
module

public import proofs.«01_k».proof.Proof.Cell
import Mathlib.Tactic.Linarith

@[expose] public section

namespace Lstm

open Idealize.ShloMosaic

/-- The sign of a word. -/
def signW (x : W) : W := if x = 0 then 0 else if x.msb then -1 else 1

/-- The rounding term of a right shift. -/
def halfW (right : W) : W :=
  Scalar.select (IntOp.cmpi .sge right 1#32) (IntOp.shli .host 1#32 (IntOp.maxsi (IntOp.subi right 1#32) 0#32)) 0#32

/-- The right shift a signed shift stands for. -/
def rightW (s : W) : W := IntOp.maxsi s 0#32

/-- The left shift a signed shift stands for. -/
def leftW (s : W) : W := IntOp.maxsi (-s) 0#32

/-- The rounded magnitude of the fixed-point product, before its sign is put back. -/
def magW (a m half right left : W) : W :=
  IntOp.shrsi .host (IntOp.addi (IntOp.addi
    (IntOp.muli (IntOp.shrsi .host (IntOp.shli .host (IntOp.absi a) left) 15#32) m)
    (IntOp.shrsi .host (IntOp.addi (IntOp.muli (IntOp.andi (IntOp.shli .host (IntOp.absi a) left) 32767#32) m)
      (Scalar.select (IntOp.cmpi .eq right 0#32) 16384#32 0#32)) 15#32)) half) right

/-- Fixed-point rescaling as the reference writes it. -/
def fixW (a m s : W) : W := IntOp.muli (signW a) (magW a m (halfW (rightW s)) (rightW s) (leftW s))

theorem shli_unit (x y : W) : IntOp.shli .vector x y = IntOp.shli .host x y := rfl

theorem shrsi_unit (x y : W) : IntOp.shrsi .vector x y = IntOp.shrsi .host x y := rfl

theorem sshift31 (a : W) : IntOp.shrsi .vector a 31#32 = if a.msb then -1#32 else 0#32 := by
  have h : IntOp.shrsi .vector a 31#32 = a.sshiftRight 31 := rfl
  rw [h]
  split <;> rename_i hm
  · rw [BitVec.msb_eq_toInt] at hm
    simp only [decide_eq_true_eq] at hm
    apply BitVec.eq_of_toInt_eq
    rw [BitVec.toInt_sshiftRight, Int.shiftRight_eq_div_pow]
    have := a.le_toInt
    simp at this
    rw [show ((-1#32 : BitVec 32)).toInt = -1 from rfl]
    omega
  · rw [BitVec.msb_eq_toInt] at hm
    simp only [decide_eq_true_eq] at hm
    apply BitVec.eq_of_toInt_eq
    rw [BitVec.toInt_sshiftRight, Int.shiftRight_eq_div_pow]
    have := a.toInt_lt
    simp at this
    rw [show ((0#32 : BitVec 32)).toInt = 0 from rfl]
    omega

theorem neg_of_sign (y : W) : IntOp.subi (IntOp.xori y (-1#32)) (-1#32) = IntOp.muli (-1) y := by
  simp only [IntOp.subi, IntOp.xori, IntOp.muli]
  have : (-1#32 : W) = BitVec.allOnes 32 := rfl
  rw [this, BitVec.xor_allOnes]
  have h1 : (BitVec.allOnes 32 : W) = -1#32 := rfl
  rw [BitVec.not_eq_neg_add, h1]
  have : (-1 : W) = -1#32 := rfl
  rw [this, BitVec.neg_mul, BitVec.one_mul, BitVec.sub_sub]
  rw [show (1#32 + -1#32 : W) = 0#32 from rfl, BitVec.sub_zero]

theorem mag_zero (m s : W) (hs : s ≠ 32#32) : magW 0 m (halfW (rightW s)) (rightW s) (leftW s) = 0 := by
  have hl : ∀ l : W, IntOp.shli .host (IntOp.absi 0#32) l = 0#32 := by
    intro l
    rw [show IntOp.absi (0#32 : W) = 0#32 from rfl]
    unfold IntOp.shli
    split
    · simp
    · simp [IntOp.cornerWord]
  have hz : ∀ r : W, IntOp.shrsi .host (0#32) r = 0#32 := by
    intro r
    unfold IntOp.shrsi
    split
    · simp
    · simp [IntOp.cornerWord]
  have hsel : ∀ r : W, IntOp.shrsi .host (Scalar.select (IntOp.cmpi .eq r 0#32) 16384#32 0#32) 15#32 = 0#32 := by
    intro r
    unfold Scalar.select
    split <;> rfl
  have hm : ∀ r l h : W, magW 0 m h r l = IntOp.shrsi .host h r := by
    intro r l h
    unfold magW
    rw [show (0 : W) = 0#32 from rfl, hl, show IntOp.shrsi .host (0#32 : W) 15#32 = 0#32 from rfl]
    simp only [IntOp.muli, IntOp.andi, IntOp.addi, BitVec.zero_mul, BitVec.zero_and, BitVec.zero_add, hsel]
  rw [hm]
  by_cases h0 : s.toInt ≤ 0
  · have : rightW s = 0#32 := by
      unfold rightW IntOp.maxsi
      split
      · rename_i h
        rw [BitVec.slt_iff_toInt_lt] at h
        simp at h
        omega
      · rfl
    rw [this]; rfl
  · have hr : rightW s = s := by
      unfold rightW IntOp.maxsi
      split
      · rfl
      · rename_i h
        rw [BitVec.slt_iff_toInt_lt] at h
        simp at h
        omega
    rw [hr]
    by_cases h32 : s.toNat < 32
    · obtain ⟨k, hk, rfl⟩ : ∃ k : ℕ, k < 32 ∧ s = BitVec.ofNat 32 k := ⟨s.toNat, h32, by simp⟩
      clear h32 h0 hr hs
      revert hk
      have : ∀ k : Fin 32, IntOp.shrsi .host (halfW (BitVec.ofNat 32 k.val)) (BitVec.ofNat 32 k.val) = 0 := by decide
      exact fun hk => this ⟨k, hk⟩
    · have hne : s.toNat ≠ 32 := fun h => hs (BitVec.eq_of_toNat_eq (by simpa using h))
      have hpos : s.toNat < 2 ^ 31 := by
        rw [BitVec.toInt_eq_toNat_cond] at h0
        split at h0 <;> omega
      have : halfW s = 0#32 := by
        unfold halfW Scalar.select
        split
        · rw [show IntOp.maxsi (IntOp.subi s 1#32) 0#32 = s - 1#32 from ?_]
          · unfold IntOp.shli
            rw [if_neg]
            · rfl
            · rw [BitVec.toNat_sub_of_le]
              · simp; omega
              · rw [BitVec.le_def]; simp; omega
          · unfold IntOp.maxsi IntOp.subi
            split
            · rfl
            · rename_i h
              exfalso; apply h
              rw [BitVec.slt_iff_toInt_lt]
              have : (s - 1#32).toNat = s.toNat - 1 := by
                rw [BitVec.toNat_sub_of_le]
                · simp
                · rw [BitVec.le_def]; simp; omega
              rw [BitVec.toInt_eq_toNat_of_lt (x := s - 1#32) (by omega), this]
              simp; omega
        · rfl
      rw [this]
      exact hz s

/-- THE RESCALING OF THE KERNEL IS THE REFERENCE'S, but at a right shift by exactly 32. -/
theorem rescaleW_eq_fixW (a m s : W) (hs : s ≠ 32#32) :
    rescaleW a m (halfW (rightW s)) (rightW s) (leftW s) = fixW a m s := by
  unfold fixW
  by_cases h0 : a = 0
  · subst h0
    rw [mag_zero m s hs]
    unfold rescaleW
    simp only [shli_unit, shrsi_unit]
    change IntOp.subi (IntOp.xori (magW 0 m (halfW (rightW s)) (rightW s) (leftW s)) _) _ = _
    rw [mag_zero m s hs]
    rfl
  · have hmain : rescaleW a m (halfW (rightW s)) (rightW s) (leftW s)
        = IntOp.subi (IntOp.xori (magW a m (halfW (rightW s)) (rightW s) (leftW s)) (IntOp.shrsi .vector a 31#32))
          (IntOp.shrsi .vector a 31#32) := rfl
    rw [hmain, sshift31]
    unfold signW
    rw [if_neg h0]
    split
    · exact neg_of_sign _
    · simp [IntOp.subi, IntOp.xori, IntOp.muli]

theorem clip16W_toInt (v : W) : (clip16W v).toInt = min 32767 (max (-32768) v.toInt) := by
  unfold clip16W IntOp.minsi IntOp.maxsi
  simp only [BitVec.slt_iff_toInt_lt]
  have h1 : (32767#32 : W).toInt = 32767 := rfl
  have h2 : (4294934528#32 : W).toInt = -32768 := rfl
  split <;> split at * <;> omega

theorem clip8W_toInt (v : W) : (clip8W v).toInt = min 127 (max (-128) v.toInt) := by
  unfold clip8W IntOp.minsi IntOp.maxsi
  simp only [BitVec.slt_iff_toInt_lt]
  have h1 : (127#32 : W).toInt = 127 := rfl
  have h2 : (4294967168#32 : W).toInt = -128 := rfl
  split <;> split at * <;> omega

theorem ext_trunc16 (v : W) (h1 : -32768 ≤ v.toInt) (h2 : v.toInt ≤ 32767) : (v.setWidth 16).signExtend 32 = v := by
  apply BitVec.eq_of_toInt_eq
  rw [BitVec.toInt_signExtend_of_le (by omega), BitVec.toInt_setWidth, Int.bmod_def]
  rw [BitVec.toInt_eq_toNat_cond] at *
  have := v.isLt
  split at * <;> omega

theorem ext_trunc8 (v : W) (h1 : -128 ≤ v.toInt) (h2 : v.toInt ≤ 127) : (v.setWidth 8).signExtend 32 = v := by
  apply BitVec.eq_of_toInt_eq
  rw [BitVec.toInt_signExtend_of_le (by omega), BitVec.toInt_setWidth, Int.bmod_def]
  rw [BitVec.toInt_eq_toNat_cond] at *
  have := v.isLt
  split at * <;> omega

theorem clip16W_lo (v : W) : -32768 ≤ (clip16W v).toInt := by rw [clip16W_toInt]; omega
theorem clip16W_hi (v : W) : (clip16W v).toInt ≤ 32767 := by rw [clip16W_toInt]; omega
theorem clip8W_lo (v : W) : -128 ≤ (clip8W v).toInt := by rw [clip8W_toInt]; omega
theorem clip8W_hi (v : W) : (clip8W v).toInt ≤ 127 := by rw [clip8W_toInt]; omega

theorem ext_trunc_clip16 (v : W) : ((clip16W v).setWidth 16).signExtend 32 = clip16W v :=
  ext_trunc16 _ (clip16W_lo v) (clip16W_hi v)

theorem ext_trunc_clip8 (v : W) : ((clip8W v).setWidth 8).signExtend 32 = clip8W v :=
  ext_trunc8 _ (clip8W_lo v) (clip8W_hi v)

/-- Rounding by the sign bit spread over the word and by the comparison with zero agree. -/
theorem round_sign (p k : W) :
    IntOp.subi (IntOp.addi p k) ((IntOp.cmpi .slt p 0#32).setWidth 32) = IntOp.addi (IntOp.addi p k) (IntOp.shrsi .vector p 31#32) := by
  rw [sshift31]
  have : IntOp.cmpi .slt p 0#32 = BitVec.ofBool p.msb := by
    unfold IntOp.cmpi
    rw [BitVec.slt_zero_eq_msb]
  rw [this]
  cases p.msb
  · simp [IntOp.subi, IntOp.addi]
  · simp only [IntOp.subi, IntOp.addi, ↓reduceIte]
    rw [BitVec.sub_eq_add_neg]
    rfl

/-- Linear interpolation between two table entries by a value's low seven bits. -/
def lerpW (a b v : W) : W :=
  IntOp.addi a (IntOp.shrsi .host (IntOp.addi (IntOp.muli (IntOp.subi b a) (IntOp.andi v 127#32)) 64#32) 7#32)

/-- Two adjacent table entries packed in a word. -/
def packW (a b : W) : W := IntOp.ori (IntOp.shli .host a 16#32) (IntOp.andi b 65535#32)

theorem packW_append (a b : BitVec 16) : packW (a.signExtend 32) (b.signExtend 32) = a ++ b := by
  have : packW (a.signExtend 32) (b.signExtend 32) = (a.signExtend 32 <<< 16) ||| (b.signExtend 32 &&& 65535#32) := rfl
  rw [this]
  apply BitVec.eq_of_getLsbD_eq
  intro i hi
  rw [show (65535#32 : W) = (BitVec.allOnes 16).setWidth 32 from rfl]
  simp only [BitVec.getLsbD_or, BitVec.getLsbD_shiftLeft, BitVec.getLsbD_and, BitVec.getLsbD_signExtend, BitVec.getLsbD_append,
    BitVec.getLsbD_setWidth, BitVec.getLsbD_allOnes]
  by_cases h : i < 16
  · simp [h, hi]
  · have h2 : i - 16 < 16 := by omega
    have h3 : i - 16 < 32 := by omega
    simp [h, hi, h2, h3]

theorem pack_hi (a b : BitVec 16) : IntOp.shrsi .vector (packW (a.signExtend 32) (b.signExtend 32)) 16#32 = a.signExtend 32 := by
  rw [packW_append]
  change (a ++ b).sshiftRight 16 = _
  apply BitVec.eq_of_getLsbD_eq
  intro i hi
  simp only [BitVec.getLsbD_sshiftRight, BitVec.getLsbD_append, BitVec.getLsbD_signExtend, BitVec.msb_append]
  by_cases h : i < 16
  · have h2 : ¬ (16 + i < 16) := by omega
    have h3 : 16 + i < 32 := by omega
    simp [h, hi, h3, show ¬ (32 ≤ i) by omega]
  · have h3 : ¬ (16 + i < 32) := by omega
    simp [h, hi, h3, show ¬ (32 ≤ i) by omega]

theorem pack_lo (a b : BitVec 16) :
    IntOp.shrsi .vector (IntOp.shli .vector (packW (a.signExtend 32) (b.signExtend 32)) 16#32) 16#32 = b.signExtend 32 := by
  rw [packW_append]
  change ((a ++ b) <<< 16).sshiftRight 16 = _
  have : ((a ++ b) <<< 16 : BitVec 32) = b ++ 0#16 := by
    apply BitVec.eq_of_getLsbD_eq
    intro i hi
    simp only [BitVec.getLsbD_append, BitVec.getLsbD_shiftLeft]
    by_cases h : i < 16
    · simp [h]
    · simp [h, hi, show i - 16 < 16 by omega]
  rw [this]
  have := pack_hi b 0#16
  rw [packW_append] at this
  exact this

/-- The interpolation between two entries packed in a word is the interpolation between the entries. -/
theorem interpW_pack (a b : BitVec 16) (v : W) :
    interpW (packW (a.signExtend 32) (b.signExtend 32)) v = lerpW (a.signExtend 32) (b.signExtend 32) v := by
  unfold interpW
  rw [pack_hi, pack_lo]
  rfl

theorem and127 (v : W) : (IntOp.andi v 127#32).toInt = v.toInt % 128 := by
  have h1 : (IntOp.andi v 127#32).toNat = v.toNat % 128 := by
    unfold IntOp.andi
    rw [BitVec.toNat_and]
    exact Nat.and_two_pow_sub_one_eq_mod _ 7
  rw [BitVec.toInt_eq_toNat_of_lt (by omega), h1, BitVec.toInt_eq_toNat_cond]
  split <;> omega

theorem shr7 (v : W) : (IntOp.shrsi .host v 7#32).toInt = v.toInt / 128 := by
  change (v.sshiftRight 7).toInt = _
  rw [BitVec.toInt_sshiftRight, Int.shiftRight_eq_div_pow]
  rfl

theorem sext16_bounds (a : BitVec 16) : -32768 ≤ (a.signExtend 32).toInt ∧ (a.signExtend 32).toInt ≤ 32767 := by
  rw [BitVec.toInt_signExtend_of_le (by omega)]
  have h1 := a.le_toInt
  have h2 := a.toInt_lt
  simp at h1 h2
  omega

theorem toInt_of_bounds (x : ℤ) (h1 : -2147483648 ≤ x) (h2 : x ≤ 2147483647) : x.bmod (2 ^ 32) = x := by
  rw [Int.bmod_eq_of_le] <;> omega

theorem lerpW_toInt (a b : BitVec 16) (v : W) :
    (lerpW (a.signExtend 32) (b.signExtend 32) v).toInt = a.toInt + ((b.toInt - a.toInt) * (v.toInt % 128) + 64) / 128
      ∧ -32768 ≤ a.toInt + ((b.toInt - a.toInt) * (v.toInt % 128) + 64) / 128
      ∧ a.toInt + ((b.toInt - a.toInt) * (v.toInt % 128) + 64) / 128 ≤ 32767 := by
  have ha := sext16_bounds a
  have hb := sext16_bounds b
  have ea : (a.signExtend 32).toInt = a.toInt := BitVec.toInt_signExtend_of_le (by omega)
  have eb : (b.signExtend 32).toInt = b.toInt := BitVec.toInt_signExtend_of_le (by omega)
  rw [ea] at ha
  rw [eb] at hb
  have h0 : 0 ≤ v.toInt % 128 := by omega
  have h1 : v.toInt % 128 ≤ 127 := by omega
  have ho := and127 v
  generalize v.toInt % 128 = o at *
  generalize a.toInt = A at *
  generalize b.toInt = B at *
  have hp1 : -8400000 ≤ (B - A) * o := by nlinarith
  have hp2 : (B - A) * o ≤ 8400000 := by nlinarith
  have hq1 : -32768 ≤ A + ((B - A) * o + 64) / 128 := by
    have : (-32768 - A) * 128 ≤ (B - A) * o + 64 := by
      nlinarith [mul_nonneg (show 0 ≤ B + 32768 by omega) h0, mul_nonneg (show 0 ≤ A + 32768 by omega) (show 0 ≤ 128 - o by omega)]
    omega
  have hq2 : A + ((B - A) * o + 64) / 128 ≤ 32767 := by
    have : (B - A) * o + 64 < (32768 - A) * 128 := by
      nlinarith [mul_nonneg (show 0 ≤ 32767 - B by omega) h0, mul_nonneg (show 0 ≤ 32767 - A by omega) (show 0 ≤ 128 - o by omega)]
    omega
  refine ⟨?_, hq1, hq2⟩
  have hs : (IntOp.subi (b.signExtend 32) (a.signExtend 32)).toInt = B - A := by
    unfold IntOp.subi
    rw [BitVec.toInt_sub, ea, eb, toInt_of_bounds _ (by omega) (by omega)]
  have hm : (IntOp.muli (IntOp.subi (b.signExtend 32) (a.signExtend 32)) (IntOp.andi v 127#32)).toInt = (B - A) * o := by
    unfold IntOp.muli
    rw [BitVec.toInt_mul, hs, ho, toInt_of_bounds _ (by omega) (by omega)]
  have hadd : (IntOp.addi (IntOp.muli (IntOp.subi (b.signExtend 32) (a.signExtend 32)) (IntOp.andi v 127#32)) 64#32).toInt
      = (B - A) * o + 64 := by
    unfold IntOp.addi
    rw [BitVec.toInt_add, hm, show (64#32 : W).toInt = 64 from rfl, toInt_of_bounds _ (by omega) (by omega)]
  unfold lerpW
  conv_lhs => unfold IntOp.addi
  rw [BitVec.toInt_add, shr7, ea]
  change (A + (IntOp.addi (IntOp.muli (IntOp.subi (b.signExtend 32) (a.signExtend 32)) (IntOp.andi v 127#32)) 64#32).toInt / 128).bmod _ = _
  rw [hadd, toInt_of_bounds _ (by omega) (by omega)]

/-- An interpolated entry is a sixteen-bit word. -/
theorem ext_trunc_lerp (a b : BitVec 16) (v : W) :
    ((lerpW (a.signExtend 32) (b.signExtend 32) v).setWidth 16).signExtend 32 = lerpW (a.signExtend 32) (b.signExtend 32) v := by
  obtain ⟨h, h1, h2⟩ := lerpW_toInt a b v
  exact ext_trunc16 _ (by omega) (by omega)

/-- The segment of the table a value lies in. -/
def segN (v : W) : ℕ := (v.toInt / 128 + 256).toNat

/-- The table segment's index, as a word. -/
def segW (v : W) : W := IntOp.addi (IntOp.shrsi .host v 7#32) 256#32

theorem segW_toInt (v : W) (h1 : -32768 ≤ v.toInt) (h2 : v.toInt ≤ 32767) : (segW v).toInt = v.toInt / 128 + 256 := by
  unfold segW
  conv_lhs => unfold IntOp.addi
  rw [BitVec.toInt_add, shr7, show (256#32 : W).toInt = 256 from rfl, toInt_of_bounds _ (by omega) (by omega)]

theorem segN_lt (v : W) (h1 : -32768 ≤ v.toInt) (h2 : v.toInt ≤ 32767) : segN v < 512 := by
  unfold segN; omega

/-- The index looked up is not negative, so it is not counted from the table's end. -/
theorem seg_select (v : W) (h1 : -32768 ≤ v.toInt) (h2 : v.toInt ≤ 32767) :
    Scalar.select (IntOp.cmpi .slt (segW v) 0#32) (IntOp.addi (segW v) 512#32) (segW v) = segW v := by
  have := segW_toInt v h1 h2
  unfold Scalar.select IntOp.cmpi
  rw [show (segW v).slt 0#32 = false from ?_]
  · rfl
  · rw [← Bool.not_eq_true, BitVec.slt_iff_toInt_lt, this]
    simp; omega

theorem laneW_toNat (v : W) : (laneW v).toNat = (v.toInt / 128 % 128).toNat := by
  unfold laneW
  have h := and127 (IntOp.shrsi .vector v 7#32)
  rw [shrsi_unit, shr7] at h
  rw [shrsi_unit]
  rw [BitVec.toInt_eq_toNat_cond] at h
  split at h <;> omega

/-- The quarter picked and the lane looked up in it are the table's segment. -/
theorem pickW_seg (f : ℕ → W) (v : W) (h1 : -32768 ≤ v.toInt) (h2 : v.toInt ≤ 32767) :
    pickW (f (0 + (laneW v).toNat)) (f (128 + (laneW v).toNat)) (f (256 + (laneW v).toNat)) (f (384 + (laneW v).toNat)) v = f (segN v) := by
  rw [laneW_toNat]
  unfold pickW Scalar.select IntOp.cmpi
  have e1 : (v.slt 0#32) = decide (v.toInt < 0) := by
    rw [Bool.eq_iff_iff, BitVec.slt_iff_toInt_lt]; simp
  have e2 : (v.slt 4294950912#32) = decide (v.toInt < -16384) := by
    rw [Bool.eq_iff_iff, BitVec.slt_iff_toInt_lt]; simp
  have e3 : (v.slt 16384#32) = decide (v.toInt < 16384) := by
    rw [Bool.eq_iff_iff, BitVec.slt_iff_toInt_lt]; simp
  simp only [e1, e2, e3]
  unfold segN
  by_cases c1 : v.toInt < 0
  · by_cases c2 : v.toInt < -16384
    · simp only [c1, c2, decide_true, BitVec.ofBool_true, ↓reduceIte]
      congr 1; omega
    · simp only [c1, c2, decide_true, decide_false, BitVec.ofBool_true, BitVec.ofBool_false, ↓reduceIte]
      rw [if_neg (by decide)]
      congr 1; omega
  · by_cases c2 : v.toInt < 16384
    · simp only [c1, c2, decide_true, decide_false, BitVec.ofBool_true, BitVec.ofBool_false, ↓reduceIte]
      rw [if_neg (by decide)]
      congr 1; omega
    · simp only [c1, c2, decide_false, BitVec.ofBool_false]
      rw [if_neg (by decide), if_neg (by decide)]
      congr 1; omega

end Lstm

end
-- ==== Proof.Spec.lean ====
/- The integer LSTM over a sequence, entry by entry, on the words of its arguments. -/
module

public import proofs.«01_k».proof.Proof.Words
public import Idealize.ShloMosaic.Lib.Pointwise.Index
public import Idealize.ShloMosaic.PureOps.Reduce
public import Mathlib.Data.BitVec
public import Mathlib.Algebra.BigOperators.Fin

@[expose] public section

namespace Lstm

open Idealize.ShloMosaic

/-- A fold of word addition from zero is the sum. -/
theorem fold_addi {n : ℕ} (f : Fin n → W) : Finset.univ.fold IntOp.addi (0#32 : W) f = ∑ k, f k := by
  rw [Finset.sum_eq_fold]; rfl

/-- The arguments of the layer. -/
structure Args where
  x : Shape.Idx ⟨3, ![256, 1024, 320]⟩ → BitVec 8
  h0 : Shape.Idx ⟨2, ![256, 192]⟩ → BitVec 8
  c0 : Shape.Idx ⟨2, ![256, 192]⟩ → BitVec 16
  wx : Shape.Idx ⟨3, ![320, 4, 192]⟩ → BitVec 8
  wh : Shape.Idx ⟨3, ![192, 4, 192]⟩ → BitVec 8
  bias : Shape.Idx ⟨2, ![4, 192]⟩ → W
  mx : Shape.Idx ⟨2, ![4, 192]⟩ → W
  sx : Shape.Idx ⟨2, ![4, 192]⟩ → W
  mh : Shape.Idx ⟨2, ![4, 192]⟩ → W
  sh : Shape.Idx ⟨2, ![4, 192]⟩ → W
  xzp : Shape.Idx ⟨0, ![]⟩ → W
  hzp : Shape.Idx ⟨0, ![]⟩ → W
  m : Shape.Idx ⟨0, ![]⟩ → W
  s : Shape.Idx ⟨0, ![]⟩ → W
  sig : Shape.Idx ⟨1, ![513]⟩ → BitVec 16
  tnh : Shape.Idx ⟨1, ![513]⟩ → BitVec 16

/-- The hidden and the cell state, by unit and batch row, as 32-bit words. -/
abbrev St := (Fin 192 → Fin 256 → W) × (Fin 192 → Fin 256 → W)

variable (A : Args)

/-- The correction of the input product: the bias less the zero point times the weights' column sum. -/
def xBias (g : Fin 4) (j : Fin 192) : W :=
  IntOp.subi (A.bias (ix2 g j)) (IntOp.muli (A.xzp ix0) (Finset.univ.fold IntOp.addi 0#32 fun k : Fin 320 => (A.wx (ix3 k g j)).signExtend 32))

/-- The correction of the recurrent product: the zero point times the weights' column sum. -/
def hBias (g : Fin 4) (j : Fin 192) : W :=
  IntOp.muli (A.hzp ix0) (Finset.univ.fold IntOp.addi 0#32 fun k : Fin 192 => (A.wh (ix3 k g j)).signExtend 32)

/-- The input product of a gate at a step. -/
def xProd (t : Fin 1024) (b : Fin 256) (g : Fin 4) (j : Fin 192) : W :=
  Finset.univ.fold IntOp.addi 0#32 fun k : Fin 320 => IntOp.muli ((A.x (ix3 b t k)).signExtend 32) ((A.wx (ix3 k g j)).signExtend 32)

/-- The recurrent product of a gate. -/
def hProd (h : Fin 192 → Fin 256 → W) (b : Fin 256) (g : Fin 4) (j : Fin 192) : W :=
  Finset.univ.fold IntOp.addi 0#32 fun k : Fin 192 => IntOp.muli (h k b) ((A.wh (ix3 k g j)).signExtend 32)

/-- The rescaled and clipped input part of a gate. -/
def xPart (t : Fin 1024) (b : Fin 256) (g : Fin 4) (j : Fin 192) : W :=
  clip16W (fixW (IntOp.addi (xProd A t b g j) (xBias A g j)) (A.mx (ix2 g j)) (A.sx (ix2 g j)))

/-- The rescaled and clipped recurrent part of a gate. -/
def hPart (h : Fin 192 → Fin 256 → W) (b : Fin 256) (g : Fin 4) (j : Fin 192) : W :=
  clip16W (fixW (IntOp.subi (hProd A h b g j) (hBias A g j)) (A.mh (ix2 g j)) (A.sh (ix2 g j)))

/-- A gate before its activation. -/
def gateS (t : Fin 1024) (h : Fin 192 → Fin 256 → W) (b : Fin 256) (g : Fin 4) (j : Fin 192) : W :=
  clip16W (IntOp.addi (xPart A t b g j) (hPart A h b g j))

/-- A table looked up at a word. -/
def lutS (T : Shape.Idx ⟨1, ![513]⟩ → BitVec 16) (v : W) : W :=
  lerpW ((T (ix1 ⟨segN v % 512, by omega⟩)).signExtend 32) ((T (ix1 ⟨segN v % 512 + 1, by omega⟩)).signExtend 32) v

/-- The next cell state. -/
def newC (t : Fin 1024) (s : St) (j : Fin 192) (b : Fin 256) : W :=
  nextCW (lutS A.sig (gateS A t s.1 b 0 j)) (lutS A.sig (gateS A t s.1 b 1 j)) (lutS A.tnh (gateS A t s.1 b 2 j)) (s.2 j b)

/-- The next hidden state. -/
def newH (t : Fin 1024) (s : St) (j : Fin 192) (b : Fin 256) : W :=
  clip8W (IntOp.addi (fixW (IntOp.muli (lutS A.sig (gateS A t s.1 b 3 j)) (lutS A.tnh (twiceW (newC A t s j b)))) (A.m ix0) (A.s ix0))
    (A.hzp ix0))

/-- The state before a step. -/
def stAt : ℕ → St
  | 0 => (fun j b => (A.h0 (ix2 b j)).signExtend 32, fun j b => (A.c0 (ix2 b j)).signExtend 32)
  | n + 1 => (newH A ⟨n % 1024, by omega⟩ (stAt n), newC A ⟨n % 1024, by omega⟩ (stAt n))

theorem gateS_lo (t : Fin 1024) (h : Fin 192 → Fin 256 → W) (b : Fin 256) (g : Fin 4) (j : Fin 192) : -32768 ≤ (gateS A t h b g j).toInt :=
  clip16W_lo _
theorem gateS_hi (t : Fin 1024) (h : Fin 192 → Fin 256 → W) (b : Fin 256) (g : Fin 4) (j : Fin 192) : (gateS A t h b g j).toInt ≤ 32767 :=
  clip16W_hi _

/-- The hidden state is a byte. -/
theorem stAt_h : ∀ (n : ℕ) (j : Fin 192) (b : Fin 256), -128 ≤ ((stAt A n).1 j b).toInt ∧ ((stAt A n).1 j b).toInt ≤ 127
  | 0, j, b => by
    change -128 ≤ ((A.h0 (ix2 b j)).signExtend 32).toInt ∧ ((A.h0 (ix2 b j)).signExtend 32).toInt ≤ 127
    rw [BitVec.toInt_signExtend_of_le (by omega)]
    have h1 := (A.h0 (ix2 b j)).le_toInt
    have h2 := (A.h0 (ix2 b j)).toInt_lt
    simp at h1 h2
    omega
  | n + 1, j, b => by
    simp only [stAt, newH]
    exact ⟨clip8W_lo _, clip8W_hi _⟩

/-- The cell state is a sixteen-bit word. -/
theorem stAt_c : ∀ (n : ℕ) (j : Fin 192) (b : Fin 256), -32768 ≤ ((stAt A n).2 j b).toInt ∧ ((stAt A n).2 j b).toInt ≤ 32767
  | 0, j, b => by
    exact sext16_bounds (A.c0 (ix2 b j))
  | n + 1, j, b => by
    simp only [stAt, newC, nextCW]
    exact ⟨clip16W_lo _, clip16W_hi _⟩

end Lstm

end
-- ==== Proof.KCell.lean ====
/- The kernel's cell, on the operands the host prepares, is one step of the layer. -/
module

public import proofs.«01_k».proof.Proof.Spec
public import proofs.«01_k».proof.Proof.Cells
public import Idealize.ShloMosaic.Lib.Pointwise.IndexBridge

@[expose] public section

namespace Lstm

open Idealize.ShloMosaic

/-- The operands of the cell, as the host makes them of the arguments. -/
structure Fits (A : Args) (P : Params) : Prop where
  sg : ∀ (q : Fin 32) (l : Fin 128), P.sg (ValueIdx.ix2 q l) = packW ((A.sig (ix1 ⟨q.val / 8 * 128 + l.val, by omega⟩)).signExtend 32) ((A.sig (ix1 ⟨1 + (q.val / 8 * 128 + l.val), by omega⟩)).signExtend 32)
  tn : ∀ (q : Fin 32) (l : Fin 128), P.tn (ValueIdx.ix2 q l) = packW ((A.tnh (ix1 ⟨q.val / 8 * 128 + l.val, by omega⟩)).signExtend 32) ((A.tnh (ix1 ⟨1 + (q.val / 8 * 128 + l.val), by omega⟩)).signExtend 32)
  bx : ∀ (g : Fin 4) (j : Fin 192) (l : Fin 128), P.bx (ValueIdx.ix2 (rowG g j) l) = xBias A g j
  bh : ∀ (g : Fin 4) (j : Fin 192) (l : Fin 128), P.bh (ValueIdx.ix2 (rowG g j) l) = hBias A g j
  px0 : ∀ (g : Fin 4) (j : Fin 192) (l : Fin 128), P.px (ValueIdx.ix3 0 (rowG g j) l) = A.mx (ix2 g j)
  px1 : ∀ (g : Fin 4) (j : Fin 192) (l : Fin 128), P.px (ValueIdx.ix3 1 (rowG g j) l) = halfW (rightW (A.sx (ix2 g j)))
  px2 : ∀ (g : Fin 4) (j : Fin 192) (l : Fin 128), P.px (ValueIdx.ix3 2 (rowG g j) l) = rightW (A.sx (ix2 g j))
  px3 : ∀ (g : Fin 4) (j : Fin 192) (l : Fin 128), P.px (ValueIdx.ix3 3 (rowG g j) l) = leftW (A.sx (ix2 g j))
  ph0 : ∀ (g : Fin 4) (j : Fin 192) (l : Fin 128), P.ph (ValueIdx.ix3 0 (rowG g j) l) = A.mh (ix2 g j)
  ph1 : ∀ (g : Fin 4) (j : Fin 192) (l : Fin 128), P.ph (ValueIdx.ix3 1 (rowG g j) l) = halfW (rightW (A.sh (ix2 g j)))
  ph2 : ∀ (g : Fin 4) (j : Fin 192) (l : Fin 128), P.ph (ValueIdx.ix3 2 (rowG g j) l) = rightW (A.sh (ix2 g j))
  ph3 : ∀ (g : Fin 4) (j : Fin 192) (l : Fin 128), P.ph (ValueIdx.ix3 3 (rowG g j) l) = leftW (A.sh (ix2 g j))
  m : P.m = A.m ix0
  half : P.half = halfW (rightW (A.s ix0))
  right : P.right = rightW (A.s ix0)
  left : P.left = leftW (A.s ix0)
  zp : P.zp = A.hzp ix0

/-- No shift to the right is by the word's whole width. -/
structure Meets (A : Args) : Prop where
  sx : ∀ (g : Fin 4) (j : Fin 192), A.sx (ix2 g j) ≠ 32#32
  sh : ∀ (g : Fin 4) (j : Fin 192), A.sh (ix2 g j) ≠ 32#32
  s : A.s ix0 ≠ 32#32

theorem lane_lt (v : W) : (laneW v).toNat < 128 := by
  unfold laneW IntOp.andi
  rw [BitVec.toNat_and]
  exact lt_of_le_of_lt Nat.and_le_right (by decide)

/-- The packed table looked up is the table looked up. -/
theorem tabW_eq (Tb : Shape.Idx ⟨1, ![513]⟩ → BitVec 16) (T : Shape.Idx ⟨2, ![32, 128]⟩ → W)
    (hT : ∀ (q : Fin 32) (l : Fin 128), T (ValueIdx.ix2 q l) = packW ((Tb (ix1 ⟨q.val / 8 * 128 + l.val, by omega⟩)).signExtend 32) ((Tb (ix1 ⟨1 + (q.val / 8 * 128 + l.val), by omega⟩)).signExtend 32))
    (r : Fin 192) (v : W) (h1 : -32768 ≤ v.toInt) (h2 : v.toInt ≤ 32767) : tabW T r v = lutS Tb v := by
  have pk : ∀ a a' b b' : Fin 513, a = a' → b = b' →
      packW ((Tb (ix1 a)).signExtend 32) ((Tb (ix1 b)).signExtend 32) = packW ((Tb (ix1 a')).signExtend 32) ((Tb (ix1 b')).signExtend 32) := by
    rintro _ _ _ _ rfl rfl; rfl
  have hl := lane_lt v
  unfold tabW
  rw [hT, hT, hT, hT]
  let f : ℕ → W := fun n => packW ((Tb (ix1 ⟨n % 512, by omega⟩)).signExtend 32) ((Tb (ix1 ⟨n % 512 + 1, by omega⟩)).signExtend 32)
  have e := pickW_seg f v h1 h2
  refine Eq.trans ?_ ((congrArg (fun w => interpW w v) e).trans (interpW_pack _ _ v))
  refine congrArg (fun w => interpW w v) ?_
  have e0 := pk ⟨(0 + r.val % 8) / 8 * 128 + (laneW v).toNat % 128, by omega⟩ ⟨(0 + (laneW v).toNat) % 512, by omega⟩
    ⟨1 + ((0 + r.val % 8) / 8 * 128 + (laneW v).toNat % 128), by omega⟩ ⟨(0 + (laneW v).toNat) % 512 + 1, by omega⟩
    (Fin.ext (by show (0 + r.val % 8) / 8 * 128 + (laneW v).toNat % 128 = (0 + (laneW v).toNat) % 512; omega))
    (Fin.ext (by show 1 + ((0 + r.val % 8) / 8 * 128 + (laneW v).toNat % 128) = (0 + (laneW v).toNat) % 512 + 1; omega))
  have e1 := pk ⟨(8 + r.val % 8) / 8 * 128 + (laneW v).toNat % 128, by omega⟩ ⟨(128 + (laneW v).toNat) % 512, by omega⟩
    ⟨1 + ((8 + r.val % 8) / 8 * 128 + (laneW v).toNat % 128), by omega⟩ ⟨(128 + (laneW v).toNat) % 512 + 1, by omega⟩
    (Fin.ext (by show (8 + r.val % 8) / 8 * 128 + (laneW v).toNat % 128 = (128 + (laneW v).toNat) % 512; omega))
    (Fin.ext (by show 1 + ((8 + r.val % 8) / 8 * 128 + (laneW v).toNat % 128) = (128 + (laneW v).toNat) % 512 + 1; omega))
  have e2 := pk ⟨(16 + r.val % 8) / 8 * 128 + (laneW v).toNat % 128, by omega⟩ ⟨(256 + (laneW v).toNat) % 512, by omega⟩
    ⟨1 + ((16 + r.val % 8) / 8 * 128 + (laneW v).toNat % 128), by omega⟩ ⟨(256 + (laneW v).toNat) % 512 + 1, by omega⟩
    (Fin.ext (by show (16 + r.val % 8) / 8 * 128 + (laneW v).toNat % 128 = (256 + (laneW v).toNat) % 512; omega))
    (Fin.ext (by show 1 + ((16 + r.val % 8) / 8 * 128 + (laneW v).toNat % 128) = (256 + (laneW v).toNat) % 512 + 1; omega))
  have e3 := pk ⟨(24 + r.val % 8) / 8 * 128 + (laneW v).toNat % 128, by omega⟩ ⟨(384 + (laneW v).toNat) % 512, by omega⟩
    ⟨1 + ((24 + r.val % 8) / 8 * 128 + (laneW v).toNat % 128), by omega⟩ ⟨(384 + (laneW v).toNat) % 512 + 1, by omega⟩
    (Fin.ext (by show (24 + r.val % 8) / 8 * 128 + (laneW v).toNat % 128 = (384 + (laneW v).toNat) % 512; omega))
    (Fin.ext (by show 1 + ((24 + r.val % 8) / 8 * 128 + (laneW v).toNat % 128) = (384 + (laneW v).toNat) % 512 + 1; omega))
  rw [e0, e1, e2, e3]

section
variable {A : Args} {P : Params} (H : Fits A P) (M : Meets A) {ax ah : Shape.Idx ⟨2, ![768, 256]⟩ → W} {c : Shape.Idx ⟨2, ![192, 256]⟩ → W}
  {t : Fin 1024} {s : St}
  (hx : ∀ (g : Fin 4) (j : Fin 192) (b : Fin 256), ax (ValueIdx.ix2 (rowG g j) b) = xProd A t b g j)
  (hh : ∀ (g : Fin 4) (j : Fin 192) (b : Fin 256), ah (ValueIdx.ix2 (rowG g j) b) = hProd A s.1 b g j)
  (hc : ∀ (j : Fin 192) (b : Fin 256), c (ValueIdx.ix2 j b) = s.2 j b)
include H M hx hh

theorem preA_eq (g : Fin 4) (j : Fin 192) (b : Fin 256) : preA P ax ah g j b = gateS A t s.1 b g j := by
  unfold preA preW
  rw [hx, hh, H.bx, H.bh, H.px0, H.px1, H.px2, H.px3, H.ph0, H.ph1, H.ph2, H.ph3, rescaleW_eq_fixW _ _ _ (M.sx g j),
    rescaleW_eq_fixW _ _ _ (M.sh g j)]
  rfl

include hc

theorem cA_eq (j : Fin 192) (b : Fin 256) : cA P ax ah c j b = newC A t s j b := by
  unfold cA newC
  rw [preA_eq H M hx hh, preA_eq H M hx hh, preA_eq H M hx hh, hc,
    tabW_eq A.sig P.sg H.sg _ _ (gateS_lo A t s.1 b 0 j) (gateS_hi A t s.1 b 0 j),
    tabW_eq A.sig P.sg H.sg _ _ (gateS_lo A t s.1 b 1 j) (gateS_hi A t s.1 b 1 j),
    tabW_eq A.tnh P.tn H.tn _ _ (gateS_lo A t s.1 b 2 j) (gateS_hi A t s.1 b 2 j)]

theorem hA_eq (j : Fin 192) (b : Fin 256) : hA P ax ah c j b = newH A t s j b := by
  unfold hA newH nextHW
  rw [preA_eq H M hx hh, cA_eq H M hx hh hc,
    tabW_eq A.sig P.sg H.sg _ _ (gateS_lo A t s.1 b 3 j) (gateS_hi A t s.1 b 3 j),
    tabW_eq A.tnh P.tn H.tn _ (twiceW (newC A t s j b)) (clip16W_lo _) (clip16W_hi _),
    H.m, H.half, H.right, H.left, H.zp, rescaleW_eq_fixW _ _ _ M.s]
end

end Lstm

end
-- ==== Proof.KSum.lean ====
/- A matrix product of integers, taken over the reals and read back as a word, is the product of the words. -/
module

public import proofs.«01_k».proof.Proof.Spec
public import Idealize.ShloMosaic.PureOps.Ideal
public import Mathlib.Data.EReal.Operations
public import Mathlib.Tactic.NormNum
public import Mathlib.Algebra.Order.BigOperators.Group.Finset

@[expose] public section

namespace Lstm

open Idealize.ShloMosaic

theorem fptosi_int (z : ℤ) (h1 : -2147483648 ≤ z) (h2 : z ≤ 2147483647) : Ideal.fptosi 32 ((z : ℝ) : EReal) = BitVec.ofInt 32 z := by
  unfold Ideal.fptosi
  rw [Ideal.toIntClamped_coe, Int.floor_intCast, Int.ceil_intCast, ite_self]
  congr 1
  norm_num
  omega

theorem coe_sum {n : ℕ} (f : Fin n → ℝ) : ∑ k, ((f k : ℝ) : EReal) = ((∑ k, f k : ℝ) : EReal) := by
  have : ∀ s : Finset (Fin n), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact this _

theorem dot_int {n : ℕ} (a b : Fin n → W) :
    ∑ k, (((a k).toInt : ℝ) : EReal) * (((b k).toInt : ℝ) : EReal) = (((∑ k, (a k).toInt * (b k).toInt : ℤ) : ℝ) : EReal) := by
  simp only [← EReal.coe_mul]
  rw [coe_sum]
  push_cast
  rfl

theorem ofInt_dot {n : ℕ} (a b : Fin n → W) : BitVec.ofInt 32 (∑ k, (a k).toInt * (b k).toInt) = ∑ k, a k * b k := by
  have : ∀ s : Finset (Fin n), BitVec.ofInt 32 (∑ k ∈ s, (a k).toInt * (b k).toInt) = ∑ k ∈ s, a k * b k := fun s => by
    induction s using Finset.induction_on with
    | empty => rfl
    | insert x s ha ih =>
      rw [Finset.sum_insert ha, Finset.sum_insert ha, BitVec.ofInt_add, BitVec.ofInt_mul, BitVec.ofInt_toInt, BitVec.ofInt_toInt, ih]
  exact this _

theorem dot_bound {n : ℕ} (a b : Fin n → W) (ha : ∀ k, -128 ≤ (a k).toInt ∧ (a k).toInt ≤ 127) (hb : ∀ k, -128 ≤ (b k).toInt ∧ (b k).toInt ≤ 127) :
    |∑ k, (a k).toInt * (b k).toInt| ≤ n * 16384 := by
  refine (Finset.abs_sum_le_sum_abs _ _).trans ?_
  refine (Finset.sum_le_card_nsmul _ _ 16384 fun k _ => ?_).trans ?_
  · rw [abs_mul]
    have h1 : |(a k).toInt| ≤ 128 := abs_le.mpr ⟨by have := ha k; omega, by have := ha k; omega⟩
    have h2 : |(b k).toInt| ≤ 128 := abs_le.mpr ⟨by have := hb k; omega, by have := hb k; omega⟩
    calc _ ≤ (128 : ℤ) * 128 := mul_le_mul h1 h2 (abs_nonneg _) (by norm_num)
      _ = 16384 := by norm_num
  · simp

theorem sext8_bounds (v : BitVec 8) : -128 ≤ (v.signExtend 32).toInt ∧ (v.signExtend 32).toInt ≤ 127 := by
  rw [BitVec.toInt_signExtend_of_le (by omega)]
  have h1 := v.le_toInt
  have h2 := v.toInt_lt
  simp at h1 h2
  omega

theorem sext8_toInt (v : BitVec 8) : (v.signExtend 32).toInt = v.toInt := BitVec.toInt_signExtend_of_le (by omega)

/-- The product of two rows of small integers, read back from the reals. -/
theorem fptosi_dot {n : ℕ} (hn : n ≤ 100000) (a b : Fin n → W) (ha : ∀ k, -128 ≤ (a k).toInt ∧ (a k).toInt ≤ 127)
    (hb : ∀ k, -128 ≤ (b k).toInt ∧ (b k).toInt ≤ 127) :
    Ideal.fptosi 32 (∑ k, (((a k).toInt : ℝ) : EReal) * (((b k).toInt : ℝ) : EReal))
      = Finset.univ.fold IntOp.addi 0#32 fun k => IntOp.muli (b k) (a k) := by
  have h := abs_le.mp (dot_bound a b ha hb)
  rw [dot_int, fptosi_int _ (by omega) (by omega), ofInt_dot, fold_addi]
  exact Finset.sum_congr rfl fun k _ => mul_comm _ _

end Lstm

end
-- ==== Proof.KStep.lean ====
/- One time step of the kernel, on the operands the host prepares, is one step of the layer. -/
module

public import proofs.«01_k».proof.Proof.KCell
public import proofs.«01_k».proof.Proof.KSum
public import proofs.«01_k».proof.Proof.LoopKernelIdeal
public import Idealize.ShloMosaic.Lib.Pointwise
public import Idealize.ShloMosaic.Lib.Tactic.CleanTypes

@[expose] public section

noncomputable section

namespace Cert.KernelIdeal.Gen

open Idealize.ShloMosaic Lstm

/-- A word as a real. -/
abbrev realW (w : W) : EReal := (((w.toInt : ℤ) : ℝ) : EReal)

theorem pay160_at (x : Vec Ideal S1x320x256 .i8) (w : Vec Ideal S768x320 .bf16) (r : Fin 768) (b : Fin 256) :
    k0_pay160 (F := Ideal) x w (ix2 r b) = ∑ k : Fin 320, w (ix2 r k) * ((((x (ix3 0 k b)).toInt : ℝ)) : EReal) := by
  unfold k0_pay160
  clean_types
  pointwise
  rfl

theorem pay161_at (w : Vec Ideal S768x192 .bf16) (h : Vec Ideal S192x256 .f32) (r : Fin 768) (b : Fin 256) :
    k0_pay161 (F := Ideal) w h (ix2 r b) = ∑ k : Fin 192, w (ix2 r k) * h (ix2 k b) := by
  unfold k0_pay161
  clean_types
  pointwise

theorem outRow_at (h : Vec Ideal S192x256 .f32) (r : Fin 192) (b : Fin 256) :
    outRow (F := Ideal) h r b = (Ideal.fptosi 32 (h (ix2 r b))).setWidth 8 := by
  unfold outRow k0_pay6
  rw [← ix3_eq_valueIdx]
  clean_types
  pointwise
  rfl

/-- The kernel's carried state is the layer's before step `n`. -/
structure Holds (A : Args) (n : ℕ) (s : HC Ideal) : Prop where
  h : ∀ (j : Fin 192) (b : Fin 256), s.1 (ix2 j b) = realW ((stAt A n).1 j b)
  c : ∀ (j : Fin 192) (b : Fin 256), s.2 (ix2 j b) = (stAt A n).2 j b

/-- The operands of the matrix products, at grid point `i`. -/
structure Feeds (A : Args) (i : ℕ) (x2 : Vec Ideal S16x320x256 .i8) (x3 : Vec Ideal S768x320 .bf16) (x4 : Vec Ideal S768x192 .bf16) : Prop where
  x : ∀ (n : Fin 1024) (t : Fin 16) (k : Fin 320) (b : Fin 256), n.val = 16 * i + t.val → x2 (ix3 t k b) = A.x (ix3 b n k)
  wx : ∀ (g : Fin 4) (j : Fin 192) (k : Fin 320), x3 (ix2 (rowG g j) k) = realW ((A.wx (ix3 k g j)).signExtend 32)
  wh : ∀ (g : Fin 4) (j : Fin 192) (k : Fin 192), x4 (ix2 (rowG g j) k) = realW ((A.wh (ix3 k g j)).signExtend 32)

theorem state_succ (A : Args) {n : ℕ} (hn : n < 1024) : stAt A (n + 1) = (newH A ⟨n, hn⟩ (stAt A n), newC A ⟨n, hn⟩ (stAt A n)) := by
  have e : (⟨n % 1024, by omega⟩ : Fin 1024) = ⟨n, hn⟩ := Fin.ext (Nat.mod_eq_of_lt hn)
  rw [stAt, e]

theorem hcNext_h (P : Params) (x2 : Vec Ideal S16x320x256 .i8) (x3 : Vec Ideal S768x320 .bf16) (x4 : Vec Ideal S768x192 .bf16) (t : ℕ) (s : HC Ideal)
    (j : Fin 192) (b : Fin 256) :
    (hcNext P x2 x3 x4 t s).1 (ix2 j b) = realW (hA P (fun i => FloatOps.fptosi (F := Ideal) (φ := .f32) 32 (k0_pay160 (xRow x2 t) x3 i))
      (fun i => FloatOps.fptosi (F := Ideal) (φ := .f32) 32 (k0_pay161 x4 s.1 i)) s.2 j b) := by
  unfold hcNext
  generalize hA P (fun i => FloatOps.fptosi (F := Ideal) (φ := .f32) 32 (k0_pay160 (xRow x2 t) x3 i))
      (fun i => FloatOps.fptosi (F := Ideal) (φ := .f32) 32 (k0_pay161 x4 s.1 i)) s.2 = f
  rfl

theorem hcNext_c (P : Params) (x2 : Vec Ideal S16x320x256 .i8) (x3 : Vec Ideal S768x320 .bf16) (x4 : Vec Ideal S768x192 .bf16) (t : ℕ) (s : HC Ideal)
    (j : Fin 192) (b : Fin 256) :
    (hcNext P x2 x3 x4 t s).2 (ix2 j b) = cA P (fun i => FloatOps.fptosi (F := Ideal) (φ := .f32) 32 (k0_pay160 (xRow x2 t) x3 i))
      (fun i => FloatOps.fptosi (F := Ideal) (φ := .f32) 32 (k0_pay161 x4 s.1 i)) s.2 j b := by
  unfold hcNext
  generalize cA P (fun i => FloatOps.fptosi (F := Ideal) (φ := .f32) 32 (k0_pay160 (xRow x2 t) x3 i))
      (fun i => FloatOps.fptosi (F := Ideal) (φ := .f32) 32 (k0_pay161 x4 s.1 i)) s.2 = f
  rfl

section
variable {A : Args} {i : ℕ} {x2 : Vec Ideal S16x320x256 .i8} {x3 : Vec Ideal S768x320 .bf16} {x4 : Vec Ideal S768x192 .bf16}
  (X : Feeds A i x2 x3 x4)
include X

theorem ax_at (n : Fin 1024) (t : ℕ) (ht : t < 16) (e : n.val = 16 * i + t) (g : Fin 4) (j : Fin 192) (b : Fin 256) :
    FloatOps.fptosi (F := Ideal) (φ := .f32) 32 (k0_pay160 (xRow x2 t) x3 (ValueIdx.ix2 (rowG g j) b)) = xProd A n b g j := by
  show Ideal.fptosi 32 (k0_pay160 (F := Ideal) (xRow x2 t) x3 (ValueIdx.ix2 (rowG g j) b)) = _
  rw [← ix2_eq_valueIdx, pay160_at]
  have hx : ∀ k : Fin 320, xRow (F := Ideal) x2 t (ix3 0 k b) = A.x (ix3 b n k) := fun k =>
    (congrArg x2 (ix3_eq_valueIdx _ _ _).symm).trans (X.x n ⟨t % 16, Nat.mod_lt _ (by decide)⟩ k b (by show n.val = 16 * i + t % 16; omega))
  simp only [hx, X.wx]
  have e8 : ∀ k : Fin 320, ((((A.x (ix3 b n k)).toInt : ℤ) : ℝ) : EReal) = realW ((A.x (ix3 b n k)).signExtend 32) := fun k => by
    rw [← sext8_toInt]
  simp only [e8]
  exact fptosi_dot (by decide) (fun k => (A.wx (ix3 k g j)).signExtend 32) (fun k => (A.x (ix3 b n k)).signExtend 32)
    (fun k => sext8_bounds _) (fun k => sext8_bounds _)

theorem ah_at (n : ℕ) (s : HC Ideal) (S : Holds A n s) (g : Fin 4) (j : Fin 192) (b : Fin 256) :
    FloatOps.fptosi (F := Ideal) (φ := .f32) 32 (k0_pay161 x4 s.1 (ValueIdx.ix2 (rowG g j) b)) = hProd A (stAt A n).1 b g j := by
  show Ideal.fptosi 32 (k0_pay161 (F := Ideal) x4 s.1 (ValueIdx.ix2 (rowG g j) b)) = _
  rw [← ix2_eq_valueIdx, pay161_at]
  simp only [S.h, X.wh]
  exact fptosi_dot (by decide) (fun k => (A.wh (ix3 k g j)).signExtend 32) (fun k => (stAt A n).1 k b)
    (fun k => sext8_bounds _) (fun k => stAt_h A n k b)

theorem holds_next {P : Params} (H : Fits A P) (M : Meets A) (n t : ℕ) (ht : t < 16) (e : n = 16 * i + t) (hn : n < 1024) (s : HC Ideal)
    (S : Holds A n s) : Holds A (n + 1) (hcNext P x2 x3 x4 t s) where
  h j b := by
    rw [state_succ A hn]
    have e2 := hA_eq (ax := fun i => FloatOps.fptosi (F := Ideal) (φ := .f32) 32 (k0_pay160 (xRow x2 t) x3 i)) (ah := fun i => FloatOps.fptosi (F := Ideal) (φ := .f32) 32 (k0_pay161 x4 s.1 i)) (c := s.2) H M
      (ax_at X ⟨n, hn⟩ t ht e) (ah_at X n s S)
      (fun j b => (congrArg s.2 (ix2_eq_valueIdx _ _).symm).trans (S.c j b)) j b
    refine (hcNext_h P x2 x3 x4 t s j b).trans ?_
    rw [e2]
  c j b := by
    rw [state_succ A hn]
    have e2 := cA_eq (ax := fun i => FloatOps.fptosi (F := Ideal) (φ := .f32) 32 (k0_pay160 (xRow x2 t) x3 i)) (ah := fun i => FloatOps.fptosi (F := Ideal) (φ := .f32) 32 (k0_pay161 x4 s.1 i)) (c := s.2) H M
      (ax_at X ⟨n, hn⟩ t ht e) (ah_at X n s S)
      (fun j b => (congrArg s.2 (ix2_eq_valueIdx _ _).symm).trans (S.c j b)) j b
    refine (hcNext_c P x2 x3 x4 t s j b).trans ?_
    rw [e2]

theorem holds_at {P : Params} (H : Fits A P) (M : Meets A) (hi : i < 64) (s : HC Ideal) (S : Holds A (16 * i) s) (t : ℕ) (ht : t ≤ 16) :
    Holds A (16 * i + t) (hcAt P x2 x3 x4 s t) := by
  induction t with
  | zero => exact S
  | succ t ih =>
    rw [hcAt_succ]
    exact holds_next X H M (16 * i + t) t (by omega) rfl (by omega) _ (ih (by omega))
end

theorem outRow_holds {A : Args} {n : ℕ} {s : HC Ideal} (S : Holds A n s) (r : Fin 192) (b : Fin 256) :
    outRow (F := Ideal) s.1 r b = ((stAt A n).1 r b).setWidth 8 := by
  rw [outRow_at, S.h]
  have h := stAt_h A n r b
  rw [fptosi_int _ (by omega) (by omega), BitVec.ofInt_toInt]

end Cert.KernelIdeal.Gen

end

end
-- ==== Proof.Prefix.lean ====
/- What the host's operations before the kernel leave in the arrays it reads, entry by entry. -/
module

public import proofs.«01_k».proof.Proof.Spec
public import proofs.«01_k».proof.Proof.RunKernelIdeal
public import Idealize.ShloMosaic.Lib.Pointwise
public import Idealize.ShloMosaic.Lib.Tactic.CleanTypes
public import Idealize.ShloMosaic.Lib.StableHlo.ReadAt

@[expose] public section

noncomputable section

namespace Cert.KernelIdeal.Gen

open Idealize.ShloMosaic Idealize.ShloMosaic.StableHlo Lstm

/-- The program's arguments, from what the buffers hold at launch. -/
def argsK (m : (ℓ : Loc nD τ sig) → Buf (Elt Ideal) ℓ) (c : Dev nD) : Lstm.Args where
  x := m (c, Proc.devRef .tc main_arg0)
  h0 := m (c, Proc.devRef .tc main_arg1)
  c0 := m (c, Proc.devRef .tc main_arg2)
  wx := m (c, Proc.devRef .tc main_arg3)
  wh := m (c, Proc.devRef .tc main_arg4)
  bias := m (c, Proc.devRef .tc main_arg5)
  mx := m (c, Proc.devRef .tc main_arg6)
  sx := m (c, Proc.devRef .tc main_arg7)
  mh := m (c, Proc.devRef .tc main_arg8)
  sh := m (c, Proc.devRef .tc main_arg9)
  xzp := m (c, Proc.devRef .tc main_arg10)
  hzp := m (c, Proc.devRef .tc main_arg11)
  m := m (c, Proc.devRef .tc main_arg12)
  s := m (c, Proc.devRef .tc main_arg13)
  sig := m (c, Proc.devRef .tc main_arg14)
  tnh := m (c, Proc.devRef .tc main_arg15)

variable (m : (ℓ : Loc nD τ sig) → Buf (Elt Ideal) ℓ) (c : Dev nD)

/-- A row's gate and its position within the gate. -/
def gOf (r : Fin 768) : Fin 4 := ⟨r.val / 192, by omega⟩
def jOf (r : Fin 768) : Fin 192 := ⟨r.val % 192, by omega⟩

theorem v78_at (t : Fin 1024) (k : Fin 320) (b : Fin 256) : V m c main_v78 (ix3 t k b) = (argsK m c).x (ix3 b t k) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v103_at (j : Fin 192) (b : Fin 256) : V m c main_v103 (ix2 j b) = FloatOps.sitofp (F := Ideal) .f32 (((argsK m c).h0 (ix2 b j)).signExtend 32) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v105_at (j : Fin 192) (b : Fin 256) : V m c main_v105 (ix2 j b) = ((argsK m c).c0 (ix2 b j)).signExtend 32 := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v73_at (r : Fin 768) (k : Fin 320) : V m c main_v73 (ix2 r k) = FloatOps.sitofp (F := Ideal) .bf16 (((argsK m c).wx (ix3 k (gOf r) (jOf r))).signExtend 32) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v77_at (r : Fin 768) (k : Fin 192) : V m c main_v77 (ix2 r k) = FloatOps.sitofp (F := Ideal) .bf16 (((argsK m c).wh (ix3 k (gOf r) (jOf r))).signExtend 32) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v8_at (r : Fin 768) (l : Fin 128) : V m c main_v8 (ix2 r l) = xBias (argsK m c) (gOf r) (jOf r) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v12_at (r : Fin 768) (l : Fin 128) : V m c main_v12 (ix2 r l) = hBias (argsK m c) (gOf r) (jOf r) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v33_0_at (r : Fin 768) (l : Fin 128) : V m c main_v33 (ix3 0 r l) = (argsK m c).mx (ix2 (gOf r) (jOf r)) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v33_1_at (r : Fin 768) (l : Fin 128) : V m c main_v33 (ix3 1 r l) = halfW (rightW ((argsK m c).sx (ix2 (gOf r) (jOf r)))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v33_2_at (r : Fin 768) (l : Fin 128) : V m c main_v33 (ix3 2 r l) = rightW ((argsK m c).sx (ix2 (gOf r) (jOf r))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v33_3_at (r : Fin 768) (l : Fin 128) : V m c main_v33 (ix3 3 r l) = leftW ((argsK m c).sx (ix2 (gOf r) (jOf r))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v54_0_at (r : Fin 768) (l : Fin 128) : V m c main_v54 (ix3 0 r l) = (argsK m c).mh (ix2 (gOf r) (jOf r)) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v54_1_at (r : Fin 768) (l : Fin 128) : V m c main_v54 (ix3 1 r l) = halfW (rightW ((argsK m c).sh (ix2 (gOf r) (jOf r)))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v54_2_at (r : Fin 768) (l : Fin 128) : V m c main_v54 (ix3 2 r l) = rightW ((argsK m c).sh (ix2 (gOf r) (jOf r))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v54_3_at (r : Fin 768) (l : Fin 128) : V m c main_v54 (ix3 3 r l) = leftW ((argsK m c).sh (ix2 (gOf r) (jOf r))) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v69_0_at  : V m c main_v69 (ix1 0) = (argsK m c).m ix0 := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v69_1_at  : V m c main_v69 (ix1 1) = halfW (rightW ((argsK m c).s ix0)) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v69_2_at  : V m c main_v69 (ix1 2) = rightW ((argsK m c).s ix0) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v69_3_at  : V m c main_v69 (ix1 3) = leftW ((argsK m c).s ix0) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v69_4_at  : V m c main_v69 (ix1 4) = (argsK m c).hzp ix0 := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v89_at (q : Fin 32) (l : Fin 128) : V m c main_v89 (ix2 q l) = packW (((argsK m c).sig (ix1 ⟨q.val / 8 * 128 + l.val, by omega⟩)).signExtend 32) (((argsK m c).sig (ix1 ⟨1 + (q.val / 8 * 128 + l.val), by omega⟩)).signExtend 32) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

theorem v100_at (q : Fin 32) (l : Fin 128) : V m c main_v100 (ix2 q l) = packW (((argsK m c).tnh (ix1 ⟨q.val / 8 * 128 + l.val, by omega⟩)).signExtend 32) (((argsK m c).tnh (ix1 ⟨1 + (q.val / 8 * 128 + l.val), by omega⟩)).signExtend 32) := by
  unfold V V0
  simp only [List.flatten_cons, List.flatten_nil, hostOps0, hostOps0_1, hostOps0_2, hostOps0_3, hostOps0_4, hostOps0_5, hostOps0_6, List.cons_append, List.nil_append, List.append_nil]
  iterate 4 (try after_reads_at; try simp only [id_eq]; try clean_types; try pointwise)
  rfl

end Cert.KernelIdeal.Gen

end

end
-- ==== Proof.KBlocks.lean ====
/- The blocks a grid point reads, entry by entry. -/
module

public import proofs.«01_k».proof.Proof.KStep
public import proofs.«01_k».proof.Proof.Prefix
public import Idealize.ShloMosaic.Lib.Pipeline.ValueKit.Geometry

@[expose] public section

noncomputable section

namespace Cert.KernelIdeal.Gen

open Idealize.ShloMosaic Lstm

variable (m : (ℓ : Loc nD τ sig) → Buf (Elt Ideal) ℓ) (c : Dev nD)

theorem idx1 : ∀ t : Fin cfg0.N, win0_1.index t = ![t.val, 0, 0] := (by decide +kernel : ∀ t : Fin grid0.N, win0_1.index t = ![t.val, 0, 0])

theorem blk1 (t : Fin cfg0.N) (n : Fin 1024) (tt : Fin 16) (k : Fin 320) (b : Fin 256) (e : n.val = 16 * t.val + tt.val) :
    iblk m c 1 t (ix3 tt k b) = V m c main_v78 (ix3 n k b) := by
  blk_simp [iblk]
  refine congrArg (V m c main_v78) ?_
  blk_ext [idx1]

theorem idx0 : ∀ t : Fin cfg0.N, win0_0.index t = ![0] := (by decide +kernel : ∀ t : Fin grid0.N, win0_0.index t = ![0])
theorem blk0 (t : Fin cfg0.N) (p : Fin 5) : iblk m c 0 t (ix1 p) = V m c main_v69 (ix1 p) := by
  blk_simp [iblk]
  refine congrArg (V m c main_v69) ?_
  blk_ext [idx0]

theorem idx2 : ∀ t : Fin cfg0.N, win0_2.index t = ![0, 0] := (by decide +kernel : ∀ t : Fin grid0.N, win0_2.index t = ![0, 0])
theorem blk2 (t : Fin cfg0.N) (r : Fin 768) (k : Fin 320) : iblk m c 2 t (ix2 r k) = V m c main_v73 (ix2 r k) := by
  blk_simp [iblk]
  refine congrArg (V m c main_v73) ?_
  blk_ext [idx2]

theorem idx3 : ∀ t : Fin cfg0.N, win0_3.index t = ![0, 0] := (by decide +kernel : ∀ t : Fin grid0.N, win0_3.index t = ![0, 0])
theorem blk3 (t : Fin cfg0.N) (r : Fin 768) (k : Fin 192) : iblk m c 3 t (ix2 r k) = V m c main_v77 (ix2 r k) := by
  blk_simp [iblk]
  refine congrArg (V m c main_v77) ?_
  blk_ext [idx3]

theorem idx4 : ∀ t : Fin cfg0.N, win0_4.index t = ![0, 0] := (by decide +kernel : ∀ t : Fin grid0.N, win0_4.index t = ![0, 0])
theorem blk4 (t : Fin cfg0.N) (r : Fin 768) (l : Fin 128) : iblk m c 4 t (ix2 r l) = V m c main_v8 (ix2 r l) := by
  blk_simp [iblk]
  refine congrArg (V m c main_v8) ?_
  blk_ext [idx4]

theorem idx5 : ∀ t : Fin cfg0.N, win0_5.index t = ![0, 0] := (by decide +kernel : ∀ t : Fin grid0.N, win0_5.index t = ![0, 0])
theorem blk5 (t : Fin cfg0.N) (r : Fin 768) (l : Fin 128) : iblk m c 5 t (ix2 r l) = V m c main_v12 (ix2 r l) := by
  blk_simp [iblk]
  refine congrArg (V m c main_v12) ?_
  blk_ext [idx5]

theorem idx6 : ∀ t : Fin cfg0.N, win0_6.index t = ![0, 0, 0] := (by decide +kernel : ∀ t : Fin grid0.N, win0_6.index t = ![0, 0, 0])
theorem blk6 (t : Fin cfg0.N) (p : Fin 4) (r : Fin 768) (l : Fin 128) : iblk m c 6 t (ix3 p r l) = V m c main_v33 (ix3 p r l) := by
  blk_simp [iblk]
  refine congrArg (V m c main_v33) ?_
  blk_ext [idx6]

theorem idx7 : ∀ t : Fin cfg0.N, win0_7.index t = ![0, 0, 0] := (by decide +kernel : ∀ t : Fin grid0.N, win0_7.index t = ![0, 0, 0])
theorem blk7 (t : Fin cfg0.N) (p : Fin 4) (r : Fin 768) (l : Fin 128) : iblk m c 7 t (ix3 p r l) = V m c main_v54 (ix3 p r l) := by
  blk_simp [iblk]
  refine congrArg (V m c main_v54) ?_
  blk_ext [idx7]

theorem idx8 : ∀ t : Fin cfg0.N, win0_8.index t = ![0, 0] := (by decide +kernel : ∀ t : Fin grid0.N, win0_8.index t = ![0, 0])
theorem blk8 (t : Fin cfg0.N) (q : Fin 32) (l : Fin 128) : iblk m c 8 t (ix2 q l) = V m c main_v89 (ix2 q l) := by
  blk_simp [iblk]
  refine congrArg (V m c main_v89) ?_
  blk_ext [idx8]

theorem idx9 : ∀ t : Fin cfg0.N, win0_9.index t = ![0, 0] := (by decide +kernel : ∀ t : Fin grid0.N, win0_9.index t = ![0, 0])
theorem blk9 (t : Fin cfg0.N) (q : Fin 32) (l : Fin 128) : iblk m c 9 t (ix2 q l) = V m c main_v100 (ix2 q l) := by
  blk_simp [iblk]
  refine congrArg (V m c main_v100) ?_
  blk_ext [idx9]

theorem idx10 : ∀ t : Fin cfg0.N, win0_10.index t = ![0, 0] := (by decide +kernel : ∀ t : Fin grid0.N, win0_10.index t = ![0, 0])
theorem blk10 (t : Fin cfg0.N) (j : Fin 192) (b : Fin 256) : iblk m c 10 t (ix2 j b) = V m c main_v103 (ix2 j b) := by
  blk_simp [iblk]
  refine congrArg (V m c main_v103) ?_
  blk_ext [idx10]

theorem idx11 : ∀ t : Fin cfg0.N, win0_11.index t = ![0, 0] := (by decide +kernel : ∀ t : Fin grid0.N, win0_11.index t = ![0, 0])
theorem blk11 (t : Fin cfg0.N) (j : Fin 192) (b : Fin 256) : iblk m c 11 t (ix2 j b) = V m c main_v105 (ix2 j b) := by
  blk_simp [iblk]
  refine congrArg (V m c main_v105) ?_
  blk_ext [idx11]

theorem gOf_rowG (g : Fin 4) (j : Fin 192) : gOf (rowG g j) = g := Fin.ext (by show (192 * g.val + j.val) / 192 = g.val; omega)
theorem jOf_rowG (g : Fin 4) (j : Fin 192) : jOf (rowG g j) = j := Fin.ext (by show (192 * g.val + j.val) % 192 = j.val; omega)

/-- The operands of the cell at a grid point. -/
abbrev paramsAt (t : Fin cfg0.N) : Params :=
  bodyParams (F := Ideal) (iblk m c 0 t) (iblk m c 4 t) (iblk m c 5 t) (iblk m c 6 t) (iblk m c 7 t) (iblk m c 8 t) (iblk m c 9 t)

theorem sc_at (t : Fin cfg0.N) (p : Fin 5) : sc (F := Ideal) (iblk m c 0 t) p = V m c main_v69 (ix1 p) :=
  (congrArg (iblk m c 0 t) (ix1_eq_valueIdx p).symm).trans (blk0 m c t p)

theorem fit_sg (t : Fin cfg0.N) : ∀ (q : Fin 32) (l : Fin 128), iblk m c 8 t (ValueIdx.ix2 q l) = packW (((argsK m c).sig (ix1 ⟨q.val / 8 * 128 + l.val, by omega⟩)).signExtend 32) (((argsK m c).sig (ix1 ⟨1 + (q.val / 8 * 128 + l.val), by omega⟩)).signExtend 32) := by
  intro q l
  refine (congrArg (iblk m c 8 t) (ix2_eq_valueIdx _ _).symm).trans ((blk8 m c t q l).trans ((v89_at m c q l).trans ?_))
  rfl

theorem fit_tn (t : Fin cfg0.N) : ∀ (q : Fin 32) (l : Fin 128), iblk m c 9 t (ValueIdx.ix2 q l) = packW (((argsK m c).tnh (ix1 ⟨q.val / 8 * 128 + l.val, by omega⟩)).signExtend 32) (((argsK m c).tnh (ix1 ⟨1 + (q.val / 8 * 128 + l.val), by omega⟩)).signExtend 32) := by
  intro q l
  refine (congrArg (iblk m c 9 t) (ix2_eq_valueIdx _ _).symm).trans ((blk9 m c t q l).trans ((v100_at m c q l).trans ?_))
  rfl

theorem fit_bx (t : Fin cfg0.N) : ∀ (g : Fin 4) (j : Fin 192) (l : Fin 128), iblk m c 4 t (ValueIdx.ix2 (rowG g j) l) = xBias (argsK m c) g j := by
  intro g j l
  refine (congrArg (iblk m c 4 t) (ix2_eq_valueIdx _ _).symm).trans ((blk4 m c t (rowG g j) l).trans ((v8_at m c (rowG g j) l).trans ?_))
  rw [gOf_rowG, jOf_rowG]

theorem fit_bh (t : Fin cfg0.N) : ∀ (g : Fin 4) (j : Fin 192) (l : Fin 128), iblk m c 5 t (ValueIdx.ix2 (rowG g j) l) = hBias (argsK m c) g j := by
  intro g j l
  refine (congrArg (iblk m c 5 t) (ix2_eq_valueIdx _ _).symm).trans ((blk5 m c t (rowG g j) l).trans ((v12_at m c (rowG g j) l).trans ?_))
  rw [gOf_rowG, jOf_rowG]

theorem fit_px0 (t : Fin cfg0.N) : ∀ (g : Fin 4) (j : Fin 192) (l : Fin 128), iblk m c 6 t (ValueIdx.ix3 0 (rowG g j) l) = (argsK m c).mx (ix2 g j) := by
  intro g j l
  refine (congrArg (iblk m c 6 t) (ix3_eq_valueIdx _ _ _).symm).trans ((blk6 m c t 0 (rowG g j) l).trans ((v33_0_at m c (rowG g j) l).trans ?_))
  rw [gOf_rowG, jOf_rowG]

theorem fit_px1 (t : Fin cfg0.N) : ∀ (g : Fin 4) (j : Fin 192) (l : Fin 128), iblk m c 6 t (ValueIdx.ix3 1 (rowG g j) l) = halfW (rightW ((argsK m c).sx (ix2 g j))) := by
  intro g j l
  refine (congrArg (iblk m c 6 t) (ix3_eq_valueIdx _ _ _).symm).trans ((blk6 m c t 1 (rowG g j) l).trans ((v33_1_at m c (rowG g j) l).trans ?_))
  rw [gOf_rowG, jOf_rowG]

theorem fit_px2 (t : Fin cfg0.N) : ∀ (g : Fin 4) (j : Fin 192) (l : Fin 128), iblk m c 6 t (ValueIdx.ix3 2 (rowG g j) l) = rightW ((argsK m c).sx (ix2 g j)) := by
  intro g j l
  refine (congrArg (iblk m c 6 t) (ix3_eq_valueIdx _ _ _).symm).trans ((blk6 m c t 2 (rowG g j) l).trans ((v33_2_at m c (rowG g j) l).trans ?_))
  rw [gOf_rowG, jOf_rowG]

theorem fit_px3 (t : Fin cfg0.N) : ∀ (g : Fin 4) (j : Fin 192) (l : Fin 128), iblk m c 6 t (ValueIdx.ix3 3 (rowG g j) l) = leftW ((argsK m c).sx (ix2 g j)) := by
  intro g j l
  refine (congrArg (iblk m c 6 t) (ix3_eq_valueIdx _ _ _).symm).trans ((blk6 m c t 3 (rowG g j) l).trans ((v33_3_at m c (rowG g j) l).trans ?_))
  rw [gOf_rowG, jOf_rowG]

theorem fit_ph0 (t : Fin cfg0.N) : ∀ (g : Fin 4) (j : Fin 192) (l : Fin 128), iblk m c 7 t (ValueIdx.ix3 0 (rowG g j) l) = (argsK m c).mh (ix2 g j) := by
  intro g j l
  refine (congrArg (iblk m c 7 t) (ix3_eq_valueIdx _ _ _).symm).trans ((blk7 m c t 0 (rowG g j) l).trans ((v54_0_at m c (rowG g j) l).trans ?_))
  rw [gOf_rowG, jOf_rowG]

theorem fit_ph1 (t : Fin cfg0.N) : ∀ (g : Fin 4) (j : Fin 192) (l : Fin 128), iblk m c 7 t (ValueIdx.ix3 1 (rowG g j) l) = halfW (rightW ((argsK m c).sh (ix2 g j))) := by
  intro g j l
  refine (congrArg (iblk m c 7 t) (ix3_eq_valueIdx _ _ _).symm).trans ((blk7 m c t 1 (rowG g j) l).trans ((v54_1_at m c (rowG g j) l).trans ?_))
  rw [gOf_rowG, jOf_rowG]

theorem fit_ph2 (t : Fin cfg0.N) : ∀ (g : Fin 4) (j : Fin 192) (l : Fin 128), iblk m c 7 t (ValueIdx.ix3 2 (rowG g j) l) = rightW ((argsK m c).sh (ix2 g j)) := by
  intro g j l
  refine (congrArg (iblk m c 7 t) (ix3_eq_valueIdx _ _ _).symm).trans ((blk7 m c t 2 (rowG g j) l).trans ((v54_2_at m c (rowG g j) l).trans ?_))
  rw [gOf_rowG, jOf_rowG]

theorem fit_ph3 (t : Fin cfg0.N) : ∀ (g : Fin 4) (j : Fin 192) (l : Fin 128), iblk m c 7 t (ValueIdx.ix3 3 (rowG g j) l) = leftW ((argsK m c).sh (ix2 g j)) := by
  intro g j l
  refine (congrArg (iblk m c 7 t) (ix3_eq_valueIdx _ _ _).symm).trans ((blk7 m c t 3 (rowG g j) l).trans ((v54_3_at m c (rowG g j) l).trans ?_))
  rw [gOf_rowG, jOf_rowG]

theorem fits_of {A : Args} {x1 : Vec Ideal S5 .i32} {x5 x6 : Vec Ideal S768x128 .i32} {x7 x8 : Vec Ideal S4x768x128 .i32} {x9 x10 : Vec Ideal S32x128 .i32}
    (sg : ∀ (q : Fin 32) (l : Fin 128), x9 (ValueIdx.ix2 q l) = packW ((A.sig (ix1 ⟨q.val / 8 * 128 + l.val, by omega⟩)).signExtend 32) ((A.sig (ix1 ⟨1 + (q.val / 8 * 128 + l.val), by omega⟩)).signExtend 32))
    (tn : ∀ (q : Fin 32) (l : Fin 128), x10 (ValueIdx.ix2 q l) = packW ((A.tnh (ix1 ⟨q.val / 8 * 128 + l.val, by omega⟩)).signExtend 32) ((A.tnh (ix1 ⟨1 + (q.val / 8 * 128 + l.val), by omega⟩)).signExtend 32))
    (bx : ∀ (g : Fin 4) (j : Fin 192) (l : Fin 128), x5 (ValueIdx.ix2 (rowG g j) l) = xBias A g j)
    (bh : ∀ (g : Fin 4) (j : Fin 192) (l : Fin 128), x6 (ValueIdx.ix2 (rowG g j) l) = hBias A g j)
    (px0 : ∀ (g : Fin 4) (j : Fin 192) (l : Fin 128), x7 (ValueIdx.ix3 0 (rowG g j) l) = A.mx (ix2 g j))
    (px1 : ∀ (g : Fin 4) (j : Fin 192) (l : Fin 128), x7 (ValueIdx.ix3 1 (rowG g j) l) = halfW (rightW (A.sx (ix2 g j))))
    (px2 : ∀ (g : Fin 4) (j : Fin 192) (l : Fin 128), x7 (ValueIdx.ix3 2 (rowG g j) l) = rightW (A.sx (ix2 g j)))
    (px3 : ∀ (g : Fin 4) (j : Fin 192) (l : Fin 128), x7 (ValueIdx.ix3 3 (rowG g j) l) = leftW (A.sx (ix2 g j)))
    (ph0 : ∀ (g : Fin 4) (j : Fin 192) (l : Fin 128), x8 (ValueIdx.ix3 0 (rowG g j) l) = A.mh (ix2 g j))
    (ph1 : ∀ (g : Fin 4) (j : Fin 192) (l : Fin 128), x8 (ValueIdx.ix3 1 (rowG g j) l) = halfW (rightW (A.sh (ix2 g j))))
    (ph2 : ∀ (g : Fin 4) (j : Fin 192) (l : Fin 128), x8 (ValueIdx.ix3 2 (rowG g j) l) = rightW (A.sh (ix2 g j)))
    (ph3 : ∀ (g : Fin 4) (j : Fin 192) (l : Fin 128), x8 (ValueIdx.ix3 3 (rowG g j) l) = leftW (A.sh (ix2 g j)))
    (m : sc (F := Ideal) x1 0 = A.m ix0)
    (half : sc (F := Ideal) x1 1 = halfW (rightW (A.s ix0)))
    (right : sc (F := Ideal) x1 2 = rightW (A.s ix0))
    (left : sc (F := Ideal) x1 3 = leftW (A.s ix0))
    (zp : sc (F := Ideal) x1 4 = A.hzp ix0) :
    Fits A (bodyParams (F := Ideal) x1 x5 x6 x7 x8 x9 x10) where
  sg := sg
  tn := tn
  bx := bx
  bh := bh
  px0 := px0
  px1 := px1
  px2 := px2
  px3 := px3
  ph0 := ph0
  ph1 := ph1
  ph2 := ph2
  ph3 := ph3
  m := m
  half := half
  right := right
  left := left
  zp := zp

theorem fits (t : Fin cfg0.N) : Fits (argsK m c) (paramsAt m c t) :=
  fits_of (fit_sg m c t) (fit_tn m c t) (fit_bx m c t) (fit_bh m c t) (fit_px0 m c t) (fit_px1 m c t) (fit_px2 m c t) (fit_px3 m c t) (fit_ph0 m c t) (fit_ph1 m c t) (fit_ph2 m c t) (fit_ph3 m c t)
    ((sc_at m c t 0).trans (v69_0_at m c)) ((sc_at m c t 1).trans (v69_1_at m c)) ((sc_at m c t 2).trans (v69_2_at m c)) ((sc_at m c t 3).trans (v69_3_at m c)) ((sc_at m c t 4).trans (v69_4_at m c))

theorem feeds (t : Fin cfg0.N) : Feeds (argsK m c) t.val (iblk m c 1 t) (iblk m c 2 t) (iblk m c 3 t) where
  x n tt k b e := (blk1 m c t n tt k b e).trans (v78_at m c n k b)
  wx g j k := by
    refine (blk2 m c t (rowG g j) k).trans ((v73_at m c (rowG g j) k).trans ?_)
    rw [gOf_rowG, jOf_rowG]
    rfl
  wh g j k := by
    refine (blk3 m c t (rowG g j) k).trans ((v77_at m c (rowG g j) k).trans ?_)
    rw [gOf_rowG, jOf_rowG]
    rfl

theorem holds_entry (t : Fin cfg0.N) : Holds (argsK m c) 0 (iblk m c 10 t, iblk m c 11 t) where
  h j b := (blk10 m c t j b).trans (v103_at m c j b)
  c j b := (blk11 m c t j b).trans (v105_at m c j b)

theorem lt_points {n : ℕ} (hn : n < cfg0.N) : n < 64 := Nat.lt_of_lt_of_eq hn N_0

/-- What a point leaves: its sixteen rows of hidden states, and the state after them. -/
structure Leaves (A : Args) (i : ℕ) (o : Vec Ideal S16x192x256 .i8 × Vec Ideal S192x256 .i32 × Vec Ideal S192x256 .f32) : Prop where
  rows : ∀ (tt : Fin 16) (j : Fin 192) (b : Fin 256), o.1 (ix3 tt j b) = ((stAt A (16 * i + tt.val + 1)).1 j b).setWidth 8
  state : Holds A (16 * (i + 1)) (o.2.2, o.2.1)

theorem rowsOf_at (st : ℕ → HC Ideal) (tt : Fin 16) (j : Fin 192) (b : Fin 256) :
    rowsOf (F := Ideal) st (ix3 tt j b) = outRow (F := Ideal) (st (tt.val + 1)).1 j b := rfl

theorem leaves_of (A : Args) (i : ℕ) (st : ℕ → HC Ideal) (h : ∀ t, t ≤ 16 → Holds A (16 * i + t) (st t)) :
    Leaves A i (rowsOf st, (st 16).2, (st 16).1) where
  rows tt j b := (rowsOf_at st tt j b).trans (outRow_holds (h (tt.val + 1) (by omega)) j b)
  state := h 16 (le_refl _)

theorem outOf_leaves (M : Meets (argsK m c)) (t : Fin cfg0.N) (s : HC Ideal) (S : Holds (argsK m c) (16 * t.val) s) :
    Leaves (argsK m c) t.val (outOf m c t s) := by
  unfold outOf
  exact leaves_of _ _ _ (fun n hn => holds_at (feeds m c t) (fits m c t) M (lt_points t.isLt) s S n hn)

theorem outsAt0_leaves (M : Meets (argsK m c)) (n : ℕ) (hn : n < cfg0.N) : Leaves (argsK m c) n (outsAt0 m c n hn) := by
  induction n with
  | zero => exact outOf_leaves m c M ⟨0, hn⟩ _ (holds_entry m c ⟨0, hn⟩)
  | succ n ih => exact outOf_leaves m c M ⟨n + 1, hn⟩ _ (ih (Nat.lt_of_succ_lt hn)).state

end Cert.KernelIdeal.Gen

end

end
-- ==== Proof.KValue.lean ====
/- What the kernel leaves in its results. -/
module

public import proofs.«01_k».proof.Proof.KBlocks

@[expose] public section

set_option maxRecDepth 65536

noncomputable section

namespace Cert.KernelIdeal.Gen

open Idealize.ShloMosaic Idealize.ShloMosaic.TcCoe Idealize.SL.Sem Lstm
open Idealize.ShloMosaic.Pipeline (Dat)

variable (m : (ℓ : Loc nD τ sig) → Buf (Elt Ideal) ℓ) (c : Dev nD)

/-- The hidden states, by step, unit and batch row. -/
def hidden (A : Args) : Vec Ideal S1024x192x256 .i8 := fun i => ((stAt A ((i 0).val + 1)).1 (i 1) (i 2)).setWidth 8

/-- The last cell state, by unit and batch row. -/
def lastCell (A : Args) : Vec Ideal S192x256 .i32 := fun i => (stAt A 1024).2 (i 0) (i 1)

/-- The first result: the hidden states, by batch row, step and unit. -/
def result0 (A : Args) : Vec Ideal S256x1024x192 .i8 := fun i => ((stAt A ((i 1).val + 1)).1 (i 2) (i 0)).setWidth 8

/-- The second result: the last cell state, by batch row and unit. -/
def result1 (A : Args) : Vec Ideal S256x192 .i16 := fun i => ((stAt A 1024).2 (i 1) (i 0)).setWidth 16

theorem idx12 : ∀ t : Fin cfg0.N, win0_12.index t = ![t.val, 0, 0] := (by decide +kernel : ∀ t : Fin grid0.N, win0_12.index t = ![t.val, 0, 0])

theorem final_12 (M : Meets (argsK m c)) : (dats m 0 c).arrAt 12 cfg0.N = hidden (argsK m c) := by
  refine (dats m 0 c).arrAt_eq_of_covers 12 _ (by decide +kernel) fun t hf y => ?_
  blk_simp
  rw [after0_12]
  have L := outsAt0_leaves m c M t.val t.isLt
  generalize outsAt0 m c t.val t.isLt = o at L ⊢
  obtain ⟨tt, j, b, rfl⟩ : ∃ (tt : Fin 16) (j : Fin 192) (b : Fin 256), y = ix3 tt j b :=
    ⟨y 0, y 1, y 2, by funext a; match a with | ⟨0, _⟩ => rfl | ⟨1, _⟩ => rfl | ⟨2, _⟩ => rfl⟩
  have hi := lt_points t.isLt
  refine (L.rows tt j b).trans ?_
  refine Eq.trans ?_ (congrArg (hidden (argsK m c)) (?_ : ix3 (⟨16 * t.val + tt.val, by omega⟩ : Fin 1024) j b = _))
  · rfl
  · blk_ext [idx12]

theorem last_of {A : Args} {o : Vec Ideal S16x192x256 .i8 × Vec Ideal S192x256 .i32 × Vec Ideal S192x256 .f32} (L : Leaves A 63 o) :
    o.2.1 = lastCell A := by
  funext i
  obtain ⟨r, b, rfl⟩ : ∃ (r : Fin 192) (b : Fin 256), i = ix2 r b :=
    ⟨i 0, i 1, by funext a; match a with | ⟨0, _⟩ => rfl | ⟨1, _⟩ => rfl⟩
  have h := L.state.c r b
  have e : 16 * (63 + 1) = 1024 := by norm_num
  rw [e] at h
  unfold lastCell
  generalize stAt A 1024 = q at h ⊢
  exact h

theorem after_13 (M : Meets (argsK m c)) (t : Fin cfg0.N) (ht : t.val = 63) : (dats m 0 c).after 13 t = lastCell (argsK m c) := by
  have h := outsAt0_leaves m c M t.val t.isLt
  refine (after0_13 m c t).trans ?_
  generalize outsAt0 m c t.val t.isLt = o at h ⊢
  rw [ht] at h
  exact last_of h

theorem idx13 : ∀ t : Fin cfg0.N, win0_13.index t = ![0, 0] := (by decide +kernel : ∀ t : Fin grid0.N, win0_13.index t = ![0, 0])

theorem final_13 (M : Meets (argsK m c)) : (dats m 0 c).arrAt 13 cfg0.N = lastCell (argsK m c) := by
  have hA := after_13 m c M
  generalize lastCell (argsK m c) = f at hA ⊢
  refine (dats m 0 c).arrAt_eq_of_covers 13 _ (by decide +kernel) fun t hf y => ?_
  have ht : t.val = 63 := by
    have h1 := (flush0_13 t).mp hf
    have h2 := lt_points t.isLt
    omega
  blk_simp
  rw [hA t ht]
  refine congrArg f ?_
  blk_ext [idx13]

theorem arrs_inj : Function.Injective (Pipeline.arrRef spec0) := by decide

theorem tail_107 : Pipeline.afterTail₀ cfgs (dats m) 0 (V0 m) [hostOps1] c main_v107
    = transpose S256x1024x192 [2, 0, 1] ((dats m 0 c).arrAt 12 cfg0.N) transposes_S1024x192x256_S256x1024x192_2_0_1 := by
  unfold Pipeline.afterTail₀
  simp only [List.flatten_cons, List.flatten_nil, List.append_nil, hostOps1]
  after_reads_simp
  exact congrArg (fun v => transpose S256x1024x192 [2, 0, 1] v transposes_S1024x192x256_S256x1024x192_2_0_1)
    (Pipeline.withArrays_arr spec0 arrs_inj c (V0 m c) (fun w => (dats m 0 c).arrAt w (cfgs 0).N) 12)

theorem tail_109 : Pipeline.afterTail₀ cfgs (dats m) 0 (V0 m) [hostOps1] c main_v109
    = trunci 16 (transpose S256x192 [1, 0] ((dats m 0 c).arrAt 13 cfg0.N) transposes_S192x256_S256x192_1_0) natLt_16_32 := by
  unfold Pipeline.afterTail₀
  simp only [List.flatten_cons, List.flatten_nil, List.append_nil, hostOps1]
  after_reads_simp
  exact congrArg (fun v => trunci 16 (transpose S256x192 [1, 0] v transposes_S192x256_S256x192_1_0) natLt_16_32)
    (Pipeline.withArrays_arr spec0 arrs_inj c (V0 m c) (fun w => (dats m 0 c).arrAt w (cfgs 0).N) 13)

theorem res_107 (M : Meets (argsK m c)) : Pipeline.afterTail₀ cfgs (dats m) 0 (V0 m) [hostOps1] c main_v107 = result0 (argsK m c) := by
  rw [tail_107, final_12 m c M]
  funext i
  obtain ⟨b, t, j, rfl⟩ : ∃ (b : Fin 256) (t : Fin 1024) (j : Fin 192), i = ix3 b t j :=
    ⟨i 0, i 1, i 2, by funext a; match a with | ⟨0, _⟩ => rfl | ⟨1, _⟩ => rfl | ⟨2, _⟩ => rfl⟩
  pointwise
  rfl

theorem res_109 (M : Meets (argsK m c)) : Pipeline.afterTail₀ cfgs (dats m) 0 (V0 m) [hostOps1] c main_v109 = result1 (argsK m c) := by
  rw [tail_109, final_13 m c M]
  unfold lastCell result1
  generalize stAt (argsK m c) 1024 = q
  funext i
  obtain ⟨b, j, rfl⟩ : ∃ (b : Fin 256) (j : Fin 192), i = ix2 b j :=
    ⟨i 0, i 1, by funext a; match a with | ⟨0, _⟩ => rfl | ⟨1, _⟩ => rfl⟩
  pointwise

/-- The run: both results as the layer gives them. -/
theorem run_value (ρ : Dev nD → PrngReg) (M : ∀ c, Meets (argsK m c)) :
    θ_run defs (onTc (τ := τ) (main (F := Ideal))) ⟨m, fun _ => 0, ρ⟩ (fun r => ∀ c : Dev nD,
      r.2.mem ((c.tc : Thread nD τ).loc main_v107) = result0 (argsK m c)
      ∧ r.2.mem ((c.tc : Thread nD τ).loc main_v109) = result1 (argsK m c)) :=
  (θ_run defs _ _).mono (fun _ h c =>
    ⟨((h c).2 main_v107 (Pipeline.mem_restRefs_of main_v107 (by decide) (by decide))).trans (res_107 m c (M c)),
     ((h c).2 main_v109 (Pipeline.mem_restRefs_of main_v109 (by decide) (by decide))).trans (res_109 m c (M c))⟩)
    (run_main m ρ)

end Cert.KernelIdeal.Gen

end

end
-- ==== Proof.RefEntry.lean ====
/- What the reference's loop is entered with, entry by entry. -/
module

public import proofs.«01_k».proof.Proof.Spec
public import proofs.«01_k».proof.Proof.Gen.ReferenceIdeal.Run
public import Idealize.ShloMosaic.Lib.Pointwise
public import Idealize.ShloMosaic.Lib.Tactic.CleanTypes
public import Idealize.ShloMosaic.Lib.StableHlo.ReadAt

@[expose] public section

noncomputable section

namespace Cert.ReferenceIdeal.Value

open Idealize.ShloMosaic Idealize.ShloMosaic.StableHlo Cert.ReferenceIdeal.Gen Lstm

variable (m : (ℓ : Loc nD τ sig) → Buf (Elt Ideal) ℓ)

/-- The layer's arguments as a device holds them at launch. -/
def argsOf (M : Valuation τ sig (Elt Ideal)) : Lstm.Args where
  x := M (Proc.devRef .tc main_arg0)
  h0 := M (Proc.devRef .tc main_arg1)
  c0 := M (Proc.devRef .tc main_arg2)
  wx := M (Proc.devRef .tc main_arg3)
  wh := M (Proc.devRef .tc main_arg4)
  bias := M (Proc.devRef .tc main_arg5)
  mx := M (Proc.devRef .tc main_arg6)
  sx := M (Proc.devRef .tc main_arg7)
  mh := M (Proc.devRef .tc main_arg8)
  sh := M (Proc.devRef .tc main_arg9)
  xzp := M (Proc.devRef .tc main_arg10)
  hzp := M (Proc.devRef .tc main_arg11)
  m := M (Proc.devRef .tc main_arg12)
  s := M (Proc.devRef .tc main_arg13)
  sig := M (Proc.devRef .tc main_arg14)
  tnh := M (Proc.devRef .tc main_arg15)

/-- The arguments on a device at launch. -/
abbrev argsR (c : Dev nD) : Lstm.Args := argsOf (launchContents m c)

theorem entry1 (c : Dev nD) : entryContents preI m c (Proc.devRef .tc main_v82_1) = (argsR m c).wh := by
  simp only [entryContents, afterL_cons, afterL_nil]
  after_reads_simp
  rfl
theorem entry3 (c : Dev nD) : entryContents preI m c (Proc.devRef .tc main_v82_3) = (argsR m c).sh := by
  simp only [entryContents, afterL_cons, afterL_nil]
  after_reads_simp
  rfl
theorem entry4 (c : Dev nD) : entryContents preI m c (Proc.devRef .tc main_v82_4) = (argsR m c).mh := by
  simp only [entryContents, afterL_cons, afterL_nil]
  after_reads_simp
  rfl
theorem entry7 (c : Dev nD) : entryContents preI m c (Proc.devRef .tc main_v82_7) = (argsR m c).s := by
  simp only [entryContents, afterL_cons, afterL_nil]
  after_reads_simp
  rfl
theorem entry8 (c : Dev nD) : entryContents preI m c (Proc.devRef .tc main_v82_8) = (argsR m c).m := by
  simp only [entryContents, afterL_cons, afterL_nil]
  after_reads_simp
  rfl
theorem entry9 (c : Dev nD) : entryContents preI m c (Proc.devRef .tc main_v82_9) = (argsR m c).hzp := by
  simp only [entryContents, afterL_cons, afterL_nil]
  after_reads_simp
  rfl
theorem entry11 (c : Dev nD) : entryContents preI m c (Proc.devRef .tc main_v82_11) = (argsR m c).h0 := by
  simp only [entryContents, afterL_cons, afterL_nil]
  after_reads_simp
  rfl
theorem entry12 (c : Dev nD) : entryContents preI m c (Proc.devRef .tc main_v82_12) = (argsR m c).c0 := by
  simp only [entryContents, afterL_cons, afterL_nil]
  after_reads_simp
  rfl

theorem entry2 (c : Dev nD) (g : Fin 4) (j : Fin 192) :
    entryContents preI m c (Proc.devRef .tc main_v82_2) (ix2 g j) = hBias (argsR m c) g j := by
  simp only [entryContents, afterL_cons, afterL_nil]
  after_reads_at
  simp only [id_eq]
  clean_types
  pointwise
  rfl

theorem entry5 (c : Dev nD) (k : Fin 512) (e : Fin 2) :
    entryContents preI m c (Proc.devRef .tc main_v82_5) (ix2 k e) = ((argsR m c).sig (ix1 ⟨k.val + e.val, by omega⟩)).signExtend 32 := by
  simp only [entryContents, afterL_cons, afterL_nil]
  after_reads_at
  simp only [id_eq]
  clean_types
  pointwise
  after_reads_at
  split
  · refine congrArg (fun q => BitVec.signExtend 32 ((argsR m c).sig (ix1 q))) (Fin.ext ?_)
    show k.val = k.val + e.val
    omega
  · refine congrArg (fun q => BitVec.signExtend 32 ((argsR m c).sig (ix1 q))) (Fin.ext ?_)
    show 1 + k.val = k.val + e.val
    omega

theorem entry6 (c : Dev nD) (k : Fin 512) (e : Fin 2) :
    entryContents preI m c (Proc.devRef .tc main_v82_6) (ix2 k e) = ((argsR m c).tnh (ix1 ⟨k.val + e.val, by omega⟩)).signExtend 32 := by
  simp only [entryContents, afterL_cons, afterL_nil]
  after_reads_at
  simp only [id_eq]
  clean_types
  pointwise
  after_reads_at
  split
  · refine congrArg (fun q => BitVec.signExtend 32 ((argsR m c).tnh (ix1 q))) (Fin.ext ?_)
    show k.val = k.val + e.val
    omega
  · refine congrArg (fun q => BitVec.signExtend 32 ((argsR m c).tnh (ix1 q))) (Fin.ext ?_)
    show 1 + k.val = k.val + e.val
    omega

theorem entry0 (c : Dev nD) (t : Fin 1024) (b : Fin 256) (g : Fin 4) (j : Fin 192) :
    entryContents preI m c (Proc.devRef .tc main_v82_0) (ix4 t b g j) = (xPart (argsR m c) t b g j).setWidth 16 := by
  simp only [entryContents, afterL_cons, afterL_nil]
  after_reads_at
  simp only [id_eq]
  clean_types
  pointwise
  rfl

end Cert.ReferenceIdeal.Value

end

end
-- ==== Proof.RefStep.lean ====
/- One step of the reference's loop, entry by entry. -/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

noncomputable section

namespace Cert.ReferenceIdeal.Value

open Idealize.ShloMosaic Idealize.ShloMosaic.StableHlo Cert.ReferenceIdeal.Gen Lstm

/-- The contents of the carried buffers before step `n`. -/
structure Inv (A : Args) (V0 : Valuation τ sig (Elt Ideal)) (n : ℕ) : Prop where
  xq : ∀ (t : Fin 1024) (b : Fin 256) (g : Fin 4) (j : Fin 192), V0 (Proc.devRef .tc main_v82_0) (ix4 t b g j) = (xPart A t b g j).setWidth 16
  wh : V0 (Proc.devRef .tc main_v82_1) = A.wh
  hb : ∀ (g : Fin 4) (j : Fin 192), V0 (Proc.devRef .tc main_v82_2) (ix2 g j) = hBias A g j
  sh : V0 (Proc.devRef .tc main_v82_3) = A.sh
  mh : V0 (Proc.devRef .tc main_v82_4) = A.mh
  sig : ∀ (k : Fin 512) (e : Fin 2), V0 (Proc.devRef .tc main_v82_5) (ix2 k e) = (A.sig (ix1 ⟨k.val + e.val, by omega⟩)).signExtend 32
  tnh : ∀ (k : Fin 512) (e : Fin 2), V0 (Proc.devRef .tc main_v82_6) (ix2 k e) = (A.tnh (ix1 ⟨k.val + e.val, by omega⟩)).signExtend 32
  s : V0 (Proc.devRef .tc main_v82_7) = A.s
  m : V0 (Proc.devRef .tc main_v82_8) = A.m
  zp : V0 (Proc.devRef .tc main_v82_9) = A.hzp
  ctr : V0 (Proc.devRef .tc main_v82_10) = fun _ => BitVec.ofNat 32 n
  h : ∀ (b : Fin 256) (j : Fin 192), V0 (Proc.devRef .tc main_v82_11) (ix2 b j) = ((stAt A n).1 j b).setWidth 8
  c : ∀ (b : Fin 256) (j : Fin 192), V0 (Proc.devRef .tc main_v82_12) (ix2 b j) = ((stAt A n).2 j b).setWidth 16
  hs : ∀ (t : Fin 1024) (b : Fin 256) (j : Fin 192), t.val < n →
    V0 (Proc.devRef .tc main_v82_13) (ix3 t b j) = ((stAt A (t.val + 1)).1 j b).setWidth 8

variable {A : Args} {V0 : Valuation τ sig (Elt Ideal)} {n : ℕ}

theorem v95_at (I : Inv A V0 n) (b : Fin 256) (g : Fin 4) (j : Fin 192) :
    res_main_while0b_v95 V0 (ix3 b g j) = IntOp.subi (hProd A (stAt A n).1 b g j) (hBias A g j) := by
  unfold res_main_while0b_v95
  clean_types
  pointwise
  rw [I.hb, I.wh]
  have e : ∀ x, BitVec.signExtend 32 (V0 (Proc.tc.devRef main_v82_11) (ix2 b x)) = (stAt A n).1 x b := fun x => by
    rw [I.h]; exact ext_trunc8 _ (stAt_h A n x b).1 (stAt_h A n x b).2
  simp only [e]
  rfl

theorem v100_at (I : Inv A V0 n) (g : Fin 4) (j : Fin 192) : res_main_while0b_v100 V0 (ix2 g j) = rightW (A.sh (ix2 g j)) := by
  unfold res_main_while0b_v100
  clean_types
  pointwise
  rw [I.sh]
  rfl

theorem v104_at (I : Inv A V0 n) (b : Fin 256) (g : Fin 4) (j : Fin 192) :
    res_main_while0b_v104 V0 (ix3 b g j)
      = IntOp.shli .host (IntOp.absi (IntOp.subi (hProd A (stAt A n).1 b g j) (hBias A g j))) (leftW (A.sh (ix2 g j))) := by
  unfold res_main_while0b_v104
  clean_types
  pointwise
  rw [v95_at I, I.sh]
  rfl

/-- The counter's word, read signed. -/
theorem ctr_toInt {n : ℕ} (hn : n < 1024) : (BitVec.ofNat 32 n).toInt = n := by
  rw [BitVec.toInt_ofNat']
  exact Int.bmod_eq_of_le (by omega) (by omega)

/-- The step's slice of the input parts. -/
theorem slice_at (I : Inv A V0 n) (hn : n < 1024) (b : Fin 256) (g : Fin 4) (j : Fin 192) :
    (shapeCast S256x4x192 (Host.dynamicSlice S1x256x4x192 (V0 (Proc.devRef .tc main_v82_0)) (fun k => (((![V0 (Proc.devRef .tc main_v82_10), constantI S_ 32 0#32, constantI S_ 32 0#32, constantI S_ 32 0#32] : Fin 4 → (⟨S_, .i32⟩ : BufTy).Contents (Elt Ideal))) k (Shape.Idx.first h_S_)).toInt) sliceFits_S1024x256x4x192_S1x256x4x192) shapeCasts_S1x256x4x192_S256x4x192) (ix3 b g j)
      = (xPart A ⟨n, hn⟩ b g j).setWidth 16 := by
  pointwise
  refine Eq.trans (congrArg (V0 (Proc.devRef .tc main_v82_0)) ?_) (I.xq ⟨n, hn⟩ b g j)
  rw [I.ctr]
  have h0 : ∀ h, Host.clampedStart S1024x256x4x192 S1x256x4x192 h (fun k => ((![fun _ => BitVec.ofNat 32 n, constantI S_ 32 0#32, constantI S_ 32 0#32, constantI S_ 32 0#32] : Fin 4 → (⟨S_, .i32⟩ : BufTy).Contents (Elt Ideal)) k (Shape.Idx.first h_S_)).toInt) 0 = n :=
    fun h => Host.clampedStart_of_le h _ 0 n (ctr_toInt hn) (by show n + 1 ≤ 1024; omega)
  have h1 : ∀ h, Host.clampedStart S1024x256x4x192 S1x256x4x192 h (fun k => ((![fun _ => BitVec.ofNat 32 n, constantI S_ 32 0#32, constantI S_ 32 0#32, constantI S_ 32 0#32] : Fin 4 → (⟨S_, .i32⟩ : BufTy).Contents (Elt Ideal)) k (Shape.Idx.first h_S_)).toInt) 1 = 0 :=
    fun h => Host.clampedStart_of_le h _ 1 0 rfl (by show 0 + 256 ≤ 256; omega)
  have h2 : ∀ h, Host.clampedStart S1024x256x4x192 S1x256x4x192 h (fun k => ((![fun _ => BitVec.ofNat 32 n, constantI S_ 32 0#32, constantI S_ 32 0#32, constantI S_ 32 0#32] : Fin 4 → (⟨S_, .i32⟩ : BufTy).Contents (Elt Ideal)) k (Shape.Idx.first h_S_)).toInt) 2 = 0 :=
    fun h => Host.clampedStart_of_le h _ 2 0 rfl (by show 0 + 4 ≤ 4; omega)
  have h3 : ∀ h, Host.clampedStart S1024x256x4x192 S1x256x4x192 h (fun k => ((![fun _ => BitVec.ofNat 32 n, constantI S_ 32 0#32, constantI S_ 32 0#32, constantI S_ 32 0#32] : Fin 4 → (⟨S_, .i32⟩ : BufTy).Contents (Elt Ideal)) k (Shape.Idx.first h_S_)).toInt) 3 = 0 :=
    fun h => Host.clampedStart_of_le h _ 3 0 rfl (by show 0 + 192 ≤ 192; omega)
  funext a
  refine Fin.ext ?_
  match a with
  | ⟨0, _⟩ => exact h0 rfl
  | ⟨1, _⟩ => exact (congrArg (· + b.val) (h1 rfl)).trans (Nat.zero_add _)
  | ⟨2, _⟩ => exact (congrArg (· + g.val) (h2 rfl)).trans (Nat.zero_add _)
  | ⟨3, _⟩ => exact (congrArg (· + j.val) (h3 rfl)).trans (Nat.zero_add _)

theorem v145_at (I : Inv A V0 n) (hn : n < 1024) (b : Fin 256) (g : Fin 4) (j : Fin 192) :
    res_main_while0b_v145 V0 (ix3 b g j) = gateS A ⟨n, hn⟩ (stAt A n).1 b g j := by
  have hx := slice_at I hn b g j
  unfold res_main_while0b_v145
  generalize shapeCast S256x4x192 (Host.dynamicSlice S1x256x4x192 (V0 (Proc.devRef .tc main_v82_0)) _ _) _ = X at hx ⊢
  clean_types
  pointwise
  simp only [id_eq]
  clean_types
  pointwise
  rw [hx, v95_at I, v104_at I, v100_at I, I.mh]
  have e : ((xPart A ⟨n, hn⟩ b g j).setWidth 16).signExtend 32 = xPart A ⟨n, hn⟩ b g j := ext_trunc_clip16 _
  rw [e]
  rfl

/-- A row of a table of pairs, gathered: the row at the clamped index. -/
theorem gather_at (T : IVec S512x2 32) (idx : IVec S256x192x1 32) (b : Fin 256) (j : Fin 192) (e : Fin 2) :
    Host.gather gather_S512x2_S256x192x1_S256x192x2_2_0_n_n_0_2_12 T idx (ix3 b j e)
      = T (ix2 ⟨min (idx (ix3 b j 0)).toInt.toNat 511, by omega⟩ e) := by
  unfold Host.gather
  congr 1
  funext a
  refine Fin.ext ?_
  generalize hd : gather_S512x2_S256x192x1_S256x192x2_2_0_n_n_0_2_12 = d
  show d.start (ix3 b j e) idx a + d.batchCoord (ix3 b j e) a + d.offCoord (ix3 b j e) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x2_S256x192x1_S256x192x2_2_0_n_n_0_2_12.startIndexMap from List.mem_singleton.mpr rfl)]
    have hsi : gather_S512x2_S256x192x1_S256x192x2_2_0_n_n_0_2_12.siIdx (ix3 b j e) ⟨List.idxOf (0 : Fin 2) gather_S512x2_S256x192x1_S256x192x2_2_0_n_n_0_2_12.startIndexMap,
        List.idxOf_lt_length_iff.2 (List.mem_singleton.mpr rfl)⟩ = ix3 b j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by cases h)]
    have hs : gather_S512x2_S256x192x1_S256x192x2_2_0_n_n_0_2_12.start (ix3 b j e) idx 1 = 0 := by
      unfold GatherDims.start
      rw [dif_neg (show ¬ (1 : Fin 2) ∈ gather_S512x2_S256x192x1_S256x192x2_2_0_n_n_0_2_12.startIndexMap from fun h => absurd (List.mem_singleton.mp h) (by decide))]
    rw [hs]
    simp only [Nat.zero_add, Nat.add_zero]
    rfl

/-- The pair of table entries around a word. -/
theorem gather_seg (Tb : Shape.Idx ⟨1, ![513]⟩ → BitVec 16) (T : IVec S512x2 32)
    (hT : ∀ (k : Fin 512) (e : Fin 2), T (ix2 k e) = (Tb (ix1 ⟨k.val + e.val, by omega⟩)).signExtend 32) (idx : IVec S256x192x1 32)
    (b : Fin 256) (j : Fin 192) (e : Fin 2) (v : W) (h1 : -32768 ≤ v.toInt) (h2 : v.toInt ≤ 32767) (hi : idx (ix3 b j 0) = segW v) :
    Host.gather gather_S512x2_S256x192x1_S256x192x2_2_0_n_n_0_2_12 T idx (ix3 b j e)
      = (Tb (ix1 ⟨segN v % 512 + e.val, by omega⟩)).signExtend 32 := by
  rw [gather_at, hT]
  refine congrArg (fun q => BitVec.signExtend 32 (Tb (ix1 q))) (Fin.ext ?_)
  have hs := segN_lt v h1 h2
  show min (idx (ix3 b j 0)).toInt.toNat 511 + e.val = segN v % 512 + e.val
  rw [hi, segW_toInt v h1 h2, Nat.mod_eq_of_lt hs]
  unfold segN at hs ⊢
  omega

/-- The lower entry of the pair. -/
theorem pair_zero (Tb : Shape.Idx ⟨1, ![513]⟩ → BitVec 16) (v : W) :
    (Tb (ix1 ⟨segN v % 512 + (0 : Fin 2).val, by omega⟩)).signExtend 32 = (Tb (ix1 ⟨segN v % 512, by omega⟩)).signExtend 32 := rfl

theorem v147_at (I : Inv A V0 n) (hn : n < 1024) (b : Fin 256) (j : Fin 192) :
    res_main_while0b_v147 V0 (ix2 b j) = gateS A ⟨n, hn⟩ (stAt A n).1 b 0 j := by
  rw [← v145_at I hn b 0 j]
  unfold res_main_while0b_v147
  pointwise

theorem v151_at (I : Inv A V0 n) (hn : n < 1024) (b : Fin 256) (j : Fin 192) :
    res_main_while0b_v151 V0 (ix2 b j) = segW (gateS A ⟨n, hn⟩ (stAt A n).1 b 0 j) := by
  unfold res_main_while0b_v151
  pointwise
  rw [v147_at I hn]
  rfl

theorem v160_at (I : Inv A V0 n) (hn : n < 1024) (b : Fin 256) (j : Fin 192) (e : Fin 2) :
    res_main_while0b_v160 V0 (ix3 b j e)
      = (A.sig (ix1 ⟨segN (gateS A ⟨n, hn⟩ (stAt A n).1 b 0 j) % 512 + e.val, by omega⟩)).signExtend 32 := by
  unfold res_main_while0b_v160
  refine gather_seg A.sig _ I.sig _ b j e _ (gateS_lo A _ _ _ _ _) (gateS_hi A _ _ _ _ _) ?_
  pointwise
  rw [v151_at I hn]
  exact seg_select _ (gateS_lo A _ _ _ _ _) (gateS_hi A _ _ _ _ _)

theorem v162_at (I : Inv A V0 n) (hn : n < 1024) (b : Fin 256) (j : Fin 192) :
    res_main_while0b_v162 V0 (ix2 b j)
      = (A.sig (ix1 ⟨segN (gateS A ⟨n, hn⟩ (stAt A n).1 b 0 j) % 512, by omega⟩)).signExtend 32 := by
  refine Eq.trans ?_ ((v160_at I hn b j 0).trans (pair_zero A.sig _))
  unfold res_main_while0b_v162
  pointwise

theorem v175_at (I : Inv A V0 n) (hn : n < 1024) (b : Fin 256) (j : Fin 192) :
    res_main_while0b_v175 V0 (ix2 b j) = gateS A ⟨n, hn⟩ (stAt A n).1 b 1 j := by
  rw [← v145_at I hn b 1 j]
  unfold res_main_while0b_v175
  pointwise

theorem v179_at (I : Inv A V0 n) (hn : n < 1024) (b : Fin 256) (j : Fin 192) :
    res_main_while0b_v179 V0 (ix2 b j) = segW (gateS A ⟨n, hn⟩ (stAt A n).1 b 1 j) := by
  unfold res_main_while0b_v179
  pointwise
  rw [v175_at I hn]
  rfl

theorem v188_at (I : Inv A V0 n) (hn : n < 1024) (b : Fin 256) (j : Fin 192) (e : Fin 2) :
    res_main_while0b_v188 V0 (ix3 b j e)
      = (A.sig (ix1 ⟨segN (gateS A ⟨n, hn⟩ (stAt A n).1 b 1 j) % 512 + e.val, by omega⟩)).signExtend 32 := by
  unfold res_main_while0b_v188
  refine gather_seg A.sig _ I.sig _ b j e _ (gateS_lo A _ _ _ _ _) (gateS_hi A _ _ _ _ _) ?_
  pointwise
  rw [v179_at I hn]
  exact seg_select _ (gateS_lo A _ _ _ _ _) (gateS_hi A _ _ _ _ _)

theorem v190_at (I : Inv A V0 n) (hn : n < 1024) (b : Fin 256) (j : Fin 192) :
    res_main_while0b_v190 V0 (ix2 b j)
      = (A.sig (ix1 ⟨segN (gateS A ⟨n, hn⟩ (stAt A n).1 b 1 j) % 512, by omega⟩)).signExtend 32 := by
  refine Eq.trans ?_ ((v188_at I hn b j 0).trans (pair_zero A.sig _))
  unfold res_main_while0b_v190
  pointwise

theorem v203_at (I : Inv A V0 n) (hn : n < 1024) (b : Fin 256) (j : Fin 192) :
    res_main_while0b_v203 V0 (ix2 b j) = gateS A ⟨n, hn⟩ (stAt A n).1 b 2 j := by
  rw [← v145_at I hn b 2 j]
  unfold res_main_while0b_v203
  pointwise

theorem v207_at (I : Inv A V0 n) (hn : n < 1024) (b : Fin 256) (j : Fin 192) :
    res_main_while0b_v207 V0 (ix2 b j) = segW (gateS A ⟨n, hn⟩ (stAt A n).1 b 2 j) := by
  unfold res_main_while0b_v207
  pointwise
  rw [v203_at I hn]
  rfl

theorem v216_at (I : Inv A V0 n) (hn : n < 1024) (b : Fin 256) (j : Fin 192) (e : Fin 2) :
    res_main_while0b_v216 V0 (ix3 b j e)
      = (A.tnh (ix1 ⟨segN (gateS A ⟨n, hn⟩ (stAt A n).1 b 2 j) % 512 + e.val, by omega⟩)).signExtend 32 := by
  unfold res_main_while0b_v216
  refine gather_seg A.tnh _ I.tnh _ b j e _ (gateS_lo A _ _ _ _ _) (gateS_hi A _ _ _ _ _) ?_
  pointwise
  rw [v207_at I hn]
  exact seg_select _ (gateS_lo A _ _ _ _ _) (gateS_hi A _ _ _ _ _)

theorem v218_at (I : Inv A V0 n) (hn : n < 1024) (b : Fin 256) (j : Fin 192) :
    res_main_while0b_v218 V0 (ix2 b j)
      = (A.tnh (ix1 ⟨segN (gateS A ⟨n, hn⟩ (stAt A n).1 b 2 j) % 512, by omega⟩)).signExtend 32 := by
  refine Eq.trans ?_ ((v216_at I hn b j 0).trans (pair_zero A.tnh _))
  unfold res_main_while0b_v218
  pointwise

theorem v231_at (I : Inv A V0 n) (hn : n < 1024) (b : Fin 256) (j : Fin 192) :
    res_main_while0b_v231 V0 (ix2 b j) = gateS A ⟨n, hn⟩ (stAt A n).1 b 3 j := by
  rw [← v145_at I hn b 3 j]
  unfold res_main_while0b_v231
  pointwise

theorem v235_at (I : Inv A V0 n) (hn : n < 1024) (b : Fin 256) (j : Fin 192) :
    res_main_while0b_v235 V0 (ix2 b j) = segW (gateS A ⟨n, hn⟩ (stAt A n).1 b 3 j) := by
  unfold res_main_while0b_v235
  pointwise
  rw [v231_at I hn]
  rfl

theorem v244_at (I : Inv A V0 n) (hn : n < 1024) (b : Fin 256) (j : Fin 192) (e : Fin 2) :
    res_main_while0b_v244 V0 (ix3 b j e)
      = (A.sig (ix1 ⟨segN (gateS A ⟨n, hn⟩ (stAt A n).1 b 3 j) % 512 + e.val, by omega⟩)).signExtend 32 := by
  unfold res_main_while0b_v244
  refine gather_seg A.sig _ I.sig _ b j e _ (gateS_lo A _ _ _ _ _) (gateS_hi A _ _ _ _ _) ?_
  pointwise
  rw [v235_at I hn]
  exact seg_select _ (gateS_lo A _ _ _ _ _) (gateS_hi A _ _ _ _ _)

theorem v246_at (I : Inv A V0 n) (hn : n < 1024) (b : Fin 256) (j : Fin 192) :
    res_main_while0b_v246 V0 (ix2 b j)
      = (A.sig (ix1 ⟨segN (gateS A ⟨n, hn⟩ (stAt A n).1 b 3 j) % 512, by omega⟩)).signExtend 32 := by
  refine Eq.trans ?_ ((v244_at I hn b j 0).trans (pair_zero A.sig _))
  unfold res_main_while0b_v246
  pointwise

theorem v259_at (I : Inv A V0 n) (hn : n < 1024) (b : Fin 256) (j : Fin 192) :
    res_main_while0b_v259 V0 (ix2 b j)
      = IntOp.muli (lutS A.sig (gateS A ⟨n, hn⟩ (stAt A n).1 b 1 j)) ((stAt A n).2 j b) := by
  unfold res_main_while0b_v259
  pointwise
  rw [v190_at I hn, v175_at I hn, I.c]
  have e := v188_at I hn b j 1
  have e' : ((((stAt A n).2 j b).setWidth 16).signExtend 32) = (stAt A n).2 j b := ext_trunc16 _ (stAt_c A n j b).1 (stAt_c A n j b).2
  erw [e]
  rw [e']
  exact congrArg (fun q => IntOp.muli q ((stAt A n).2 j b)) (ext_trunc_lerp _ _ _)

theorem v268_at (I : Inv A V0 n) (hn : n < 1024) (b : Fin 256) (j : Fin 192) :
    res_main_while0b_v268 V0 (ix2 b j)
      = IntOp.muli (lutS A.sig (gateS A ⟨n, hn⟩ (stAt A n).1 b 0 j)) (lutS A.tnh (gateS A ⟨n, hn⟩ (stAt A n).1 b 2 j)) := by
  unfold res_main_while0b_v268
  pointwise
  rw [v162_at I hn, v147_at I hn, v218_at I hn, v203_at I hn]
  erw [v160_at I hn b j 1, v216_at I hn b j 1]
  exact congrArg₂ IntOp.muli (ext_trunc_lerp _ _ _) (ext_trunc_lerp _ _ _)

theorem v279_at (I : Inv A V0 n) (hn : n < 1024) (b : Fin 256) (j : Fin 192) :
    res_main_while0b_v279 V0 (ix2 b j) = (newC A ⟨n, hn⟩ (stAt A n) j b).setWidth 16 := by
  unfold res_main_while0b_v279
  pointwise
  simp only [id_eq]
  pointwise
  rw [v259_at I hn, v268_at I hn]
  unfold newC nextCW
  generalize IntOp.muli (lutS A.sig _) ((stAt A n).2 j b) = p
  generalize IntOp.muli (lutS A.sig _) (lutS A.tnh _) = q
  rw [← round_sign, ← round_sign]
  rfl

theorem v283_at (I : Inv A V0 n) (hn : n < 1024) (b : Fin 256) (j : Fin 192) :
    res_main_while0b_v283 V0 (ix2 b j) = twiceW (newC A ⟨n, hn⟩ (stAt A n) j b) := by
  unfold res_main_while0b_v283
  pointwise
  simp only [id_eq]
  pointwise
  rw [v279_at I hn]
  have e : (((newC A ⟨n, hn⟩ (stAt A n) j b).setWidth 16).signExtend 32) = newC A ⟨n, hn⟩ (stAt A n) j b := by
    unfold newC nextCW
    exact ext_trunc_clip16 _
  rw [e]
  rfl

theorem v287_at (I : Inv A V0 n) (hn : n < 1024) (b : Fin 256) (j : Fin 192) :
    res_main_while0b_v287 V0 (ix2 b j) = segW (twiceW (newC A ⟨n, hn⟩ (stAt A n) j b)) := by
  unfold res_main_while0b_v287
  pointwise
  rw [v283_at I hn]
  rfl

theorem v296_at (I : Inv A V0 n) (hn : n < 1024) (b : Fin 256) (j : Fin 192) (e : Fin 2) :
    res_main_while0b_v296 V0 (ix3 b j e)
      = (A.tnh (ix1 ⟨segN (twiceW (newC A ⟨n, hn⟩ (stAt A n) j b)) % 512 + e.val, by omega⟩)).signExtend 32 := by
  unfold res_main_while0b_v296
  refine gather_seg A.tnh _ I.tnh _ b j e _ (clip16W_lo _) (clip16W_hi _) ?_
  pointwise
  rw [v287_at I hn]
  exact seg_select _ (clip16W_lo _) (clip16W_hi _)

theorem v298_at (I : Inv A V0 n) (hn : n < 1024) (b : Fin 256) (j : Fin 192) :
    res_main_while0b_v298 V0 (ix2 b j)
      = (A.tnh (ix1 ⟨segN (twiceW (newC A ⟨n, hn⟩ (stAt A n) j b)) % 512, by omega⟩)).signExtend 32 := by
  refine Eq.trans ?_ ((v296_at I hn b j 0).trans (pair_zero A.tnh _))
  unfold res_main_while0b_v298
  pointwise

theorem v310_at (I : Inv A V0 n) (hn : n < 1024) (b : Fin 256) (j : Fin 192) :
    res_main_while0b_v310 V0 (ix2 b j)
      = IntOp.muli (lutS A.sig (gateS A ⟨n, hn⟩ (stAt A n).1 b 3 j)) (lutS A.tnh (twiceW (newC A ⟨n, hn⟩ (stAt A n) j b))) := by
  unfold res_main_while0b_v310
  pointwise
  rw [v246_at I hn, v231_at I hn, v298_at I hn, v283_at I hn]
  erw [v244_at I hn b j 1, v296_at I hn b j 1]
  exact congrArg₂ IntOp.muli (ext_trunc_lerp _ _ _) (ext_trunc_lerp _ _ _)

theorem v313_at (I : Inv A V0 n) : res_main_while0b_v313 V0 ix0 = rightW (A.s ix0) := by
  unfold res_main_while0b_v313
  clean_types
  pointwise
  rw [I.s]
  rfl

theorem v316_at (I : Inv A V0 n) (hn : n < 1024) (b : Fin 256) (j : Fin 192) :
    res_main_while0b_v316 V0 (ix2 b j)
      = IntOp.shli .host (IntOp.absi (IntOp.muli (lutS A.sig (gateS A ⟨n, hn⟩ (stAt A n).1 b 3 j)) (lutS A.tnh (twiceW (newC A ⟨n, hn⟩ (stAt A n) j b)))))
          (leftW (A.s ix0)) := by
  unfold res_main_while0b_v316
  clean_types
  pointwise
  rw [v310_at I hn, I.s]
  rfl

theorem v347_at (I : Inv A V0 n) (hn : n < 1024) (b : Fin 256) (j : Fin 192) :
    res_main_while0b_v347 V0 (ix2 b j) = (newH A ⟨n, hn⟩ (stAt A n) j b).setWidth 8 := by
  unfold res_main_while0b_v347
  clean_types
  pointwise
  simp only [id_eq]
  clean_types
  pointwise
  rw [v310_at I hn, v316_at I hn, v313_at I, I.m, I.zp]
  rfl

/-- The rows of the result after a step: the new row at the counter, the others as they were. -/
theorem rows_at (I : Inv A V0 n) (hn : n < 1024) (t : Fin 1024) (b : Fin 256) (j : Fin 192) :
    step_main_v82_13 V0 (ix3 t b j)
      = if t.val = n then (newH A ⟨n, hn⟩ (stAt A n) j b).setWidth 8 else V0 (Proc.devRef .tc main_v82_13) (ix3 t b j) := by
  unfold step_main_v82_13
  rw [I.ctr, id_eq, Host.dynamicUpdateSlice_apply]
  have h0 : ∀ h, Host.clampedStart S1024x256x192 S1x256x192 h (fun k => ((![fun _ => BitVec.ofNat 32 n, constantI S_ 32 0#32, constantI S_ 32 0#32] : Fin 3 → (⟨S_, .i32⟩ : BufTy).Contents (Elt Ideal)) k (Shape.Idx.first h_S_)).toInt) 0 = n :=
    fun h => Host.clampedStart_of_le h _ 0 n (ctr_toInt hn) (by show n + 1 ≤ 1024; omega)
  have h1 : ∀ h, Host.clampedStart S1024x256x192 S1x256x192 h (fun k => ((![fun _ => BitVec.ofNat 32 n, constantI S_ 32 0#32, constantI S_ 32 0#32] : Fin 3 → (⟨S_, .i32⟩ : BufTy).Contents (Elt Ideal)) k (Shape.Idx.first h_S_)).toInt) 1 = 0 :=
    fun h => Host.clampedStart_of_le h _ 1 0 rfl (by show 0 + 256 ≤ 256; omega)
  have h2 : ∀ h, Host.clampedStart S1024x256x192 S1x256x192 h (fun k => ((![fun _ => BitVec.ofNat 32 n, constantI S_ 32 0#32, constantI S_ 32 0#32] : Fin 3 → (⟨S_, .i32⟩ : BufTy).Contents (Elt Ideal)) k (Shape.Idx.first h_S_)).toInt) 2 = 0 :=
    fun h => Host.clampedStart_of_le h _ 2 0 rfl (by show 0 + 192 ≤ 192; omega)
  by_cases ht : t.val = n
  · rw [dif_pos, if_pos ht]
    · rw [← v347_at I hn b j]
      pointwise
      refine congrArg (res_main_while0b_v347 V0) ?_
      funext a
      refine Fin.ext ?_
      match a with
      | ⟨0, _⟩ => exact congrArg (b.val - ·) (h1 rfl)
      | ⟨1, _⟩ => exact congrArg (j.val - ·) (h2 rfl)
    · intro a
      match a with
      | ⟨0, _⟩ =>
        exact ⟨le_of_eq_of_le (h0 rfl) (by show n ≤ t.val; omega),
          lt_of_lt_of_eq (by show t.val < n + 1; omega) (congrArg (· + 1) (h0 rfl).symm)⟩
      | ⟨1, _⟩ =>
        exact ⟨le_of_eq_of_le (h1 rfl) (by show 0 ≤ b.val; omega),
          lt_of_lt_of_eq (by show b.val < 0 + 256; omega) (congrArg (· + 256) (h1 rfl).symm)⟩
      | ⟨2, _⟩ =>
        exact ⟨le_of_eq_of_le (h2 rfl) (by show 0 ≤ j.val; omega),
          lt_of_lt_of_eq (by show j.val < 0 + 192; omega) (congrArg (· + 192) (h2 rfl).symm)⟩
  · rw [dif_neg, if_neg ht]
    intro h
    have ha : n ≤ t.val := le_of_eq_of_le (h0 rfl).symm (h 0).1
    have hb : t.val < n + 1 := lt_of_lt_of_eq (h 0).2 (congrArg (· + 1) (h0 rfl))
    omega

theorem stAt_succ (A : Args) (hn : n < 1024) : stAt A (n + 1) = (newH A ⟨n, hn⟩ (stAt A n), newC A ⟨n, hn⟩ (stAt A n)) := by
  simp only [stAt]
  have e : (⟨n % 1024, by omega⟩ : Fin 1024) = ⟨n, hn⟩ := Fin.ext (Nat.mod_eq_of_lt hn)
  rw [e]

theorem step_ctr (I : Inv A V0 n) : STEP V0 (Proc.devRef .tc main_v82_10) = fun _ => BitVec.ofNat 32 (n + 1) := by
  refine (STEP_main_v82_10 V0).trans ?_
  unfold step_main_v82_10
  rw [I.ctr]
  funext i
  show BitVec.ofNat 32 n + 1#32 = BitVec.ofNat 32 (n + 1)
  rw [BitVec.ofNat_add]

theorem step_h (I : Inv A V0 n) (hn : n < 1024) (b : Fin 256) (j : Fin 192) :
    STEP V0 (Proc.devRef .tc main_v82_11) (ix2 b j) = ((stAt A (n + 1)).1 j b).setWidth 8 :=
  (congrFun (STEP_main_v82_11 V0) _).trans ((v347_at I hn b j).trans (congrArg (fun s : St => (s.1 j b).setWidth 8) (stAt_succ A hn).symm))

theorem step_c (I : Inv A V0 n) (hn : n < 1024) (b : Fin 256) (j : Fin 192) :
    STEP V0 (Proc.devRef .tc main_v82_12) (ix2 b j) = ((stAt A (n + 1)).2 j b).setWidth 16 := by
  have e : (stAt A (n + 1)).2 j b = newC A ⟨n, hn⟩ (stAt A n) j b := by rw [stAt_succ A hn]
  rw [e]
  refine (congrFun (STEP_main_v82_12 V0) _).trans ?_
  unfold step_main_v82_12
  rw [id_eq]
  exact v279_at I hn b j

theorem step_hs (I : Inv A V0 n) (hn : n < 1024) (t : Fin 1024) (b : Fin 256) (j : Fin 192) (ht : t.val < n + 1) :
    STEP V0 (Proc.devRef .tc main_v82_13) (ix3 t b j) = ((stAt A (t.val + 1)).1 j b).setWidth 8 := by
  refine (congrFun (STEP_main_v82_13 V0) _).trans ((rows_at I hn t b j).trans ?_)
  by_cases h : t.val = n
  · rw [if_pos h]
    have e : stAt A (t.val + 1) = (newH A ⟨n, hn⟩ (stAt A n), newC A ⟨n, hn⟩ (stAt A n)) := by
      rw [h]; exact stAt_succ A hn
    exact (congrArg (fun s : St => (s.1 j b).setWidth 8) e).symm
  · rw [if_neg h]
    exact I.hs t b j (by omega)

/-- One step keeps the contents described. -/
theorem inv_step {A : Args} {V0 : Valuation τ sig (Elt Ideal)} {n : ℕ} (I : Inv A V0 n) (hn : n < 1024) : Inv A (STEP V0) (n + 1) where
  xq := by rw [STEP_main_v82_0 V0]; exact I.xq
  wh := by rw [STEP_main_v82_1 V0]; exact I.wh
  hb := by rw [STEP_main_v82_2 V0]; exact I.hb
  sh := by rw [STEP_main_v82_3 V0]; exact I.sh
  mh := by rw [STEP_main_v82_4 V0]; exact I.mh
  sig := by rw [STEP_main_v82_5 V0]; exact I.sig
  tnh := by rw [STEP_main_v82_6 V0]; exact I.tnh
  s := by rw [STEP_main_v82_7 V0]; exact I.s
  m := by rw [STEP_main_v82_8 V0]; exact I.m
  zp := by rw [STEP_main_v82_9 V0]; exact I.zp
  ctr := step_ctr I
  h := step_h I hn
  c := step_c I hn
  hs := step_hs I hn

theorem inv_iter {A : Args} {V0 : Valuation τ sig (Elt Ideal)} (I : Inv A V0 0) (n : ℕ) (h : n ≤ 1024) : Inv A (STEP^[n] V0) n := by
  induction n with
  | zero => exact I
  | succ n ih =>
    rw [Function.iterate_succ_apply']
    exact inv_step (ih (Nat.le_of_succ_le h)) h

end Cert.ReferenceIdeal.Value

end

end
-- ==== Proof.RefValue.lean ====
/- What the reference leaves in its results. -/
module

public import proofs.«01_k».proof.Proof.RefEntry
public import proofs.«01_k».proof.Proof.RefStep

@[expose] public section

noncomputable section

namespace Cert.ReferenceIdeal.Value

open Idealize.ShloMosaic Idealize.ShloMosaic.StableHlo Cert.ReferenceIdeal.Gen Lstm

theorem trunc_ext8 (v : BitVec 8) : (v.signExtend 32).setWidth 8 = v := by
  apply BitVec.eq_of_getLsbD_eq
  intro i hi
  simp [BitVec.getLsbD_setWidth, BitVec.getLsbD_signExtend, hi]
  try omega
theorem trunc_ext16 (v : BitVec 16) : (v.signExtend 32).setWidth 16 = v := by
  apply BitVec.eq_of_getLsbD_eq
  intro i hi
  simp [BitVec.getLsbD_setWidth, BitVec.getLsbD_signExtend, hi]
  try omega

variable (m : (ℓ : Loc nD τ sig) → Buf (Elt Ideal) ℓ) (c : Dev nD)

theorem inv_entry : Inv (argsR m c) (entryContents preI m c) 0 where
  xq := entry0 m c
  wh := entry1 m c
  hb := entry2 m c
  sh := entry3 m c
  mh := entry4 m c
  sig := entry5 m c
  tnh := entry6 m c
  s := entry7 m c
  m := entry8 m c
  zp := entry9 m c
  ctr := ctr_entry m c
  h := fun b j => (congrFun (entry11 m c) (ix2 b j)).trans (trunc_ext8 _).symm
  c := fun b j => (congrFun (entry12 m c) (ix2 b j)).trans (trunc_ext16 _).symm
  hs := fun _ _ _ h => absurd h (Nat.not_lt_zero _)

/-- The hidden state after a step. -/
theorem final_h (b : Fin 256) (t : Fin 1024) (j : Fin 192) :
    out_main_v83 (STEP^[1024] (entryContents preI m c)) (ix3 b t j) = ((stAt (argsR m c) (t.val + 1)).1 j b).setWidth 8 := by
  have I := inv_iter (inv_entry m c) 1024 (le_refl _)
  generalize STEP^[1024] (entryContents preI m c) = V0 at I ⊢
  unfold out_main_v83
  pointwise
  exact I.hs t b j t.isLt

/-- The last cell state. -/
theorem final_c (b : Fin 256) (j : Fin 192) :
    (STEP^[1024] (entryContents preI m c)) (Proc.devRef .tc main_v82_12) (ix2 b j) = ((stAt (argsR m c) 1024).2 j b).setWidth 16 :=
  (inv_iter (inv_entry m c) 1024 (le_refl _)).c b j

end Cert.ReferenceIdeal.Value

end

end
-- ==== Proof.Algebra.lean ====
/- The kernel's results are the reference's. -/
module

public import proofs.«01_k».proof.Defs
public import proofs.«01_k».proof.Proof.KValue
public import proofs.«01_k».proof.Proof.RefValue
public import proofs.«01_k».proof.Proof.Gen.Pre_shifts_meet
public import Idealize.ShloMosaic.Lib.Quiescent

@[expose] public section

noncomputable section

namespace Cert.Proof

open Idealize.ShloMosaic Idealize.SL.Sem Lstm

/-- The precondition, of the layer's arguments. -/
theorem meets_of (m : (ℓ : Loc Cert.KernelIdeal.nD Cert.KernelIdeal.τ Cert.KernelIdeal.sig) → Buf (Elt Ideal) ℓ)
    (P : Cert.Pre_KernelIdeal_shifts_meet (hPre_shifts_meet := Cert.Pre_shifts_meet.Gen.facts) m) (c : Dev Cert.KernelIdeal.nD) :
    Meets (Cert.KernelIdeal.Gen.argsK m c) := by
  have ne : ∀ a : W, IntOp.cmpi .ne a 32#32 = 1#1 → a ≠ 32#32 := by
    rintro a h rfl
    exact absurd h (by decide)
  exact ⟨fun g j => ne _ (congrFun (P c).1 (ix2 g j)), fun g j => ne _ (congrFun (P c).2.1 (ix2 g j)), ne _ (congrFun (P c).2.2 ix0)⟩

section
variable (m : (ℓ : Loc Cert.ReferenceIdeal.nD Cert.ReferenceIdeal.τ Cert.ReferenceIdeal.sig) → Buf (Elt Ideal) ℓ) (c : Dev Cert.ReferenceIdeal.nD)

/-- The reference's first result is the layer's. -/
theorem ref_0 : Cert.ReferenceIdeal.Value.out_main_v83 (Cert.ReferenceIdeal.Value.STEP^[1024] (StableHlo.entryContents Cert.ReferenceIdeal.Value.preI m c))
    = Cert.KernelIdeal.Gen.result0 (Cert.ReferenceIdeal.Value.argsR m c) := by
  funext i
  obtain ⟨b, t, j, rfl⟩ : ∃ (b : Fin 256) (t : Fin 1024) (j : Fin 192), i = ix3 b t j :=
    ⟨i 0, i 1, i 2, by funext a; match a with | ⟨0, _⟩ => rfl | ⟨1, _⟩ => rfl | ⟨2, _⟩ => rfl⟩
  exact Cert.ReferenceIdeal.Value.final_h m c b t j

/-- The reference's second result is the layer's. -/
theorem ref_1 : (Cert.ReferenceIdeal.Value.STEP^[1024] (StableHlo.entryContents Cert.ReferenceIdeal.Value.preI m c)) (Proc.devRef .tc Cert.ReferenceIdeal.main_v82_12)
    = Cert.KernelIdeal.Gen.result1 (Cert.ReferenceIdeal.Value.argsR m c) := by
  funext i
  obtain ⟨b, j, rfl⟩ : ∃ (b : Fin 256) (j : Fin 192), i = ix2 b j :=
    ⟨i 0, i 1, by funext a; match a with | ⟨0, _⟩ => rfl | ⟨1, _⟩ => rfl⟩
  have h := Cert.ReferenceIdeal.Value.final_c m c b j
  unfold Cert.KernelIdeal.Gen.result1
  generalize stAt (Cert.ReferenceIdeal.Value.argsR m c) 1024 = q at h ⊢
  exact h

end

/-- The reference's frame. -/
theorem frame_r : Cert.quiescent_ReferenceIdeal (hReferenceIdeal := Cert.ReferenceIdeal.Gen.facts) := fun m ρ _ =>
  (θ_run (Cert.ReferenceIdeal.defs (F := Ideal)) _ _).mono
    (fun r h => And.intro (fun c => (h c).2.2) (sem_eq_zero_of_no_sems (by decide) r.2))
    (Cert.ReferenceIdeal.Value.run (F := Ideal) m ρ)

/-- The two programs agree. -/
theorem algebraic : Cert.algebraic_KernelIdeal_ReferenceIdeal_pre_shifts_meet (hKernelIdeal := Cert.KernelIdeal.Gen.facts)
    (hReferenceIdeal := Cert.ReferenceIdeal.Gen.facts) (hPre_shifts_meet := Cert.Pre_shifts_meet.Gen.facts) := by
  intro m g m' g' P hm
  have M := meets_of m P
  have hA : ∀ c, Cert.ReferenceIdeal.Value.argsR m' c = Cert.KernelIdeal.Gen.argsK m c := fun c =>
    (Lstm.Args.mk.injEq ..).mpr (hm c)
  refine ⟨fun c => Cert.KernelIdeal.Gen.result0 (Cert.KernelIdeal.Gen.argsK m c), fun c => Cert.KernelIdeal.Gen.result1 (Cert.KernelIdeal.Gen.argsK m c), ?_, ?_⟩
  · exact (θ_run (Cert.KernelIdeal.defs (F := Ideal)) _ _).mono (fun r h c => ⟨(h.1 c).1, (h.1 c).2, h.2 c⟩)
      (θ_run_and (Cert.KernelIdeal.Gen.run_value m g M) (Cert.KernelIdeal.Gen.unchanged m g))
  · refine (θ_run (Cert.ReferenceIdeal.defs (F := Ideal)) _ _).mono (fun r h c => ⟨(h c).1.trans ?_, (h c).2.1.trans ?_, (h c).2.2⟩)
      (Cert.ReferenceIdeal.Value.run (F := Ideal) m' g')
    · rw [ref_0, hA c]
    · rw [ref_1, hA c]

end Cert.Proof

end
-- ==== Proof.lean ====
module

public import proofs.«01_k».proof.Defs
public import proofs.«01_k».proof.Proof.Gen.Kernel
public import proofs.«01_k».proof.Proof.Gen.KernelIdeal
public import proofs.«01_k».proof.Proof.RunKernel
public import proofs.«01_k».proof.Proof.RunKernelIdeal
public import proofs.«01_k».proof.Proof.Gen.ReferenceIdeal
public import proofs.«01_k».proof.Proof.Gen.ReferenceIdeal.Run
public import proofs.«01_k».proof.Proof.Gen.Pre_shifts_meet
public import proofs.«01_k».proof.Proof.Algebra

public import Idealize.ShloMosaic.Adequacy
public import Idealize.ShloMosaic.Init

@[expose] public section

noncomputable section

namespace Cert.Proof

open Idealize.ShloMosaic Idealize.SL.Sem Cert.Kernel

/-- The claim: the frames of the kernel, of its ideal form and of the reference, that the kernel's ideal form is its idealization, and that it computes
    what the reference does where the precondition holds. -/
theorem claim : Cert.Claim := ⟨Cert.Kernel.Gen.facts, Cert.KernelIdeal.Gen.facts, Cert.ReferenceIdeal.Gen.facts, Cert.Pre_shifts_meet.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic⟩

end Cert.Proof

end
